-- ==== Defs.lean ====
def Pre_Kernel [hPre_tokens_ok : Cert.Pre_tokens_ok.Facts] (m : (ℓ : Loc Cert.Kernel.nD Cert.Kernel.τ Cert.Kernel.sig) → Buf (Elt Bits) ℓ) : Prop :=
  ∀ c : Dev Cert.Kernel.nD,
    (Cert.Pre_tokens_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_tokens_ok : Cert.Pre_tokens_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_tokens_ok : Cert.Pre_tokens_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_tokens_ok : Cert.Pre_tokens_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tokens_ok : Cert.Pre_tokens_ok.Facts) (hPre_inputs_ok : Cert.Pre_inputs_ok.Facts),
    quiescent_Kernel (hKernel := hKernel) (hPre_tokens_ok := hPre_tokens_ok)
    ∧ quiescent_KernelIdeal (hKernelIdeal := hKernelIdeal) (hPre_tokens_ok := hPre_tokens_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16x50 : Shape := ⟨2, ![16, 50]⟩
abbrev S2x16x256 : Shape := ⟨3, ![2, 16, 256]⟩
abbrev S100000x64 : Shape := ⟨2, ![100000, 64]⟩
abbrev S1024x64 : Shape := ⟨2, ![1024, 64]⟩
abbrev S1024x256 : Shape := ⟨2, ![1024, 256]⟩
abbrev S1024 : Shape := ⟨1, ![1024]⟩
abbrev S100000x256 : Shape := ⟨2, ![100000, 256]⟩
abbrev S100000 : Shape := ⟨1, ![100000]⟩
abbrev S_ : Shape := ⟨0, ![]⟩

class Facts : Prop where
  bcast_S_S16x50 : S_.BroadcastsInDim S16x50 (![] : Fin 0 → Fin S16x50.rank)
  reducesTo_S16x50_S_d0_1 : S16x50.ReducesTo [0, 1] S_
  h_S_ : 0 < S_.numel
  bcast_S_S2x16x256 : S_.BroadcastsInDim S2x16x256 (![] : Fin 0 → Fin S2x16x256.rank)
  reducesTo_S2x16x256_S_d0_1_2 : S2x16x256.ReducesTo [0, 1, 2] S_
  bcast_S_S100000x64 : S_.BroadcastsInDim S100000x64 (![] : Fin 0 → Fin S100000x64.rank)
  reducesTo_S100000x64_S_d0_1 : S100000x64.ReducesTo [0, 1] S_
  bcast_S_S1024x64 : S_.BroadcastsInDim S1024x64 (![] : Fin 0 → Fin S1024x64.rank)
  reducesTo_S1024x64_S_d0_1 : S1024x64.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_v30 : IVec S_ 1) (main_v33 : IVec S1024x256 1) : IVec S_ 1 :=
  let main_c_12 : IVec S_ 1 := constantI S_ 1 1#1
  let main_v34 : IVec S_ 1 := (fun x v => Host.reduce IntOp.andi x v reducesTo_S1024x256_S_d0_1 h_S_) main_v33 main_c_12
  let main_v35 : IVec S_ 1 := andi main_v30 main_v34
  main_v35

def fn_part1 {F : FTy → Type} [FloatOps F] (main_arg5 : FVec F S1024x256 .f32) (main_arg8 : FVec F S1024x256 .f32) (main_arg9 : FVec F S1024x256 .f32) (main_v15 : IVec S_ 1) (main_v16 : FVec F S1024x64 .f32) : IVec S_ 1 :=
  let main_cst_5 : FVec F S_ .f32 := constant S_ .f32 0x7F800000#32
  let main_v17 : FVec F S1024x64 .f32 := broadcastInDim S1024x64 ![] bcast_S_S1024x64 main_cst_5
  let main_v18 : IVec S1024x64 1 := cmpf .olt main_v16 main_v17
  let main_c_6 : IVec S_ 1 := constantI S_ 1 1#1
  let main_v19 : IVec S_ 1 := (fun x v => Host.reduce IntOp.andi x v reducesTo_S1024x64_S_d0_1 h_S_) main_v18 main_c_6
  let main_v20 : IVec S_ 1 := andi main_v15 main_v19
  let main_v21 : FVec F S1024x256 .f32 := Host.absf main_arg5
  let main_cst_7 : FVec F S_ .f32 := constant S_ .f32 0x7F800000#32
  let main_v22 : FVec F S1024x256 .f32 := broadcastInDim S1024x256 ![] bcast_S_S1024x256 main_cst_7
  let main_v23 : IVec S1024x256 1 := cmpf .olt main_v21 main_v22
  let main_c_8 : IVec S_ 1 := constantI S_ 1 1#1
  let main_v24 : IVec S_ 1 := (fun x v => Host.reduce IntOp.andi x v reducesTo_S1024x256_S_d0_1 h_S_) main_v23 main_c_8
  let main_v25 : IVec S_ 1 := andi main_v20 main_v24
  let main_v26 : FVec F S1024x256 .f32 := Host.absf main_arg8
  let main_cst_9 : FVec F S_ .f32 := constant S_ .f32 0x7F800000#32
  let main_v27 : FVec F S1024x256 .f32 := broadcastInDim S1024x256 ![] bcast_S_S1024x256 main_cst_9
  let main_v28 : IVec S1024x256 1 := cmpf .olt main_v26 main_v27
  let main_c_10 : IVec S_ 1 := constantI S_ 1 1#1
  let main_v29 : IVec S_ 1 := (fun x v => Host.reduce IntOp.andi x v reducesTo_S1024x256_S_d0_1 h_S_) main_v28 main_c_10
  let main_v30 : IVec S_ 1 := andi main_v25 main_v29
  let main_v31 : FVec F S1024x256 .f32 := Host.absf main_arg9
  let main_cst_11 : FVec F S_ .f32 := constant S_ .f32 0x7F800000#32
  let main_v32 : FVec F S1024x256 .f32 := broadcastInDim S1024x256 ![] bcast_S_S1024x256 main_cst_11
  let main_v33 : IVec S1024x256 1 := cmpf .olt main_v31 main_v32
  fn_part2 (F := F) main_v30 main_v33

def fn {F : FTy → Type} [FloatOps F] (main_arg0 : IVec S16x50 32) (main_arg1 : FVec F S2x16x256 .f32) (main_arg2 : FVec F S2x16x256 .f32) (main_arg3 : FVec F S100000x64 .f32) (main_arg4 : FVec F S1024x64 .f32) (main_arg5 : FVec F S1024x256 .f32) (main_arg6 : FVec F S1024 .f32) (main_arg7 : FVec F S1024 .f32) (main_arg8 : FVec F S1024x256 .f32) (main_arg9 : FVec F S1024x256 .f32) (main_arg10 : FVec F S1024 .f32) (main_arg11 : FVec F S1024 .f32) (main_arg12 : FVec F S100000x256 .f32) (main_arg13 : FVec F S100000 .f32) : IVec S_ 1 :=
  let main_c : IVec S_ 32 := constantI S_ 32 0#32
  let main_v0 : IVec S16x50 32 := broadcastInDim S16x50 ![] bcast_S_S16x50 main_c
  let main_v1 : IVec S16x50 1 := cmpi .sge main_arg0 main_v0
  let main_c_0 : IVec S_ 32 := constantI S_ 32 100000#32
  let main_v2 : IVec S16x50 32 := broadcastInDim S16x50 ![] bcast_S_S16x50 main_c_0
  let main_v3 : IVec S16x50 1 := cmpi .slt main_arg0 main_v2
  let main_v4 : IVec S16x50 1 := andi main_v1 main_v3
  let main_c_1 : IVec S_ 1 := constantI S_ 1 1#1
  let main_v5 : IVec S_ 1 := (fun x v => Host.reduce IntOp.andi x v reducesTo_S16x50_S_d0_1 h_S_) main_v4 main_c_1
  let main_v6 : FVec F S2x16x256 .f32 := Host.absf main_arg1
  let main_cst : FVec F S_ .f32 := constant S_ .f32 0x7F800000#32
  let main_v7 : FVec F S2x16x256 .f32 := broadcastInDim S2x16x256 ![] bcast_S_S2x16x256 main_cst
  let main_v8 : IVec S2x16x256 1 := cmpf .olt main_v6 main_v7
  let main_c_2 : IVec S_ 1 := constantI S_ 1 1#1
  let main_v9 : IVec S_ 1 := (fun x v => Host.reduce IntOp.andi x v reducesTo_S2x16x256_S_d0_1_2 h_S_) main_v8 main_c_2
  let main_v10 : IVec S_ 1 := andi main_v5 main_v9
  let main_v11 : FVec F S100000x64 .f32 := Host.absf main_arg3
  let main_cst_3 : FVec F S_ .f32 := constant S_ .f32 0x7F800000#32
  let main_v12 : FVec F S100000x64 .f32 := broadcastInDim S100000x64 ![] bcast_S_S100000x64 main_cst_3
  let main_v13 : IVec S100000x64 1 := cmpf .olt main_v11 main_v12
  let main_c_4 : IVec S_ 1 := constantI S_ 1 1#1
  let main_v14 : IVec S_ 1 := (fun x v => Host.reduce IntOp.andi x v reducesTo_S100000x64_S_d0_1 h_S_) main_v13 main_c_4
  let main_v15 : IVec S_ 1 := andi main_v10 main_v14
  let main_v16 : FVec F S1024x64 .f32 := Host.absf main_arg4
  fn_part1 (F := F) main_arg5 main_arg8 main_arg9 main_v15 main_v16
-- ==== Pre_tokens_ok.lean ====
abbrev S16x50 : Shape := ⟨2, ![16, 50]⟩
abbrev S2x16x256 : Shape := ⟨3, ![2, 16, 256]⟩
abbrev S100000x64 : Shape := ⟨2, ![100000, 64]⟩
abbrev S1024x64 : Shape := ⟨2, ![1024, 64]⟩
abbrev S1024x256 : Shape := ⟨2, ![1024, 256]⟩
abbrev S1024 : Shape := ⟨1, ![1024]⟩
abbrev S100000x256 : Shape := ⟨2, ![100000, 256]⟩
abbrev S100000 : Shape := ⟨1, ![100000]⟩
abbrev S_ : Shape := ⟨0, ![]⟩

class Facts : Prop where
  bcast_S_S16x50 : S_.BroadcastsInDim S16x50 (![] : Fin 0 → Fin S16x50.rank)
  reducesTo_S16x50_S_d0_1 : S16x50.ReducesTo [0, 1] S_
  h_S_ : 0 < S_.numel

variable [Facts]

def fn {F : FTy → Type} [FloatOps F] (main_arg0 : IVec S16x50 32) (main_arg1 : FVec F S2x16x256 .f32) (main_arg2 : FVec F S2x16x256 .f32) (main_arg3 : FVec F S100000x64 .f32) (main_arg4 : FVec F S1024x64 .f32) (main_arg5 : FVec F S1024x256 .f32) (main_arg6 : FVec F S1024 .f32) (main_arg7 : FVec F S1024 .f32) (main_arg8 : FVec F S1024x256 .f32) (main_arg9 : FVec F S1024x256 .f32) (main_arg10 : FVec F S1024 .f32) (main_arg11 : FVec F S1024 .f32) (main_arg12 : FVec F S100000x256 .f32) (main_arg13 : FVec F S100000 .f32) : IVec S_ 1 :=
  let main_c : IVec S_ 32 := constantI S_ 32 0#32
  let main_v0 : IVec S16x50 32 := broadcastInDim S16x50 ![] bcast_S_S16x50 main_c
  let main_v1 : IVec S16x50 1 := cmpi .sge main_arg0 main_v0
  let main_c_0 : IVec S_ 32 := constantI S_ 32 100000#32
  let main_v2 : IVec S16x50 32 := broadcastInDim S16x50 ![] bcast_S_S16x50 main_c_0
  let main_v3 : IVec S16x50 1 := cmpi .slt main_arg0 main_v2
  let main_v4 : IVec S16x50 1 := andi main_v1 main_v3
  let main_c_1 : IVec S_ 1 := constantI S_ 1 1#1
  let main_v5 : IVec S_ 1 := (fun x v => Host.reduce IntOp.andi x v reducesTo_S16x50_S_d0_1 h_S_) main_v4 main_c_1
  main_v5
-- ==== Kernel.lean ====
abbrev S16x50 : Shape := ⟨2, ![16, 50]⟩
abbrev S2x16x256 : Shape := ⟨3, ![2, 16, 256]⟩
abbrev S100000x64 : Shape := ⟨2, ![100000, 64]⟩
abbrev S1024x64 : Shape := ⟨2, ![1024, 64]⟩
abbrev S1024x256 : Shape := ⟨2, ![1024, 256]⟩
abbrev S1024 : Shape := ⟨1, ![1024]⟩
abbrev S100000x256 : Shape := ⟨2, ![100000, 256]⟩
abbrev S100000 : Shape := ⟨1, ![100000]⟩
abbrev S50x16 : Shape := ⟨2, ![50, 16]⟩
abbrev S800 : Shape := ⟨1, ![800]⟩
abbrev S_ : Shape := ⟨0, ![]⟩
abbrev S96 : Shape := ⟨1, ![96]⟩
abbrev S896 : Shape := ⟨1, ![896]⟩
abbrev S800x64 : Shape := ⟨2, ![800, 64]⟩
abbrev S1 : Shape := ⟨1, ![1]⟩
abbrev S1x64 : Shape := ⟨2, ![1, 64]⟩
abbrev S1x1024 : Shape := ⟨2, ![1, 1024]⟩
abbrev S64x1024 : Shape := ⟨2, ![64, 1024]⟩
abbrev S256x1024 : Shape := ⟨2, ![256, 1024]⟩
abbrev S1x100000 : Shape := ⟨2, ![1, 100000]⟩
abbrev S800x100000 : Shape := ⟨2, ![800, 100000]⟩
abbrev S4096x256 : Shape := ⟨2, ![4096, 256]⟩
abbrev S1x4096 : Shape := ⟨2, ![1, 4096]⟩
abbrev S800x4096 : Shape := ⟨2, ![800, 4096]⟩
abbrev S800x1024 : Shape := ⟨2, ![800, 1024]⟩
abbrev S800x256 : Shape := ⟨2, ![800, 256]⟩
abbrev S1x16x256 : Shape := ⟨3, ![1, 16, 256]⟩
abbrev S16x256 : Shape := ⟨2, ![16, 256]⟩
abbrev S16x1024 : Shape := ⟨2, ![16, 1024]⟩
abbrev S50x16x256 : Shape := ⟨3, ![50, 16, 256]⟩
abbrev S16x50x256 : Shape := ⟨3, ![16, 50, 256]⟩

abbrev nBuf : Table → Nat
  | .hbm => 48
  | .local .tc .vmem => 24
  | .local .scScalar .smem => 1
  | _ => 0

abbrev bufTy : (tb : Table) → Fin (nBuf tb) → BufTy
  | .hbm, ⟨0, _⟩ => ⟨S16x50, .i32⟩
  | .hbm, ⟨1, _⟩ => ⟨S2x16x256, .f32⟩
  | .hbm, ⟨2, _⟩ => ⟨S2x16x256, .f32⟩
  | .hbm, ⟨3, _⟩ => ⟨S100000x64, .f32⟩
  | .hbm, ⟨4, _⟩ => ⟨S1024x64, .f32⟩
  | .hbm, ⟨5, _⟩ => ⟨S1024x256, .f32⟩
  | .hbm, ⟨6, _⟩ => ⟨S1024, .f32⟩
  | .hbm, ⟨7, _⟩ => ⟨S1024, .f32⟩
  | .hbm, ⟨8, _⟩ => ⟨S1024x256, .f32⟩
  | .hbm, ⟨9, _⟩ => ⟨S1024x256, .f32⟩
  | .hbm, ⟨10, _⟩ => ⟨S1024, .f32⟩
  | .hbm, ⟨11, _⟩ => ⟨S1024, .f32⟩
  | .hbm, ⟨12, _⟩ => ⟨S100000x256, .f32⟩
  | .hbm, ⟨13, _⟩ => ⟨S100000, .f32⟩
  | .hbm, ⟨14, _⟩ => ⟨S50x16, .i32⟩
  | .hbm, ⟨15, _⟩ => ⟨S800, .i32⟩
  | .hbm, ⟨16, _⟩ => ⟨S_, .i32⟩
  | .hbm, ⟨17, _⟩ => ⟨S96, .i32⟩
  | .hbm, ⟨18, _⟩ => ⟨S896, .i32⟩
  | .hbm, ⟨19, _⟩ => ⟨S800x64, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S64x1024, .f32⟩
  | .hbm, ⟨25, _⟩ => ⟨S64x1024, .bf16⟩
  | .hbm, ⟨26, _⟩ => ⟨S64x1024, .f32⟩
  | .hbm, ⟨27, _⟩ => ⟨S64x1024, .f32⟩
  | .hbm, ⟨28, _⟩ => ⟨S64x1024, .bf16⟩
  | .hbm, ⟨29, _⟩ => ⟨S256x1024, .f32⟩
  | .hbm, ⟨30, _⟩ => ⟨S256x1024, .bf16⟩
  | .hbm, ⟨31, _⟩ => ⟨S256x1024, .f32⟩
  | .hbm, ⟨32, _⟩ => ⟨S256x1024, .f32⟩
  | .hbm, ⟨33, _⟩ => ⟨S256x1024, .bf16⟩
  | .hbm, ⟨34, _⟩ => ⟨S256x1024, .f32⟩
  | .hbm, ⟨35, _⟩ => ⟨S256x1024, .bf16⟩
  | .hbm, ⟨36, _⟩ => ⟨S256x1024, .f32⟩
  | .hbm, ⟨37, _⟩ => ⟨S256x1024, .f32⟩
  | .hbm, ⟨38, _⟩ => ⟨S256x1024, .bf16⟩
  | .hbm, ⟨39, _⟩ => ⟨S256x1024, .f32⟩
  | .hbm, ⟨40, _⟩ => ⟨S256x1024, .bf16⟩
  | .hbm, ⟨41, _⟩ => ⟨S256x1024, .f32⟩
  | .hbm, ⟨42, _⟩ => ⟨S256x1024, .f32⟩
  | .hbm, ⟨43, _⟩ => ⟨S256x1024, .bf16⟩
  | .hbm, ⟨44, _⟩ => ⟨S1x100000, .f32⟩
  | .hbm, ⟨45, _⟩ => ⟨S800x100000, .f32⟩
  | .hbm, ⟨46, _⟩ => ⟨S2x16x256, .f32⟩
  | .hbm, ⟨47, _⟩ => ⟨S2x16x256, .f32⟩
  | .local .tc .vmem, ⟨0, _⟩ => ⟨S800x64, .f32⟩
  | .local .tc .vmem, ⟨1, _⟩ => ⟨S64x1024, .bf16⟩
  | .local .tc .vmem, ⟨2, _⟩ => ⟨S64x1024, .bf16⟩
  | .local .tc .vmem, ⟨3, _⟩ => ⟨S256x1024, .bf16⟩
  | .local .tc .vmem, ⟨4, _⟩ => ⟨S256x1024, .bf16⟩
  | .local .tc .vmem, ⟨5, _⟩ => ⟨S1x1024, .f32⟩
  | .local .tc .vmem, ⟨6, _⟩ => ⟨S256x1024, .bf16⟩
  | .local .tc .vmem, ⟨7, _⟩ => ⟨S256x1024, .bf16⟩
  | .local .tc .vmem, ⟨8, _⟩ => ⟨S256x1024, .bf16⟩
  | .local .tc .vmem, ⟨9, _⟩ => ⟨S256x1024, .bf16⟩
  | .local .tc .vmem, ⟨10, _⟩ => ⟨S1x1024, .f32⟩
  | .local .tc .vmem, ⟨11, _⟩ => ⟨S2x16x256, .f32⟩
  | .local .tc .vmem, ⟨12, _⟩ => ⟨S2x16x256, .f32⟩
  | .local .tc .vmem, ⟨13, _⟩ => ⟨S4096x256, .f32⟩
  | .local .tc .vmem, ⟨14, _⟩ => ⟨S4096x256, .f32⟩
  | .local .tc .vmem, ⟨15, _⟩ => ⟨S1x4096, .f32⟩
  | .local .tc .vmem, ⟨16, _⟩ => ⟨S1x4096, .f32⟩
  | .local .tc .vmem, ⟨17, _⟩ => ⟨S800x4096, .f32⟩
  | .local .tc .vmem, ⟨18, _⟩ => ⟨S800x4096, .f32⟩
  | .local .tc .vmem, ⟨19, _⟩ => ⟨S2x16x256, .f32⟩
  | .local .tc .vmem, ⟨20, _⟩ => ⟨S2x16x256, .f32⟩
  | .local .tc .vmem, ⟨21, _⟩ => ⟨S800x1024, .f32⟩
  | .local .tc .vmem, ⟨22, _⟩ => ⟨S800x256, .f32⟩
  | .local .tc .vmem, ⟨23, _⟩ => ⟨S800x256, .f32⟩
  | .local .scScalar .smem, ⟨0, _⟩ => ⟨S896, .i32⟩
  | _, _ => ⟨S16x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v30_2 : Ref sig .tc := ⟨.hbm, 47, rfl⟩
abbrev main_arg3_scs : Ref sig .scScalar := ⟨.hbm, 3, rfl⟩
abbrev main_v3_scs : Ref sig .scScalar := ⟨.hbm, 18, rfl⟩
abbrev main_v4_scs : Ref sig .scScalar := ⟨.hbm, 19, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg13_1 : Ref sig .tc := ⟨.vmem, 14, rfl⟩
abbrev cc1_stg14_0 : Ref sig .tc := ⟨.vmem, 15, rfl⟩
abbrev cc1_stg14_1 : Ref sig .tc := ⟨.vmem, 16, rfl⟩
abbrev cc1_stg15_0 : Ref sig .tc := ⟨.vmem, 17, rfl⟩
abbrev cc1_stg15_1 : Ref sig .tc := ⟨.vmem, 18, rfl⟩
abbrev cc1_stg16_0 : Ref sig .tc := ⟨.vmem, 19, rfl⟩
abbrev cc1_stg17_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_scratch0 : Ref sig .scScalar := ⟨.smem, 0, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc1_sem10_0 : DmaSem sig := 13
abbrev cc1_sem11_0 : DmaSem sig := 14
abbrev cc1_sem12_0 : DmaSem sig := 15
abbrev cc1_sem13_0 : DmaSem sig := 16
abbrev cc1_sem13_1 : DmaSem sig := 17
abbrev cc1_sem14_0 : DmaSem sig := 18
abbrev cc1_sem14_1 : DmaSem sig := 19
abbrev cc1_sem15_0 : DmaSem sig := 20
abbrev cc1_sem15_1 : DmaSem sig := 21
abbrev cc1_sem16_0 : DmaSem sig := 22
abbrev cc1_sem17_0 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let c400_i32 : BitVec 32 := 400#32
  let v0 : BitVec 32 := Scalar.muli arg0 c400_i32
  let c0_i32 : BitVec 32 := 0#32
  let v1 : BitVec 32 := Scalar.addi v0 c0_i32
  let c0_i32_0 : BitVec 32 := 0#32
  let v2 : BitVec 32 := Scalar.addi v1 c0_i32_0
  let v3 : Index := Scalar.indexCast v2
  ![v3.toNat]
def k0_off2 (i : grid0.Coords) : Fin 2 → Nat :=
  let arg0 : BitVec 32 := BitVec.ofNat 32 (i 0).val
  let c400_i32 : BitVec 32 := 400#32
  let v0 : BitVec 32 := Scalar.muli arg0 c400_i32
  let c0_i32_1 : BitVec 32 := 0#32
  let v5 : BitVec 32 := Scalar.addi v0 c0_i32_1
  let c0_i32_2 : BitVec 32 := 0#32
  let v6 : BitVec 32 := Scalar.addi v5 c0_i32_2
  let c0_i32_3 : BitVec 32 := 0#32
  ![v6.toNat, 0]
def k0_off3 (v4 : BitVec 32) : Fin 2 → Nat :=
  let c0_i32_4 : BitVec 32 := 0#32
  ![v4.toNat, 0]

def k0_chk1 (v4 : BitVec 32) : Prop :=
  (∀ a, (k0_off3 v4) a + S1x64.size a ≤ S100000x64.size a)
theorem k0_off3_inb : ∀ (v4 : BitVec 32) (k0_hw1 : k0_chk1 v4), ∀ a, (k0_off3 v4) a + S1x64.size a ≤ S100000x64.size a := fun v4 k0_hw1 => k0_hw1

def k0_off4 (i : grid0.Coords) : Fin 1 → Nat :=
  let arg0 : BitVec 32 := BitVec.ofNat 32 (i 0).val
  let c400_i32 : BitVec 32 := 400#32
  let v0 : BitVec 32 := Scalar.muli arg0 c400_i32
  let c0_i32_5 : BitVec 32 := 0#32
  let v9 : BitVec 32 := Scalar.addi v0 c0_i32_5
  let c1_i32 : BitVec 32 := 1#32
  let v10 : BitVec 32 := Scalar.addi v9 c1_i32
  let v11 : Index := Scalar.indexCast v10
  ![v11.toNat]
def k0_off5 (i : grid0.Coords) : Fin 2 → Nat :=
  let arg0 : BitVec 32 := BitVec.ofNat 32 (i 0).val
  let c400_i32 : BitVec 32 := 400#32
  let v0 : BitVec 32 := Scalar.muli arg0 c400_i32
  let c0_i32_6 : BitVec 32 := 0#32
  let v13 : BitVec 32 := Scalar.addi v0 c0_i32_6
  let c1_i32_7 : BitVec 32 := 1#32
  let v14 : BitVec 32 := Scalar.addi v13 c1_i32_7
  let c0_i32_8 : BitVec 32 := 0#32
  ![v14.toNat, 0]
def k0_off6 (v12 : BitVec 32) : Fin 2 → Nat :=
  let c0_i32_9 : BitVec 32 := 0#32
  ![v12.toNat, 0]

def k0_chk2 (v12 : BitVec 32) : Prop :=
  (∀ a, (k0_off6 v12) a + S1x64.size a ≤ S100000x64.size a)
theorem k0_off6_inb : ∀ (v12 : BitVec 32) (k0_hw2 : k0_chk2 v12), ∀ a, (k0_off6 v12) a + S1x64.size a ≤ S100000x64.size a := fun v12 k0_hw2 => k0_hw2

def k0_off7 (i : grid0.Coords) : Fin 1 → Nat :=
  let arg0 : BitVec 32 := BitVec.ofNat 32 (i 0).val
  let c400_i32 : BitVec 32 := 400#32
  let v0 : BitVec 32 := Scalar.muli arg0 c400_i32
  let c0_i32_10 : BitVec 32 := 0#32
  let v17 : BitVec 32 := Scalar.addi v0 c0_i32_10
  let c2_i32 : BitVec 32 := 2#32
  let v18 : BitVec 32 := Scalar.addi v17 c2_i32
  let v19 : Index := Scalar.indexCast v18
  ![v19.toNat]
def k0_off8 (i : grid0.Coords) : Fin 2 → Nat :=
  let arg0 : BitVec 32 := BitVec.ofNat 32 (i 0).val
  let c400_i32 : BitVec 32 := 400#32
  let v0 : BitVec 32 := Scalar.muli arg0 c400_i32
  let c0_i32_11 : BitVec 32 := 0#32
  let v21 : BitVec 32 := Scalar.addi v0 c0_i32_11
  let c2_i32_12 : BitVec 32 := 2#32
  let v22 : BitVec 32 := Scalar.addi v21 c2_i32_12
  let c0_i32_13 : BitVec 32 := 0#32
  ![v22.toNat, 0]
def k0_off9 (v20 : BitVec 32) : Fin 2 → Nat :=
  let c0_i32_14 : BitVec 32 := 0#32
  ![v20.toNat, 0]

def k0_chk3 (v20 : BitVec 32) : Prop :=
  (∀ a, (k0_off9 v20) a + S1x64.size a ≤ S100000x64.size a)
theorem k0_off9_inb : ∀ (v20 : BitVec 32) (k0_hw3 : k0_chk3 v20), ∀ a, (k0_off9 v20) a + S1x64.size a ≤ S100000x64.size a := fun v20 k0_hw3 => k0_hw3

def k0_off10 (i : grid0.Coords) : Fin 1 → Nat :=
  let arg0 : BitVec 32 := BitVec.ofNat 32 (i 0).val
  let c400_i32 : BitVec 32 := 400#32
  let v0 : BitVec 32 := Scalar.muli arg0 c400_i32
  let c0_i32_15 : BitVec 32 := 0#32
  let v25 : BitVec 32 := Scalar.addi v0 c0_i32_15
  let c3_i32 : BitVec 32 := 3#32
  let v26 : BitVec 32 := Scalar.addi v25 c3_i32
  let v27 : Index := Scalar.indexCast v26
  ![v27.toNat]
def k0_off11 (i : grid0.Coords) : Fin 2 → Nat :=
  let arg0 : BitVec 32 := BitVec.ofNat 32 (i 0).val
  let c400_i32 : BitVec 32 := 400#32
  let v0 : BitVec 32 := Scalar.muli arg0 c400_i32
  let c0_i32_16 : BitVec 32 := 0#32
  let v29 : BitVec 32 := Scalar.addi v0 c0_i32_16
  let c3_i32_17 : BitVec 32 := 3#32
  let v30 : BitVec 32 := Scalar.addi v29 c3_i32_17
  let c0_i32_18 : BitVec 32 := 0#32
  ![v30.toNat, 0]
def k0_off12 (v28 : BitVec 32) : Fin 2 → Nat :=
  let c0_i32_19 : BitVec 32 := 0#32
  ![v28.toNat, 0]

def k0_chk4 (v28 : BitVec 32) : Prop :=
  (∀ a, (k0_off12 v28) a + S1x64.size a ≤ S100000x64.size a)
theorem k0_off12_inb : ∀ (v28 : BitVec 32) (k0_hw4 : k0_chk4 v28), ∀ a, (k0_off12 v28) a + S1x64.size a ≤ S100000x64.size a := fun v28 k0_hw4 => k0_hw4

def k0_off13 (i : grid0.Coords) : Fin 1 → Nat :=
  let arg0 : BitVec 32 := BitVec.ofNat 32 (i 0).val
  let c400_i32 : BitVec 32 := 400#32
  let v0 : BitVec 32 := Scalar.muli arg0 c400_i32
  let c0_i32_20 : BitVec 32 := 0#32
  let v33 : BitVec 32 := Scalar.addi v0 c0_i32_20
  let c4_i32 : BitVec 32 := 4#32
  let v34 : BitVec 32 := Scalar.addi v33 c4_i32
  let v35 : Index := Scalar.indexCast v34
  ![v35.toNat]
def k0_off14 (i : grid0.Coords) : Fin 2 → Nat :=
  let arg0 : BitVec 32 := BitVec.ofNat 32 (i 0).val
  let c400_i32 : BitVec 32 := 400#32
  let v0 : BitVec 32 := Scalar.muli arg0 c400_i32
  let c0_i32_21 : BitVec 32 := 0#32
  let v37 : BitVec 32 := Scalar.addi v0 c0_i32_21
  let c4_i32_22 : BitVec 32 := 4#32
  let v38 : BitVec 32 := Scalar.addi v37 c4_i32_22
  let c0_i32_23 : BitVec 32 := 0#32
  ![v38.toNat, 0]
def k0_off15 (v36 : BitVec 32) : Fin 2 → Nat :=
  let c0_i32_24 : BitVec 32 := 0#32
  ![v36.toNat, 0]

def k0_chk5 (v36 : BitVec 32) : Prop :=
  (∀ a, (k0_off15 v36) a + S1x64.size a ≤ S100000x64.size a)
theorem k0_off15_inb : ∀ (v36 : BitVec 32) (k0_hw5 : k0_chk5 v36), ∀ a, (k0_off15 v36) a + S1x64.size a ≤ S100000x64.size a := fun v36 k0_hw5 => k0_hw5

def k0_off16 (i : grid0.Coords) : Fin 1 → Nat :=
  let arg0 : BitVec 32 := BitVec.ofNat 32 (i 0).val
  let c400_i32 : BitVec 32 := 400#32
  let v0 : BitVec 32 := Scalar.muli arg0 c400_i32
  let c0_i32_25 : BitVec 32 := 0#32
  let v41 : BitVec 32 := Scalar.addi v0 c0_i32_25
  let c5_i32 : BitVec 32 := 5#32
  let v42 : BitVec 32 := Scalar.addi v41 c5_i32
  let v43 : Index := Scalar.indexCast v42
  ![v43.toNat]
def k0_off17 (i : grid0.Coords) : Fin 2 → Nat :=
  let arg0 : BitVec 32 := BitVec.ofNat 32 (i 0).val
  let c400_i32 : BitVec 32 := 400#32
  let v0 : BitVec 32 := Scalar.muli arg0 c400_i32
  let c0_i32_26 : BitVec 32 := 0#32
  let v45 : BitVec 32 := Scalar.addi v0 c0_i32_26
  let c5_i32_27 : BitVec 32 := 5#32
  let v46 : BitVec 32 := Scalar.addi v45 c5_i32_27
  let c0_i32_28 : BitVec 32 := 0#32
  ![v46.toNat, 0]
def k0_off18 (v44 : BitVec 32) : Fin 2 → Nat :=
  let c0_i32_29 : BitVec 32 := 0#32
  ![v44.toNat, 0]

def k0_chk6 (v44 : BitVec 32) : Prop :=
  (∀ a, (k0_off18 v44) a + S1x64.size a ≤ S100000x64.size a)
theorem k0_off18_inb : ∀ (v44 : BitVec 32) (k0_hw6 : k0_chk6 v44), ∀ a, (k0_off18 v44) a + S1x64.size a ≤ S100000x64.size a := fun v44 k0_hw6 => k0_hw6

def k0_off19 (i : grid0.Coords) : Fin 1 → Nat :=
  let arg0 : BitVec 32 := BitVec.ofNat 32 (i 0).val
  let c400_i32 : BitVec 32 := 400#32
  let v0 : BitVec 32 := Scalar.muli arg0 c400_i32
  let c0_i32_30 : BitVec 32 := 0#32
  let v49 : BitVec 32 := Scalar.addi v0 c0_i32_30
  let c6_i32 : BitVec 32 := 6#32
  let v50 : BitVec 32 := Scalar.addi v49 c6_i32
  let v51 : Index := Scalar.indexCast v50
  ![v51.toNat]
def k0_off20 (i : grid0.Coords) : Fin 2 → Nat :=
  let arg0 : BitVec 32 := BitVec.ofNat 32 (i 0).val
  let c400_i32 : BitVec 32 := 400#32
  let v0 : BitVec 32 := Scalar.muli arg0 c400_i32
  let c0_i32_31 : BitVec 32 := 0#32
  let v53 : BitVec 32 := Scalar.addi v0 c0_i32_31
  let c6_i32_32 : BitVec 32 := 6#32
  let v54 : BitVec 32 := Scalar.addi v53 c6_i32_32
  let c0_i32_33 : BitVec 32 := 0#32
  ![v54.toNat, 0]
def k0_off21 (v52 : BitVec 32) : Fin 2 → Nat :=
  let c0_i32_34 : BitVec 32 := 0#32
  ![v52.toNat, 0]

def k0_chk7 (v52 : BitVec 32) : Prop :=
  (∀ a, (k0_off21 v52) a + S1x64.size a ≤ S100000x64.size a)
theorem k0_off21_inb : ∀ (v52 : BitVec 32) (k0_hw7 : k0_chk7 v52), ∀ a, (k0_off21 v52) a + S1x64.size a ≤ S100000x64.size a := fun v52 k0_hw7 => k0_hw7

def k0_off22 (i : grid0.Coords) : Fin 1 → Nat :=
  let arg0 : BitVec 32 := BitVec.ofNat 32 (i 0).val
  let c400_i32 : BitVec 32 := 400#32
  let v0 : BitVec 32 := Scalar.muli arg0 c400_i32
  let c0_i32_35 : BitVec 32 := 0#32
  let v57 : BitVec 32 := Scalar.addi v0 c0_i32_35
  let c7_i32 : BitVec 32 := 7#32
  let v58 : BitVec 32 := Scalar.addi v57 c7_i32
  let v59 : Index := Scalar.indexCast v58
  ![v59.toNat]
def k0_off23 (i : grid0.Coords) : Fin 2 → Nat :=
  let arg0 : BitVec 32 := BitVec.ofNat 32 (i 0).val
  let c400_i32 : BitVec 32 := 400#32
  let v0 : BitVec 32 := Scalar.muli arg0 c400_i32
  let c0_i32_36 : BitVec 32 := 0#32
  let v61 : BitVec 32 := Scalar.addi v0 c0_i32_36
  let c7_i32_37 : BitVec 32 := 7#32
  let v62 : BitVec 32 := Scalar.addi v61 c7_i32_37
  let c0_i32_38 : BitVec 32 := 0#32
  ![v62.toNat, 0]
def k0_off24 (v60 : BitVec 32) : Fin 2 → Nat :=
  let c0_i32_39 : BitVec 32 := 0#32
  ![v60.toNat, 0]

def k0_chk8 (v60 : BitVec 32) : Prop :=
  (∀ a, (k0_off24 v60) a + S1x64.size a ≤ S100000x64.size a)
theorem k0_off24_inb : ∀ (v60 : BitVec 32) (k0_hw8 : k0_chk8 v60), ∀ a, (k0_off24 v60) a + S1x64.size a ≤ S100000x64.size a := fun v60 k0_hw8 => k0_hw8

def k0_off25 (i : grid0.Coords) : Fin 1 → Nat :=
  let arg0 : BitVec 32 := BitVec.ofNat 32 (i 0).val
  let c400_i32 : BitVec 32 := 400#32
  let v0 : BitVec 32 := Scalar.muli arg0 c400_i32
  let c0_i32_40 : BitVec 32 := 0#32
  let v65 : BitVec 32 := Scalar.addi v0 c0_i32_40
  let c8_i32 : BitVec 32 := 8#32
  let v66 : BitVec 32 := Scalar.addi v65 c8_i32
  let v67 : Index := Scalar.indexCast v66
  ![v67.toNat]
def k0_off26 (i : grid0.Coords) : Fin 2 → Nat :=
  let arg0 : BitVec 32 := BitVec.ofNat 32 (i 0).val
  let c400_i32 : BitVec 32 := 400#32
  let v0 : BitVec 32 := Scalar.muli arg0 c400_i32
  let c0_i32_41 : BitVec 32 := 0#32
  let v69 : BitVec 32 := Scalar.addi v0 c0_i32_41
  let c8_i32_42 : BitVec 32 := 8#32
  let v70 : BitVec 32 := Scalar.addi v69 c8_i32_42
  let c0_i32_43 : BitVec 32 := 0#32
  ![v70.toNat, 0]
def k0_off27 (v68 : BitVec 32) : Fin 2 → Nat :=
  let c0_i32_44 : BitVec 32 := 0#32
  ![v68.toNat, 0]

def k0_chk9 (v68 : BitVec 32) : Prop :=
  (∀ a, (k0_off27 v68) a + S1x64.size a ≤ S100000x64.size a)
theorem k0_off27_inb : ∀ (v68 : BitVec 32) (k0_hw9 : k0_chk9 v68), ∀ a, (k0_off27 v68) a + S1x64.size a ≤ S100000x64.size a := fun v68 k0_hw9 => k0_hw9

def k0_off28 (i : grid0.Coords) : Fin 1 → Nat :=
  let arg0 : BitVec 32 := BitVec.ofNat 32 (i 0).val
  let c400_i32 : BitVec 32 := 400#32
  let v0 : BitVec 32 := Scalar.muli arg0 c400_i32
  let c0_i32_45 : BitVec 32 := 0#32
  let v73 : BitVec 32 := Scalar.addi v0 c0_i32_45
  let c9_i32 : BitVec 32 := 9#32
  let v74 : BitVec 32 := Scalar.addi v73 c9_i32
  let v75 : Index := Scalar.indexCast v74
  ![v75.toNat]
def k0_off29 (i : grid0.Coords) : Fin 2 → Nat :=
  let arg0 : BitVec 32 := BitVec.ofNat 32 (i 0).val
  let c400_i32 : BitVec 32 := 400#32
  let v0 : BitVec 32 := Scalar.muli arg0 c400_i32
  let c0_i32_46 : BitVec 32 := 0#32
  let v77 : BitVec 32 := Scalar.addi v0 c0_i32_46
  let c9_i32_47 : BitVec 32 := 9#32
  let v78 : BitVec 32 := Scalar.addi v77 c9_i32_47
  let c0_i32_48 : BitVec 32 := 0#32
  ![v78.toNat, 0]
def k0_off30 (v76 : BitVec 32) : Fin 2 → Nat :=
  let c0_i32_49 : BitVec 32 := 0#32
  ![v76.toNat, 0]

def k0_chk10 (v76 : BitVec 32) : Prop :=
  (∀ a, (k0_off30 v76) a + S1x64.size a ≤ S100000x64.size a)
theorem k0_off30_inb : ∀ (v76 : BitVec 32) (k0_hw10 : k0_chk10 v76), ∀ a, (k0_off30 v76) a + S1x64.size a ≤ S100000x64.size a := fun v76 k0_hw10 => k0_hw10

def k0_off31 (i : grid0.Coords) : Fin 1 → Nat :=
  let arg0 : BitVec 32 := BitVec.ofNat 32 (i 0).val
  let c400_i32 : BitVec 32 := 400#32
  let v0 : BitVec 32 := Scalar.muli arg0 c400_i32
  let c0_i32_50 : BitVec 32 := 0#32
  let v81 : BitVec 32 := Scalar.addi v0 c0_i32_50
  let c10_i32 : BitVec 32 := 10#32
  let v82 : BitVec 32 := Scalar.addi v81 c10_i32
  let v83 : Index := Scalar.indexCast v82
  ![v83.toNat]
def k0_off32 (i : grid0.Coords) : Fin 2 → Nat :=
  let arg0 : BitVec 32 := BitVec.ofNat 32 (i 0).val
  let c400_i32 : BitVec 32 := 400#32
  let v0 : BitVec 32 := Scalar.muli arg0 c400_i32
  let c0_i32_51 : BitVec 32 := 0#32
  let v85 : BitVec 32 := Scalar.addi v0 c0_i32_51
  let c10_i32_52 : BitVec 32 := 10#32
  let v86 : BitVec 32 := Scalar.addi v85 c10_i32_52
  let c0_i32_53 : BitVec 32 := 0#32
  ![v86.toNat, 0]
def k0_off33 (v84 : BitVec 32) : Fin 2 → Nat :=
  let c0_i32_54 : BitVec 32 := 0#32
  ![v84.toNat, 0]

def k0_chk11 (v84 : BitVec 32) : Prop :=
  (∀ a, (k0_off33 v84) a + S1x64.size a ≤ S100000x64.size a)
theorem k0_off33_inb : ∀ (v84 : BitVec 32) (k0_hw11 : k0_chk11 v84), ∀ a, (k0_off33 v84) a + S1x64.size a ≤ S100000x64.size a := fun v84 k0_hw11 => k0_hw11

def k0_off34 (i : grid0.Coords) : Fin 1 → Nat :=
  let arg0 : BitVec 32 := BitVec.ofNat 32 (i 0).val
  let c400_i32 : BitVec 32 := 400#32
  let v0 : BitVec 32 := Scalar.muli arg0 c400_i32
  let c0_i32_55 : BitVec 32 := 0#32
  let v89 : BitVec 32 := Scalar.addi v0 c0_i32_55
  let c11_i32 : BitVec 32 := 11#32
  let v90 : BitVec 32 := Scalar.addi v89 c11_i32
  let v91 : Index := Scalar.indexCast v90
  ![v91.toNat]
def k0_off35 (i : grid0.Coords) : Fin 2 → Nat :=
  let arg0 : BitVec 32 := BitVec.ofNat 32 (i 0).val
  let c400_i32 : BitVec 32 := 400#32
  let v0 : BitVec 32 := Scalar.muli arg0 c400_i32
  let c0_i32_56 : BitVec 32 := 0#32
  let v93 : BitVec 32 := Scalar.addi v0 c0_i32_56
  let c11_i32_57 : BitVec 32 := 11#32
  let v94 : BitVec 32 := Scalar.addi v93 c11_i32_57
  let c0_i32_58 : BitVec 32 := 0#32
  ![v94.toNat, 0]
def k0_off36 (v92 : BitVec 32) : Fin 2 → Nat :=
  let c0_i32_59 : BitVec 32 := 0#32
  ![v92.toNat, 0]

def k0_chk12 (v92 : BitVec 32) : Prop :=
  (∀ a, (k0_off36 v92) a + S1x64.size a ≤ S100000x64.size a)
theorem k0_off36_inb : ∀ (v92 : BitVec 32) (k0_hw12 : k0_chk12 v92), ∀ a, (k0_off36 v92) a + S1x64.size a ≤ S100000x64.size a := fun v92 k0_hw12 => k0_hw12

def k0_off37 (i : grid0.Coords) : Fin 1 → Nat :=
  let arg0 : BitVec 32 := BitVec.ofNat 32 (i 0).val
  let c400_i32 : BitVec 32 := 400#32
  let v0 : BitVec 32 := Scalar.muli arg0 c400_i32
  let c0_i32_60 : BitVec 32 := 0#32
  let v97 : BitVec 32 := Scalar.addi v0 c0_i32_60
  let c12_i32 : BitVec 32 := 12#32
  let v98 : BitVec 32 := Scalar.addi v97 c12_i32
  let v99 : Index := Scalar.indexCast v98
  ![v99.toNat]
def k0_off38 (i : grid0.Coords) : Fin 2 → Nat :=
  let arg0 : BitVec 32 := BitVec.ofNat 32 (i 0).val
  let c400_i32 : BitVec 32 := 400#32
  let v0 : BitVec 32 := Scalar.muli arg0 c400_i32
  let c0_i32_61 : BitVec 32 := 0#32
  let v101 : BitVec 32 := Scalar.addi v0 c0_i32_61
  let c12_i32_62 : BitVec 32 := 12#32
  let v102 : BitVec 32 := Scalar.addi v101 c12_i32_62
  let c0_i32_63 : BitVec 32 := 0#32
  ![v102.toNat, 0]
def k0_off39 (v100 : BitVec 32) : Fin 2 → Nat :=
  let c0_i32_64 : BitVec 32 := 0#32
  ![v100.toNat, 0]

def k0_chk13 (v100 : BitVec 32) : Prop :=
  (∀ a, (k0_off39 v100) a + S1x64.size a ≤ S100000x64.size a)
theorem k0_off39_inb : ∀ (v100 : BitVec 32) (k0_hw13 : k0_chk13 v100), ∀ a, (k0_off39 v100) a + S1x64.size a ≤ S100000x64.size a := fun v100 k0_hw13 => k0_hw13

def k0_off40 (i : grid0.Coords) : Fin 1 → Nat :=
  let arg0 : BitVec 32 := BitVec.ofNat 32 (i 0).val
  let c400_i32 : BitVec 32 := 400#32
  let v0 : BitVec 32 := Scalar.muli arg0 c400_i32
  let c0_i32_65 : BitVec 32 := 0#32
  let v105 : BitVec 32 := Scalar.addi v0 c0_i32_65
  let c13_i32 : BitVec 32 := 13#32
  let v106 : BitVec 32 := Scalar.addi v105 c13_i32
  let v107 : Index := Scalar.indexCast v106
  ![v107.toNat]
def k0_off41 (i : grid0.Coords) : Fin 2 → Nat :=
  let arg0 : BitVec 32 := BitVec.ofNat 32 (i 0).val
  let c400_i32 : BitVec 32 := 400#32
  let v0 : BitVec 32 := Scalar.muli arg0 c400_i32
  let c0_i32_66 : BitVec 32 := 0#32
  let v109 : BitVec 32 := Scalar.addi v0 c0_i32_66
  let c13_i32_67 : BitVec 32 := 13#32
  let v110 : BitVec 32 := Scalar.addi v109 c13_i32_67
  let c0_i32_68 : BitVec 32 := 0#32
  ![v110.toNat, 0]
def k0_off42 (v108 : BitVec 32) : Fin 2 → Nat :=
  let c0_i32_69 : BitVec 32 := 0#32
  ![v108.toNat, 0]

def k0_chk14 (v108 : BitVec 32) : Prop :=
  (∀ a, (k0_off42 v108) a + S1x64.size a ≤ S100000x64.size a)
theorem k0_off42_inb : ∀ (v108 : BitVec 32) (k0_hw14 : k0_chk14 v108), ∀ a, (k0_off42 v108) a + S1x64.size a ≤ S100000x64.size a := fun v108 k0_hw14 => k0_hw14

def k0_off43 (i : grid0.Coords) : Fin 1 → Nat :=
  let arg0 : BitVec 32 := BitVec.ofNat 32 (i 0).val
  let c400_i32 : BitVec 32 := 400#32
  let v0 : BitVec 32 := Scalar.muli arg0 c400_i32
  let c0_i32_70 : BitVec 32 := 0#32
  let v113 : BitVec 32 := Scalar.addi v0 c0_i32_70
  let c14_i32 : BitVec 32 := 14#32
  let v114 : BitVec 32 := Scalar.addi v113 c14_i32
  let v115 : Index := Scalar.indexCast v114
  ![v115.toNat]
def k0_off44 (i : grid0.Coords) : Fin 2 → Nat :=
  let arg0 : BitVec 32 := BitVec.ofNat 32 (i 0).val
  let c400_i32 : BitVec 32 := 400#32
  let v0 : BitVec 32 := Scalar.muli arg0 c400_i32
  let c0_i32_71 : BitVec 32 := 0#32
  let v117 : BitVec 32 := Scalar.addi v0 c0_i32_71
  let c14_i32_72 : BitVec 32 := 14#32
  let v118 : BitVec 32 := Scalar.addi v117 c14_i32_72
  let c0_i32_73 : BitVec 32 := 0#32
  ![v118.toNat, 0]
def k0_off45 (v116 : BitVec 32) : Fin 2 → Nat :=
  let c0_i32_74 : BitVec 32 := 0#32
  ![v116.toNat, 0]

def k0_chk15 (v116 : BitVec 32) : Prop :=
  (∀ a, (k0_off45 v116) a + S1x64.size a ≤ S100000x64.size a)
theorem k0_off45_inb : ∀ (v116 : BitVec 32) (k0_hw15 : k0_chk15 v116), ∀ a, (k0_off45 v116) a + S1x64.size a ≤ S100000x64.size a := fun v116 k0_hw15 => k0_hw15

def k0_off46 (i : grid0.Coords) : Fin 1 → Nat :=
  let arg0 : BitVec 32 := BitVec.ofNat 32 (i 0).val
  let c400_i32 : BitVec 32 := 400#32
  let v0 : BitVec 32 := Scalar.muli arg0 c400_i32
  let c0_i32_75 : BitVec 32 := 0#32
  let v121 : BitVec 32 := Scalar.addi v0 c0_i32_75
  let c15_i32 : BitVec 32 := 15#32
  let v122 : BitVec 32 := Scalar.addi v121 c15_i32
  let v123 : Index := Scalar.indexCast v122
  ![v123.toNat]
def k0_off47 (i : grid0.Coords) : Fin 2 → Nat :=
  let arg0 : BitVec 32 := BitVec.ofNat 32 (i 0).val
  let c400_i32 : BitVec 32 := 400#32
  let v0 : BitVec 32 := Scalar.muli arg0 c400_i32
  let c0_i32_76 : BitVec 32 := 0#32
  let v125 : BitVec 32 := Scalar.addi v0 c0_i32_76
  let c15_i32_77 : BitVec 32 := 15#32
  let v126 : BitVec 32 := Scalar.addi v125 c15_i32_77
  let c0_i32_78 : BitVec 32 := 0#32
  ![v126.toNat, 0]
def k0_off48 (v124 : BitVec 32) : Fin 2 → Nat :=
  let c0_i32_79 : BitVec 32 := 0#32
  ![v124.toNat, 0]

def k0_chk16 (v124 : BitVec 32) : Prop :=
  (∀ a, (k0_off48 v124) a + S1x64.size a ≤ S100000x64.size a)
theorem k0_off48_inb : ∀ (v124 : BitVec 32) (k0_hw16 : k0_chk16 v124), ∀ a, (k0_off48 v124) a + S1x64.size a ≤ S100000x64.size a := fun v124 k0_hw16 => k0_hw16

def k0_off49 (i : grid0.Coords) : Fin 1 → Nat :=
  let arg0 : BitVec 32 := BitVec.ofNat 32 (i 0).val
  let c400_i32 : BitVec 32 := 400#32
  let v0 : BitVec 32 := Scalar.muli arg0 c400_i32
  let c16_i32 : BitVec 32 := 16#32
  let v129 : BitVec 32 := Scalar.addi v0 c16_i32
  let c0_i32_80 : BitVec 32 := 0#32
  let v130 : BitVec 32 := Scalar.addi v129 c0_i32_80
  let v131 : Index := Scalar.indexCast v130
  ![v131.toNat]
def k0_off50 (i : grid0.Coords) : Fin 2 → Nat :=
  let arg0 : BitVec 32 := BitVec.ofNat 32 (i 0).val
  let c400_i32 : BitVec 32 := 400#32
  let v0 : BitVec 32 := Scalar.muli arg0 c400_i32
  let c16_i32_81 : BitVec 32 := 16#32
  let v133 : BitVec 32 := Scalar.addi v0 c16_i32_81
  let c0_i32_82 : BitVec 32 := 0#32
  let v134 : BitVec 32 := Scalar.addi v133 c0_i32_82
  let c0_i32_83 : BitVec 32 := 0#32
  ![v134.toNat, 0]
def k0_off51 (v132 : BitVec 32) : Fin 2 → Nat :=
  let c0_i32_84 : BitVec 32 := 0#32
  ![v132.toNat, 0]

def k0_chk17 (v132 : BitVec 32) : Prop :=
  (∀ a, (k0_off51 v132) a + S1x64.size a ≤ S100000x64.size a)
theorem k0_off51_inb : ∀ (v132 : BitVec 32) (k0_hw17 : k0_chk17 v132), ∀ a, (k0_off51 v132) a + S1x64.size a ≤ S100000x64.size a := fun v132 k0_hw17 => k0_hw17

def k0_off52 (i : grid0.Coords) : Fin 1 → Nat :=
  let arg0 : BitVec 32 := BitVec.ofNat 32 (i 0).val
  let c400_i32 : BitVec 32 := 400#32
  let v0 : BitVec 32 := Scalar.muli arg0 c400_i32
  let c16_i32_85 : BitVec 32 := 16#32
  let v137 : BitVec 32 := Scalar.addi v0 c16_i32_85
  let c1_i32_86 : BitVec 32 := 1#32
  let v138 : BitVec 32 := Scalar.addi v137 c1_i32_86
  let v139 : Index := Scalar.indexCast v138
  ![v139.toNat]
def k0_off53 (i : grid0.Coords) : Fin 2 → Nat :=
  let arg0 : BitVec 32 := BitVec.ofNat 32 (i 0).val
  let c400_i32 : BitVec 32 := 400#32
  let v0 : BitVec 32 := Scalar.muli arg0 c400_i32
  let c16_i32_87 : BitVec 32 := 16#32
  let v141 : BitVec 32 := Scalar.addi v0 c16_i32_87
  let c1_i32_88 : BitVec 32 := 1#32
  let v142 : BitVec 32 := Scalar.addi v141 c1_i32_88
  let c0_i32_89 : BitVec 32 := 0#32
  ![v142.toNat, 0]
def k0_off54 (v140 : BitVec 32) : Fin 2 → Nat :=
  let c0_i32_90 : BitVec 32 := 0#32
  ![v140.toNat, 0]

def k0_chk18 (v140 : BitVec 32) : Prop :=
  (∀ a, (k0_off54 v140) a + S1x64.size a ≤ S100000x64.size a)
theorem k0_off54_inb : ∀ (v140 : BitVec 32) (k0_hw18 : k0_chk18 v140), ∀ a, (k0_off54 v140) a + S1x64.size a ≤ S100000x64.size a := fun v140 k0_hw18 => k0_hw18

def k0_off55 (i : grid0.Coords) : Fin 1 → Nat :=
  let arg0 : BitVec 32 := BitVec.ofNat 32 (i 0).val
  let c400_i32 : BitVec 32 := 400#32
  let v0 : BitVec 32 := Scalar.muli arg0 c400_i32
  let c16_i32_91 : BitVec 32 := 16#32
  let v145 : BitVec 32 := Scalar.addi v0 c16_i32_91
  let c2_i32_92 : BitVec 32 := 2#32
  let v146 : BitVec 32 := Scalar.addi v145 c2_i32_92
  let v147 : Index := Scalar.indexCast v146
  ![v147.toNat]
def k0_off56 (i : grid0.Coords) : Fin 2 → Nat :=
  let arg0 : BitVec 32 := BitVec.ofNat 32 (i 0).val
  let c400_i32 : BitVec 32 := 400#32
  let v0 : BitVec 32 := Scalar.muli arg0 c400_i32
  let c16_i32_93 : BitVec 32 := 16#32
  let v149 : BitVec 32 := Scalar.addi v0 c16_i32_93
  let c2_i32_94 : BitVec 32 := 2#32
  let v150 : BitVec 32 := Scalar.addi v149 c2_i32_94
  let c0_i32_95 : BitVec 32 := 0#32
  ![v150.toNat, 0]
def k0_off57 (v148 : BitVec 32) : Fin 2 → Nat :=
  let c0_i32_96 : BitVec 32 := 0#32
  ![v148.toNat, 0]

def k0_chk19 (v148 : BitVec 32) : Prop :=
  (∀ a, (k0_off57 v148) a + S1x64.size a ≤ S100000x64.size a)
theorem k0_off57_inb : ∀ (v148 : BitVec 32) (k0_hw19 : k0_chk19 v148), ∀ a, (k0_off57 v148) a + S1x64.size a ≤ S100000x64.size a := fun v148 k0_hw19 => k0_hw19

def k0_off58 (i : grid0.Coords) : Fin 1 → Nat :=
  let arg0 : BitVec 32 := BitVec.ofNat 32 (i 0).val
  let c400_i32 : BitVec 32 := 400#32
  let v0 : BitVec 32 := Scalar.muli arg0 c400_i32
  let c16_i32_97 : BitVec 32 := 16#32
  let v153 : BitVec 32 := Scalar.addi v0 c16_i32_97
  let c3_i32_98 : BitVec 32 := 3#32
  let v154 : BitVec 32 := Scalar.addi v153 c3_i32_98
  let v155 : Index := Scalar.indexCast v154
  ![v155.toNat]
def k0_off59 (i : grid0.Coords) : Fin 2 → Nat :=
  let arg0 : BitVec 32 := BitVec.ofNat 32 (i 0).val
  let c400_i32 : BitVec 32 := 400#32
  let v0 : BitVec 32 := Scalar.muli arg0 c400_i32
  let c16_i32_99 : BitVec 32 := 16#32
  let v157 : BitVec 32 := Scalar.addi v0 c16_i32_99
  let c3_i32_100 : BitVec 32 := 3#32
  let v158 : BitVec 32 := Scalar.addi v157 c3_i32_100
  let c0_i32_101 : BitVec 32 := 0#32
  ![v158.toNat, 0]
def k0_off60 (v156 : BitVec 32) : Fin 2 → Nat :=
  let c0_i32_102 : BitVec 32 := 0#32
  ![v156.toNat, 0]

def k0_chk20 (v156 : BitVec 32) : Prop :=
  (∀ a, (k0_off60 v156) a + S1x64.size a ≤ S100000x64.size a)
theorem k0_off60_inb : ∀ (v156 : BitVec 32) (k0_hw20 : k0_chk20 v156), ∀ a, (k0_off60 v156) a + S1x64.size a ≤ S100000x64.size a := fun v156 k0_hw20 => k0_hw20

def k0_off61 (i : grid0.Coords) : Fin 1 → Nat :=
  let arg0 : BitVec 32 := BitVec.ofNat 32 (i 0).val
  let c400_i32 : BitVec 32 := 400#32
  let v0 : BitVec 32 := Scalar.muli arg0 c400_i32
  let c16_i32_103 : BitVec 32 := 16#32
  let v161 : BitVec 32 := Scalar.addi v0 c16_i32_103
  let c4_i32_104 : BitVec 32 := 4#32
  let v162 : BitVec 32 := Scalar.addi v161 c4_i32_104
  let v163 : Index := Scalar.indexCast v162
  ![v163.toNat]
def k0_off62 (i : grid0.Coords) : Fin 2 → Nat :=
  let arg0 : BitVec 32 := BitVec.ofNat 32 (i 0).val
  let c400_i32 : BitVec 32 := 400#32
  let v0 : BitVec 32 := Scalar.muli arg0 c400_i32
  let c16_i32_105 : BitVec 32 := 16#32
  let v165 : BitVec 32 := Scalar.addi v0 c16_i32_105
  let c4_i32_106 : BitVec 32 := 4#32
  let v166 : BitVec 32 := Scalar.addi v165 c4_i32_106
  let c0_i32_107 : BitVec 32 := 0#32
  ![v166.toNat, 0]
def k0_off63 (v164 : BitVec 32) : Fin 2 → Nat :=
  let c0_i32_108 : BitVec 32 := 0#32
  ![v164.toNat, 0]

def k0_chk21 (v164 : BitVec 32) : Prop :=
  (∀ a, (k0_off63 v164) a + S1x64.size a ≤ S100000x64.size a)
theorem k0_off63_inb : ∀ (v164 : BitVec 32) (k0_hw21 : k0_chk21 v164), ∀ a, (k0_off63 v164) a + S1x64.size a ≤ S100000x64.size a := fun v164 k0_hw21 => k0_hw21

def k0_off64 (i : grid0.Coords) : Fin 1 → Nat :=
  let arg0 : BitVec 32 := BitVec.ofNat 32 (i 0).val
  let c400_i32 : BitVec 32 := 400#32
  let v0 : BitVec 32 := Scalar.muli arg0 c400_i32
  let c16_i32_109 : BitVec 32 := 16#32
  let v169 : BitVec 32 := Scalar.addi v0 c16_i32_109
  let c5_i32_110 : BitVec 32 := 5#32
  let v170 : BitVec 32 := Scalar.addi v169 c5_i32_110
  let v171 : Index := Scalar.indexCast v170
  ![v171.toNat]
def k0_off65 (i : grid0.Coords) : Fin 2 → Nat :=
  let arg0 : BitVec 32 := BitVec.ofNat 32 (i 0).val
  let c400_i32 : BitVec 32 := 400#32
  let v0 : BitVec 32 := Scalar.muli arg0 c400_i32
  let c16_i32_111 : BitVec 32 := 16#32
  let v173 : BitVec 32 := Scalar.addi v0 c16_i32_111
  let c5_i32_112 : BitVec 32 := 5#32
  let v174 : BitVec 32 := Scalar.addi v173 c5_i32_112
  let c0_i32_113 : BitVec 32 := 0#32
  ![v174.toNat, 0]
def k0_off66 (v172 : BitVec 32) : Fin 2 → Nat :=
  let c0_i32_114 : BitVec 32 := 0#32
  ![v172.toNat, 0]

def k0_chk22 (v172 : BitVec 32) : Prop :=
  (∀ a, (k0_off66 v172) a + S1x64.size a ≤ S100000x64.size a)
theorem k0_off66_inb : ∀ (v172 : BitVec 32) (k0_hw22 : k0_chk22 v172), ∀ a, (k0_off66 v172) a + S1x64.size a ≤ S100000x64.size a := fun v172 k0_hw22 => k0_hw22

def k0_off67 (i : grid0.Coords) : Fin 1 → Nat :=
  let arg0 : BitVec 32 := BitVec.ofNat 32 (i 0).val
  let c400_i32 : BitVec 32 := 400#32
  let v0 : BitVec 32 := Scalar.muli arg0 c400_i32
  let c16_i32_115 : BitVec 32 := 16#32
  let v177 : BitVec 32 := Scalar.addi v0 c16_i32_115
  let c6_i32_116 : BitVec 32 := 6#32
  let v178 : BitVec 32 := Scalar.addi v177 c6_i32_116
  let v179 : Index := Scalar.indexCast v178
  ![v179.toNat]
def k0_off68 (i : grid0.Coords) : Fin 2 → Nat :=
  let arg0 : BitVec 32 := BitVec.ofNat 32 (i 0).val
  let c400_i32 : BitVec 32 := 400#32
  let v0 : BitVec 32 := Scalar.muli arg0 c400_i32
  let c16_i32_117 : BitVec 32 := 16#32
  let v181 : BitVec 32 := Scalar.addi v0 c16_i32_117
  let c6_i32_118 : BitVec 32 := 6#32
  let v182 : BitVec 32 := Scalar.addi v181 c6_i32_118
  let c0_i32_119 : BitVec 32 := 0#32
  ![v182.toNat, 0]
def k0_off69 (v180 : BitVec 32) : Fin 2 → Nat :=
  let c0_i32_120 : BitVec 32 := 0#32
  ![v180.toNat, 0]

def k0_chk23 (v180 : BitVec 32) : Prop :=
  (∀ a, (k0_off69 v180) a + S1x64.size a ≤ S100000x64.size a)
theorem k0_off69_inb : ∀ (v180 : BitVec 32) (k0_hw23 : k0_chk23 v180), ∀ a, (k0_off69 v180) a + S1x64.size a ≤ S100000x64.size a := fun v180 k0_hw23 => k0_hw23

def k0_off70 (i : grid0.Coords) : Fin 1 → Nat :=
  let arg0 : BitVec 32 := BitVec.ofNat 32 (i 0).val
  let c400_i32 : BitVec 32 := 400#32
  let v0 : BitVec 32 := Scalar.muli arg0 c400_i32
  let c16_i32_121 : BitVec 32 := 16#32
  let v185 : BitVec 32 := Scalar.addi v0 c16_i32_121
  let c7_i32_122 : BitVec 32 := 7#32
  let v186 : BitVec 32 := Scalar.addi v185 c7_i32_122
  let v187 : Index := Scalar.indexCast v186
  ![v187.toNat]
def k0_off71 (i : grid0.Coords) : Fin 2 → Nat :=
  let arg0 : BitVec 32 := BitVec.ofNat 32 (i 0).val
  let c400_i32 : BitVec 32 := 400#32
  let v0 : BitVec 32 := Scalar.muli arg0 c400_i32
  let c16_i32_123 : BitVec 32 := 16#32
  let v189 : BitVec 32 := Scalar.addi v0 c16_i32_123
  let c7_i32_124 : BitVec 32 := 7#32
  let v190 : BitVec 32 := Scalar.addi v189 c7_i32_124
  let c0_i32_125 : BitVec 32 := 0#32
  ![v190.toNat, 0]
def k0_off72 (v188 : BitVec 32) : Fin 2 → Nat :=
  let c0_i32_126 : BitVec 32 := 0#32
  ![v188.toNat, 0]

def k0_chk24 (v188 : BitVec 32) : Prop :=
  (∀ a, (k0_off72 v188) a + S1x64.size a ≤ S100000x64.size a)
theorem k0_off72_inb : ∀ (v188 : BitVec 32) (k0_hw24 : k0_chk24 v188), ∀ a, (k0_off72 v188) a + S1x64.size a ≤ S100000x64.size a := fun v188 k0_hw24 => k0_hw24

def k0_off73 (i : grid0.Coords) : Fin 1 → Nat :=
  let arg0 : BitVec 32 := BitVec.ofNat 32 (i 0).val
  let c400_i32 : BitVec 32 := 400#32
  let v0 : BitVec 32 := Scalar.muli arg0 c400_i32
  let c16_i32_127 : BitVec 32 := 16#32
  let v193 : BitVec 32 := Scalar.addi v0 c16_i32_127
  let c8_i32_128 : BitVec 32 := 8#32
  let v194 : BitVec 32 := Scalar.addi v193 c8_i32_128
  let v195 : Index := Scalar.indexCast v194
  ![v195.toNat]
def k0_off74 (i : grid0.Coords) : Fin 2 → Nat :=
  let arg0 : BitVec 32 := BitVec.ofNat 32 (i 0).val
  let c400_i32 : BitVec 32 := 400#32
  let v0 : BitVec 32 := Scalar.muli arg0 c400_i32
  let c16_i32_129 : BitVec 32 := 16#32
  let v197 : BitVec 32 := Scalar.addi v0 c16_i32_129
  let c8_i32_130 : BitVec 32 := 8#32
  let v198 : BitVec 32 := Scalar.addi v197 c8_i32_130
  let c0_i32_131 : BitVec 32 := 0#32
  ![v198.toNat, 0]
def k0_off75 (v196 : BitVec 32) : Fin 2 → Nat :=
  let c0_i32_132 : BitVec 32 := 0#32
  ![v196.toNat, 0]

def k0_chk25 (v196 : BitVec 32) : Prop :=
  (∀ a, (k0_off75 v196) a + S1x64.size a ≤ S100000x64.size a)
theorem k0_off75_inb : ∀ (v196 : BitVec 32) (k0_hw25 : k0_chk25 v196), ∀ a, (k0_off75 v196) a + S1x64.size a ≤ S100000x64.size a := fun v196 k0_hw25 => k0_hw25

def k0_off76 (i : grid0.Coords) : Fin 1 → Nat :=
  let arg0 : BitVec 32 := BitVec.ofNat 32 (i 0).val
  let c400_i32 : BitVec 32 := 400#32
  let v0 : BitVec 32 := Scalar.muli arg0 c400_i32
  let c16_i32_133 : BitVec 32 := 16#32
  let v201 : BitVec 32 := Scalar.addi v0 c16_i32_133
  let c9_i32_134 : BitVec 32 := 9#32
  let v202 : BitVec 32 := Scalar.addi v201 c9_i32_134
  let v203 : Index := Scalar.indexCast v202
  ![v203.toNat]
def k0_off77 (i : grid0.Coords) : Fin 2 → Nat :=
  let arg0 : BitVec 32 := BitVec.ofNat 32 (i 0).val
  let c400_i32 : BitVec 32 := 400#32
  let v0 : BitVec 32 := Scalar.muli arg0 c400_i32
  let c16_i32_135 : BitVec 32 := 16#32
  let v205 : BitVec 32 := Scalar.addi v0 c16_i32_135
  let c9_i32_136 : BitVec 32 := 9#32
  let v206 : BitVec 32 := Scalar.addi v205 c9_i32_136
  let c0_i32_137 : BitVec 32 := 0#32
  ![v206.toNat, 0]
def k0_off78 (v204 : BitVec 32) : Fin 2 → Nat :=
  let c0_i32_138 : BitVec 32 := 0#32
  ![v204.toNat, 0]

def k0_chk26 (v204 : BitVec 32) : Prop :=
  (∀ a, (k0_off78 v204) a + S1x64.size a ≤ S100000x64.size a)
theorem k0_off78_inb : ∀ (v204 : BitVec 32) (k0_hw26 : k0_chk26 v204), ∀ a, (k0_off78 v204) a + S1x64.size a ≤ S100000x64.size a := fun v204 k0_hw26 => k0_hw26

def k0_off79 (i : grid0.Coords) : Fin 1 → Nat :=
  let arg0 : BitVec 32 := BitVec.ofNat 32 (i 0).val
  let c400_i32 : BitVec 32 := 400#32
  let v0 : BitVec 32 := Scalar.muli arg0 c400_i32
  let c16_i32_139 : BitVec 32 := 16#32
  let v209 : BitVec 32 := Scalar.addi v0 c16_i32_139
  let c10_i32_140 : BitVec 32 := 10#32
  let v210 : BitVec 32 := Scalar.addi v209 c10_i32_140
  let v211 : Index := Scalar.indexCast v210
  ![v211.toNat]
def k0_off80 (i : grid0.Coords) : Fin 2 → Nat :=
  let arg0 : BitVec 32 := BitVec.ofNat 32 (i 0).val
  let c400_i32 : BitVec 32 := 400#32
  let v0 : BitVec 32 := Scalar.muli arg0 c400_i32
  let c16_i32_141 : BitVec 32 := 16#32
  let v213 : BitVec 32 := Scalar.addi v0 c16_i32_141
  let c10_i32_142 : BitVec 32 := 10#32
  let v214 : BitVec 32 := Scalar.addi v213 c10_i32_142
  let c0_i32_143 : BitVec 32 := 0#32
  ![v214.toNat, 0]
def k0_off81 (v212 : BitVec 32) : Fin 2 → Nat :=
  let c0_i32_144 : BitVec 32 := 0#32
  ![v212.toNat, 0]

def k0_chk27 (v212 : BitVec 32) : Prop :=
  (∀ a, (k0_off81 v212) a + S1x64.size a ≤ S100000x64.size a)
theorem k0_off81_inb : ∀ (v212 : BitVec 32) (k0_hw27 : k0_chk27 v212), ∀ a, (k0_off81 v212) a + S1x64.size a ≤ S100000x64.size a := fun v212 k0_hw27 => k0_hw27

def k0_off82 (i : grid0.Coords) : Fin 1 → Nat :=
  let arg0 : BitVec 32 := BitVec.ofNat 32 (i 0).val
  let c400_i32 : BitVec 32 := 400#32
  let v0 : BitVec 32 := Scalar.muli arg0 c400_i32
  let c16_i32_145 : BitVec 32 := 16#32
  let v217 : BitVec 32 := Scalar.addi v0 c16_i32_145
  let c11_i32_146 : BitVec 32 := 11#32
  let v218 : BitVec 32 := Scalar.addi v217 c11_i32_146
  let v219 : Index := Scalar.indexCast v218
  ![v219.toNat]
def k0_off83 (i : grid0.Coords) : Fin 2 → Nat :=
  let arg0 : BitVec 32 := BitVec.ofNat 32 (i 0).val
  let c400_i32 : BitVec 32 := 400#32
  let v0 : BitVec 32 := Scalar.muli arg0 c400_i32
  let c16_i32_147 : BitVec 32 := 16#32
  let v221 : BitVec 32 := Scalar.addi v0 c16_i32_147
  let c11_i32_148 : BitVec 32 := 11#32
  let v222 : BitVec 32 := Scalar.addi v221 c11_i32_148
  let c0_i32_149 : BitVec 32 := 0#32
  ![v222.toNat, 0]
def k0_off84 (v220 : BitVec 32) : Fin 2 → Nat :=
  let c0_i32_150 : BitVec 32 := 0#32
  ![v220.toNat, 0]

def k0_chk28 (v220 : BitVec 32) : Prop :=
  (∀ a, (k0_off84 v220) a + S1x64.size a ≤ S100000x64.size a)
theorem k0_off84_inb : ∀ (v220 : BitVec 32) (k0_hw28 : k0_chk28 v220), ∀ a, (k0_off84 v220) a + S1x64.size a ≤ S100000x64.size a := fun v220 k0_hw28 => k0_hw28

def k0_off85 (i : grid0.Coords) : Fin 1 → Nat :=
  let arg0 : BitVec 32 := BitVec.ofNat 32 (i 0).val
  let c400_i32 : BitVec 32 := 400#32
  let v0 : BitVec 32 := Scalar.muli arg0 c400_i32
  let c16_i32_151 : BitVec 32 := 16#32
  let v225 : BitVec 32 := Scalar.addi v0 c16_i32_151
  let c12_i32_152 : BitVec 32 := 12#32
  let v226 : BitVec 32 := Scalar.addi v225 c12_i32_152
  let v227 : Index := Scalar.indexCast v226
  ![v227.toNat]
def k0_off86 (i : grid0.Coords) : Fin 2 → Nat :=
  let arg0 : BitVec 32 := BitVec.ofNat 32 (i 0).val
  let c400_i32 : BitVec 32 := 400#32
  let v0 : BitVec 32 := Scalar.muli arg0 c400_i32
  let c16_i32_153 : BitVec 32 := 16#32
  let v229 : BitVec 32 := Scalar.addi v0 c16_i32_153
  let c12_i32_154 : BitVec 32 := 12#32
  let v230 : BitVec 32 := Scalar.addi v229 c12_i32_154
  let c0_i32_155 : BitVec 32 := 0#32
  ![v230.toNat, 0]
def k0_off87 (v228 : BitVec 32) : Fin 2 → Nat :=
  let c0_i32_156 : BitVec 32 := 0#32
  ![v228.toNat, 0]

def k0_chk29 (v228 : BitVec 32) : Prop :=
  (∀ a, (k0_off87 v228) a + S1x64.size a ≤ S100000x64.size a)
theorem k0_off87_inb : ∀ (v228 : BitVec 32) (k0_hw29 : k0_chk29 v228), ∀ a, (k0_off87 v228) a + S1x64.size a ≤ S100000x64.size a := fun v228 k0_hw29 => k0_hw29

def k0_off88 (i : grid0.Coords) : Fin 1 → Nat :=
  let arg0 : BitVec 32 := BitVec.ofNat 32 (i 0).val
  let c400_i32 : BitVec 32 := 400#32
  let v0 : BitVec 32 := Scalar.muli arg0 c400_i32
  let c16_i32_157 : BitVec 32 := 16#32
  let v233 : BitVec 32 := Scalar.addi v0 c16_i32_157
  let c13_i32_158 : BitVec 32 := 13#32
  let v234 : BitVec 32 := Scalar.addi v233 c13_i32_158
  let v235 : Index := Scalar.indexCast v234
  ![v235.toNat]
def k0_off89 (i : grid0.Coords) : Fin 2 → Nat :=
  let arg0 : BitVec 32 := BitVec.ofNat 32 (i 0).val
  let c400_i32 : BitVec 32 := 400#32
  let v0 : BitVec 32 := Scalar.muli arg0 c400_i32
  let c16_i32_159 : BitVec 32 := 16#32
  let v237 : BitVec 32 := Scalar.addi v0 c16_i32_159
  let c13_i32_160 : BitVec 32 := 13#32
  let v238 : BitVec 32 := Scalar.addi v237 c13_i32_160
  let c0_i32_161 : BitVec 32 := 0#32
  ![v238.toNat, 0]
def k0_off90 (v236 : BitVec 32) : Fin 2 → Nat :=
  let c0_i32_162 : BitVec 32 := 0#32
  ![v236.toNat, 0]

def k0_chk30 (v236 : BitVec 32) : Prop :=
  (∀ a, (k0_off90 v236) a + S1x64.size a ≤ S100000x64.size a)
theorem k0_off90_inb : ∀ (v236 : BitVec 32) (k0_hw30 : k0_chk30 v236), ∀ a, (k0_off90 v236) a + S1x64.size a ≤ S100000x64.size a := fun v236 k0_hw30 => k0_hw30

def k0_off91 (i : grid0.Coords) : Fin 1 → Nat :=
  let arg0 : BitVec 32 := BitVec.ofNat 32 (i 0).val
  let c400_i32 : BitVec 32 := 400#32
  let v0 : BitVec 32 := Scalar.muli arg0 c400_i32
  let c16_i32_163 : BitVec 32 := 16#32
  let v241 : BitVec 32 := Scalar.addi v0 c16_i32_163
  let c14_i32_164 : BitVec 32 := 14#32
  let v242 : BitVec 32 := Scalar.addi v241 c14_i32_164
  let v243 : Index := Scalar.indexCast v242
  ![v243.toNat]
def k0_off92 (i : grid0.Coords) : Fin 2 → Nat :=
  let arg0 : BitVec 32 := BitVec.ofNat 32 (i 0).val
  let c400_i32 : BitVec 32 := 400#32
  let v0 : BitVec 32 := Scalar.muli arg0 c400_i32
  let c16_i32_165 : BitVec 32 := 16#32
  let v245 : BitVec 32 := Scalar.addi v0 c16_i32_165
  let c14_i32_166 : BitVec 32 := 14#32
  let v246 : BitVec 32 := Scalar.addi v245 c14_i32_166
  let c0_i32_167 : BitVec 32 := 0#32
  ![v246.toNat, 0]
def k0_off93 (v244 : BitVec 32) : Fin 2 → Nat :=
  let c0_i32_168 : BitVec 32 := 0#32
  ![v244.toNat, 0]

def k0_chk31 (v244 : BitVec 32) : Prop :=
  (∀ a, (k0_off93 v244) a + S1x64.size a ≤ S100000x64.size a)
theorem k0_off93_inb : ∀ (v244 : BitVec 32) (k0_hw31 : k0_chk31 v244), ∀ a, (k0_off93 v244) a + S1x64.size a ≤ S100000x64.size a := fun v244 k0_hw31 => k0_hw31

def k0_off94 (i : grid0.Coords) : Fin 1 → Nat :=
  let arg0 : BitVec 32 := BitVec.ofNat 32 (i 0).val
  let c400_i32 : BitVec 32 := 400#32
  let v0 : BitVec 32 := Scalar.muli arg0 c400_i32
  let c16_i32_169 : BitVec 32 := 16#32
  let v249 : BitVec 32 := Scalar.addi v0 c16_i32_169
  let c15_i32_170 : BitVec 32 := 15#32
  let v250 : BitVec 32 := Scalar.addi v249 c15_i32_170
  let v251 : Index := Scalar.indexCast v250
  ![v251.toNat]
def k0_off95 (i : grid0.Coords) : Fin 2 → Nat :=
  let arg0 : BitVec 32 := BitVec.ofNat 32 (i 0).val
  let c400_i32 : BitVec 32 := 400#32
  let v0 : BitVec 32 := Scalar.muli arg0 c400_i32
  let c16_i32_171 : BitVec 32 := 16#32
  let v253 : BitVec 32 := Scalar.addi v0 c16_i32_171
  let c15_i32_172 : BitVec 32 := 15#32
  let v254 : BitVec 32 := Scalar.addi v253 c15_i32_172
  let c0_i32_173 : BitVec 32 := 0#32
  ![v254.toNat, 0]
def k0_off96 (v252 : BitVec 32) : Fin 2 → Nat :=
  let c0_i32_174 : BitVec 32 := 0#32
  ![v252.toNat, 0]

def k0_chk32 (v252 : BitVec 32) : Prop :=
  (∀ a, (k0_off96 v252) a + S1x64.size a ≤ S100000x64.size a)
theorem k0_off96_inb : ∀ (v252 : BitVec 32) (k0_hw32 : k0_chk32 v252), ∀ a, (k0_off96 v252) a + S1x64.size a ≤ S100000x64.size a := fun v252 k0_hw32 => k0_hw32

@[reducible] def k0_t1_loop : Scf.Loop 32 :=
  let c0_i32_175 : BitVec 32 := 0#32
  let c23_i32 : BitVec 32 := 23#32
  let v257 : BitVec 32 := Scalar.addi c0_i32_175 c23_i32
  let c1_i32_176 : BitVec 32 := 1#32
  ⟨c0_i32_175, v257, c1_i32_176⟩
def k0_off97 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v388 : BitVec 32 := Scalar.addi v0 v387
  let c0_i32_337 : BitVec 32 := 0#32
  let v389 : BitVec 32 := Scalar.addi v388 c0_i32_337
  let v390 : Index := Scalar.indexCast v389
  ![v390.toNat]
def k0_off98 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v392 : BitVec 32 := Scalar.addi v0 v387
  let c0_i32_338 : BitVec 32 := 0#32
  let v393 : BitVec 32 := Scalar.addi v392 c0_i32_338
  let c0_i32_339 : BitVec 32 := 0#32
  ![v393.toNat, 0]
def k0_off99 (v391 : BitVec 32) : Fin 2 → Nat :=
  let c0_i32_340 : BitVec 32 := 0#32
  ![v391.toNat, 0]

def k0_chk33 (v391 : BitVec 32) : Prop :=
  (∀ a, (k0_off99 v391) a + S1x64.size a ≤ S100000x64.size a)
theorem k0_off99_inb : ∀ (v391 : BitVec 32) (k0_hw33 : k0_chk33 v391), ∀ a, (k0_off99 v391) a + S1x64.size a ≤ S100000x64.size a := fun v391 k0_hw33 => k0_hw33

def k0_off100 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v396 : BitVec 32 := Scalar.addi v0 v387
  let c1_i32_341 : BitVec 32 := 1#32
  let v397 : BitVec 32 := Scalar.addi v396 c1_i32_341
  let v398 : Index := Scalar.indexCast v397
  ![v398.toNat]
def k0_off101 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v400 : BitVec 32 := Scalar.addi v0 v387
  let c1_i32_342 : BitVec 32 := 1#32
  let v401 : BitVec 32 := Scalar.addi v400 c1_i32_342
  let c0_i32_343 : BitVec 32 := 0#32
  ![v401.toNat, 0]
def k0_off102 (v399 : BitVec 32) : Fin 2 → Nat :=
  let c0_i32_344 : BitVec 32 := 0#32
  ![v399.toNat, 0]

def k0_chk34 (v399 : BitVec 32) : Prop :=
  (∀ a, (k0_off102 v399) a + S1x64.size a ≤ S100000x64.size a)
theorem k0_off102_inb : ∀ (v399 : BitVec 32) (k0_hw34 : k0_chk34 v399), ∀ a, (k0_off102 v399) a + S1x64.size a ≤ S100000x64.size a := fun v399 k0_hw34 => k0_hw34

def k0_off103 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v404 : BitVec 32 := Scalar.addi v0 v387
  let c2_i32_345 : BitVec 32 := 2#32
  let v405 : BitVec 32 := Scalar.addi v404 c2_i32_345
  let v406 : Index := Scalar.indexCast v405
  ![v406.toNat]
def k0_off104 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v408 : BitVec 32 := Scalar.addi v0 v387
  let c2_i32_346 : BitVec 32 := 2#32
  let v409 : BitVec 32 := Scalar.addi v408 c2_i32_346
  let c0_i32_347 : BitVec 32 := 0#32
  ![v409.toNat, 0]
def k0_off105 (v407 : BitVec 32) : Fin 2 → Nat :=
  let c0_i32_348 : BitVec 32 := 0#32
  ![v407.toNat, 0]

def k0_chk35 (v407 : BitVec 32) : Prop :=
  (∀ a, (k0_off105 v407) a + S1x64.size a ≤ S100000x64.size a)
theorem k0_off105_inb : ∀ (v407 : BitVec 32) (k0_hw35 : k0_chk35 v407), ∀ a, (k0_off105 v407) a + S1x64.size a ≤ S100000x64.size a := fun v407 k0_hw35 => k0_hw35

def k0_off106 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v412 : BitVec 32 := Scalar.addi v0 v387
  let c3_i32_349 : BitVec 32 := 3#32
  let v413 : BitVec 32 := Scalar.addi v412 c3_i32_349
  let v414 : Index := Scalar.indexCast v413
  ![v414.toNat]
def k0_off107 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v416 : BitVec 32 := Scalar.addi v0 v387
  let c3_i32_350 : BitVec 32 := 3#32
  let v417 : BitVec 32 := Scalar.addi v416 c3_i32_350
  let c0_i32_351 : BitVec 32 := 0#32
  ![v417.toNat, 0]
def k0_off108 (v415 : BitVec 32) : Fin 2 → Nat :=
  let c0_i32_352 : BitVec 32 := 0#32
  ![v415.toNat, 0]

def k0_chk36 (v415 : BitVec 32) : Prop :=
  (∀ a, (k0_off108 v415) a + S1x64.size a ≤ S100000x64.size a)
theorem k0_off108_inb : ∀ (v415 : BitVec 32) (k0_hw36 : k0_chk36 v415), ∀ a, (k0_off108 v415) a + S1x64.size a ≤ S100000x64.size a := fun v415 k0_hw36 => k0_hw36

def k0_off109 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v420 : BitVec 32 := Scalar.addi v0 v387
  let c4_i32_353 : BitVec 32 := 4#32
  let v421 : BitVec 32 := Scalar.addi v420 c4_i32_353
  let v422 : Index := Scalar.indexCast v421
  ![v422.toNat]
def k0_off110 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v424 : BitVec 32 := Scalar.addi v0 v387
  let c4_i32_354 : BitVec 32 := 4#32
  let v425 : BitVec 32 := Scalar.addi v424 c4_i32_354
  let c0_i32_355 : BitVec 32 := 0#32
  ![v425.toNat, 0]
def k0_off111 (v423 : BitVec 32) : Fin 2 → Nat :=
  let c0_i32_356 : BitVec 32 := 0#32
  ![v423.toNat, 0]

def k0_chk37 (v423 : BitVec 32) : Prop :=
  (∀ a, (k0_off111 v423) a + S1x64.size a ≤ S100000x64.size a)
theorem k0_off111_inb : ∀ (v423 : BitVec 32) (k0_hw37 : k0_chk37 v423), ∀ a, (k0_off111 v423) a + S1x64.size a ≤ S100000x64.size a := fun v423 k0_hw37 => k0_hw37

def k0_off112 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v428 : BitVec 32 := Scalar.addi v0 v387
  let c5_i32_357 : BitVec 32 := 5#32
  let v429 : BitVec 32 := Scalar.addi v428 c5_i32_357
  let v430 : Index := Scalar.indexCast v429
  ![v430.toNat]
def k0_off113 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v432 : BitVec 32 := Scalar.addi v0 v387
  let c5_i32_358 : BitVec 32 := 5#32
  let v433 : BitVec 32 := Scalar.addi v432 c5_i32_358
  let c0_i32_359 : BitVec 32 := 0#32
  ![v433.toNat, 0]
def k0_off114 (v431 : BitVec 32) : Fin 2 → Nat :=
  let c0_i32_360 : BitVec 32 := 0#32
  ![v431.toNat, 0]

def k0_chk38 (v431 : BitVec 32) : Prop :=
  (∀ a, (k0_off114 v431) a + S1x64.size a ≤ S100000x64.size a)
theorem k0_off114_inb : ∀ (v431 : BitVec 32) (k0_hw38 : k0_chk38 v431), ∀ a, (k0_off114 v431) a + S1x64.size a ≤ S100000x64.size a := fun v431 k0_hw38 => k0_hw38

def k0_off115 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v436 : BitVec 32 := Scalar.addi v0 v387
  let c6_i32_361 : BitVec 32 := 6#32
  let v437 : BitVec 32 := Scalar.addi v436 c6_i32_361
  let v438 : Index := Scalar.indexCast v437
  ![v438.toNat]
def k0_off116 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v440 : BitVec 32 := Scalar.addi v0 v387
  let c6_i32_362 : BitVec 32 := 6#32
  let v441 : BitVec 32 := Scalar.addi v440 c6_i32_362
  let c0_i32_363 : BitVec 32 := 0#32
  ![v441.toNat, 0]
def k0_off117 (v439 : BitVec 32) : Fin 2 → Nat :=
  let c0_i32_364 : BitVec 32 := 0#32
  ![v439.toNat, 0]

def k0_chk39 (v439 : BitVec 32) : Prop :=
  (∀ a, (k0_off117 v439) a + S1x64.size a ≤ S100000x64.size a)
theorem k0_off117_inb : ∀ (v439 : BitVec 32) (k0_hw39 : k0_chk39 v439), ∀ a, (k0_off117 v439) a + S1x64.size a ≤ S100000x64.size a := fun v439 k0_hw39 => k0_hw39

def k0_off118 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v444 : BitVec 32 := Scalar.addi v0 v387
  let c7_i32_365 : BitVec 32 := 7#32
  let v445 : BitVec 32 := Scalar.addi v444 c7_i32_365
  let v446 : Index := Scalar.indexCast v445
  ![v446.toNat]
def k0_off119 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v448 : BitVec 32 := Scalar.addi v0 v387
  let c7_i32_366 : BitVec 32 := 7#32
  let v449 : BitVec 32 := Scalar.addi v448 c7_i32_366
  let c0_i32_367 : BitVec 32 := 0#32
  ![v449.toNat, 0]
def k0_off120 (v447 : BitVec 32) : Fin 2 → Nat :=
  let c0_i32_368 : BitVec 32 := 0#32
  ![v447.toNat, 0]

def k0_chk40 (v447 : BitVec 32) : Prop :=
  (∀ a, (k0_off120 v447) a + S1x64.size a ≤ S100000x64.size a)
theorem k0_off120_inb : ∀ (v447 : BitVec 32) (k0_hw40 : k0_chk40 v447), ∀ a, (k0_off120 v447) a + S1x64.size a ≤ S100000x64.size a := fun v447 k0_hw40 => k0_hw40

def k0_off121 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v452 : BitVec 32 := Scalar.addi v0 v387
  let c8_i32_369 : BitVec 32 := 8#32
  let v453 : BitVec 32 := Scalar.addi v452 c8_i32_369
  let v454 : Index := Scalar.indexCast v453
  ![v454.toNat]
def k0_off122 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v456 : BitVec 32 := Scalar.addi v0 v387
  let c8_i32_370 : BitVec 32 := 8#32
  let v457 : BitVec 32 := Scalar.addi v456 c8_i32_370
  let c0_i32_371 : BitVec 32 := 0#32
  ![v457.toNat, 0]
def k0_off123 (v455 : BitVec 32) : Fin 2 → Nat :=
  let c0_i32_372 : BitVec 32 := 0#32
  ![v455.toNat, 0]

def k0_chk41 (v455 : BitVec 32) : Prop :=
  (∀ a, (k0_off123 v455) a + S1x64.size a ≤ S100000x64.size a)
theorem k0_off123_inb : ∀ (v455 : BitVec 32) (k0_hw41 : k0_chk41 v455), ∀ a, (k0_off123 v455) a + S1x64.size a ≤ S100000x64.size a := fun v455 k0_hw41 => k0_hw41

def k0_off124 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v460 : BitVec 32 := Scalar.addi v0 v387
  let c9_i32_373 : BitVec 32 := 9#32
  let v461 : BitVec 32 := Scalar.addi v460 c9_i32_373
  let v462 : Index := Scalar.indexCast v461
  ![v462.toNat]
def k0_off125 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v464 : BitVec 32 := Scalar.addi v0 v387
  let c9_i32_374 : BitVec 32 := 9#32
  let v465 : BitVec 32 := Scalar.addi v464 c9_i32_374
  let c0_i32_375 : BitVec 32 := 0#32
  ![v465.toNat, 0]
def k0_off126 (v463 : BitVec 32) : Fin 2 → Nat :=
  let c0_i32_376 : BitVec 32 := 0#32
  ![v463.toNat, 0]

def k0_chk42 (v463 : BitVec 32) : Prop :=
  (∀ a, (k0_off126 v463) a + S1x64.size a ≤ S100000x64.size a)
theorem k0_off126_inb : ∀ (v463 : BitVec 32) (k0_hw42 : k0_chk42 v463), ∀ a, (k0_off126 v463) a + S1x64.size a ≤ S100000x64.size a := fun v463 k0_hw42 => k0_hw42

def k0_off127 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v468 : BitVec 32 := Scalar.addi v0 v387
  let c10_i32_377 : BitVec 32 := 10#32
  let v469 : BitVec 32 := Scalar.addi v468 c10_i32_377
  let v470 : Index := Scalar.indexCast v469
  ![v470.toNat]
def k0_off128 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v472 : BitVec 32 := Scalar.addi v0 v387
  let c10_i32_378 : BitVec 32 := 10#32
  let v473 : BitVec 32 := Scalar.addi v472 c10_i32_378
  let c0_i32_379 : BitVec 32 := 0#32
  ![v473.toNat, 0]
def k0_off129 (v471 : BitVec 32) : Fin 2 → Nat :=
  let c0_i32_380 : BitVec 32 := 0#32
  ![v471.toNat, 0]

def k0_chk43 (v471 : BitVec 32) : Prop :=
  (∀ a, (k0_off129 v471) a + S1x64.size a ≤ S100000x64.size a)
theorem k0_off129_inb : ∀ (v471 : BitVec 32) (k0_hw43 : k0_chk43 v471), ∀ a, (k0_off129 v471) a + S1x64.size a ≤ S100000x64.size a := fun v471 k0_hw43 => k0_hw43

def k0_off130 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v476 : BitVec 32 := Scalar.addi v0 v387
  let c11_i32_381 : BitVec 32 := 11#32
  let v477 : BitVec 32 := Scalar.addi v476 c11_i32_381
  let v478 : Index := Scalar.indexCast v477
  ![v478.toNat]
def k0_off131 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v480 : BitVec 32 := Scalar.addi v0 v387
  let c11_i32_382 : BitVec 32 := 11#32
  let v481 : BitVec 32 := Scalar.addi v480 c11_i32_382
  let c0_i32_383 : BitVec 32 := 0#32
  ![v481.toNat, 0]
def k0_off132 (v479 : BitVec 32) : Fin 2 → Nat :=
  let c0_i32_384 : BitVec 32 := 0#32
  ![v479.toNat, 0]

def k0_chk44 (v479 : BitVec 32) : Prop :=
  (∀ a, (k0_off132 v479) a + S1x64.size a ≤ S100000x64.size a)
theorem k0_off132_inb : ∀ (v479 : BitVec 32) (k0_hw44 : k0_chk44 v479), ∀ a, (k0_off132 v479) a + S1x64.size a ≤ S100000x64.size a := fun v479 k0_hw44 => k0_hw44

def k0_off133 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v484 : BitVec 32 := Scalar.addi v0 v387
  let c12_i32_385 : BitVec 32 := 12#32
  let v485 : BitVec 32 := Scalar.addi v484 c12_i32_385
  let v486 : Index := Scalar.indexCast v485
  ![v486.toNat]
def k0_off134 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v488 : BitVec 32 := Scalar.addi v0 v387
  let c12_i32_386 : BitVec 32 := 12#32
  let v489 : BitVec 32 := Scalar.addi v488 c12_i32_386
  let c0_i32_387 : BitVec 32 := 0#32
  ![v489.toNat, 0]
def k0_off135 (v487 : BitVec 32) : Fin 2 → Nat :=
  let c0_i32_388 : BitVec 32 := 0#32
  ![v487.toNat, 0]

def k0_chk45 (v487 : BitVec 32) : Prop :=
  (∀ a, (k0_off135 v487) a + S1x64.size a ≤ S100000x64.size a)
theorem k0_off135_inb : ∀ (v487 : BitVec 32) (k0_hw45 : k0_chk45 v487), ∀ a, (k0_off135 v487) a + S1x64.size a ≤ S100000x64.size a := fun v487 k0_hw45 => k0_hw45

def k0_off136 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v492 : BitVec 32 := Scalar.addi v0 v387
  let c13_i32_389 : BitVec 32 := 13#32
  let v493 : BitVec 32 := Scalar.addi v492 c13_i32_389
  let v494 : Index := Scalar.indexCast v493
  ![v494.toNat]
def k0_off137 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v496 : BitVec 32 := Scalar.addi v0 v387
  let c13_i32_390 : BitVec 32 := 13#32
  let v497 : BitVec 32 := Scalar.addi v496 c13_i32_390
  let c0_i32_391 : BitVec 32 := 0#32
  ![v497.toNat, 0]
def k0_off138 (v495 : BitVec 32) : Fin 2 → Nat :=
  let c0_i32_392 : BitVec 32 := 0#32
  ![v495.toNat, 0]

def k0_chk46 (v495 : BitVec 32) : Prop :=
  (∀ a, (k0_off138 v495) a + S1x64.size a ≤ S100000x64.size a)
theorem k0_off138_inb : ∀ (v495 : BitVec 32) (k0_hw46 : k0_chk46 v495), ∀ a, (k0_off138 v495) a + S1x64.size a ≤ S100000x64.size a := fun v495 k0_hw46 => k0_hw46

def k0_off139 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v500 : BitVec 32 := Scalar.addi v0 v387
  let c14_i32_393 : BitVec 32 := 14#32
  let v501 : BitVec 32 := Scalar.addi v500 c14_i32_393
  let v502 : Index := Scalar.indexCast v501
  ![v502.toNat]
def k0_off140 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v504 : BitVec 32 := Scalar.addi v0 v387
  let c14_i32_394 : BitVec 32 := 14#32
  let v505 : BitVec 32 := Scalar.addi v504 c14_i32_394
  let c0_i32_395 : BitVec 32 := 0#32
  ![v505.toNat, 0]
def k0_off141 (v503 : BitVec 32) : Fin 2 → Nat :=
  let c0_i32_396 : BitVec 32 := 0#32
  ![v503.toNat, 0]

def k0_chk47 (v503 : BitVec 32) : Prop :=
  (∀ a, (k0_off141 v503) a + S1x64.size a ≤ S100000x64.size a)
theorem k0_off141_inb : ∀ (v503 : BitVec 32) (k0_hw47 : k0_chk47 v503), ∀ a, (k0_off141 v503) a + S1x64.size a ≤ S100000x64.size a := fun v503 k0_hw47 => k0_hw47

def k0_off142 (i : grid0.Coords) (k0_t1 : Fin k0_t1_loop.trips) : Fin 1 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v508 : BitVec 32 := Scalar.addi v0 v387
  let c15_i32_397 : BitVec 32 := 15#32
  let v509 : BitVec 32 := Scalar.addi v508 c15_i32_397
  let v510 : Index := Scalar.indexCast v509
  ![v510.toNat]
def k0_off143 (i : grid0.Coords) (k0_t1 : Fin k0_t1_loop.trips) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let v512 : BitVec 32 := Scalar.addi v0 v387
  let c15_i32_398 : BitVec 32 := 15#32
  let v513 : BitVec 32 := Scalar.addi v512 c15_i32_398
  let c0_i32_399 : BitVec 32 := 0#32
  ![v513.toNat, 0]
def k0_off144 (v511 : BitVec 32) : Fin 2 → Nat :=
  let c0_i32_400 : BitVec 32 := 0#32
  ![v511.toNat, 0]

def k0_chk48 (v511 : BitVec 32) : Prop :=
  (∀ a, (k0_off144 v511) a + S1x64.size a ≤ S100000x64.size a)
theorem k0_off144_inb : ∀ (v511 : BitVec 32) (k0_hw48 : k0_chk48 v511), ∀ a, (k0_off144 v511) a + S1x64.size a ≤ S100000x64.size a := fun v511 k0_hw48 => k0_hw48

def k0_off145 (i : grid0.Coords) (k0_t1 : Fin k0_t1_loop.trips) (c0_i32_402 : BitVec 32) : Fin 2 → Nat :=
  let arg0 : BitVec 32 := BitVec.ofNat 32 (i 0).val
  let c400_i32 : BitVec 32 := 400#32
  let v0 : BitVec 32 := Scalar.muli arg0 c400_i32
  let c32_i32 : BitVec 32 := 32#32
  let c0_i32_175 : BitVec 32 := 0#32
  let c1_i32_176 : BitVec 32 := 1#32
  let arg7 : BitVec 32 := Scf.iv c0_i32_175 c1_i32_176 k0_t1
  let c16_i32_336 : BitVec 32 := 16#32
  let v386 : BitVec 32 := Scalar.muli arg7 c16_i32_336
  let v387 : BitVec 32 := Scalar.addi c32_i32 v386
  let c32_i32_401 : BitVec 32 := 32#32
  let v516 : BitVec 32 := Scalar.subi v387 c32_i32_401
  let v517 : BitVec 32 := Scalar.addi v0 v516
  let v518 : BitVec 32 := Scalar.addi v517 c0_i32_402
  let c0_i32_403 : BitVec 32 := 0#32
  ![v518.toNat, 0]
def k0_off146 (i : grid0.Coords) (c368_i32 : BitVec 32) (c0_i32_178 : BitVec 32) : Fin 2 → Nat :=
  let arg0 : BitVec 32 := BitVec.ofNat 32 (i 0).val
  let c400_i32 : BitVec 32 := 400#32
  let v0 : BitVec 32 := Scalar.muli arg0 c400_i32
  let v258 : BitVec 32 := Scalar.addi v0 c368_i32
  let v259 : BitVec 32 := Scalar.addi v258 c0_i32_178
  let c0_i32_179 : BitVec 32 := 0#32
  ![v259.toNat, 0]
abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_27 : BitVec 32 := 0#32
  let c50_i32 : BitVec 32 := 50#32
  let v37 : BitVec 32 := Scalar.addi c0_i32_27 c50_i32
  let c1_i32 : BitVec 32 := 1#32
  ⟨c0_i32_27, v37, c1_i32⟩
def k1_off1 (k1_t1 : Fin k1_t1_loop.trips) : Fin 2 → Nat :=
  let c0_i32_27 : BitVec 32 := 0#32
  let c1_i32 : BitVec 32 := 1#32
  let arg22 : BitVec 32 := Scf.iv c0_i32_27 c1_i32 k1_t1
  let c16_i32 : BitVec 32 := 16#32
  let v98 : BitVec 32 := Scalar.muli arg22 c16_i32
  let v99 : Index := Scalar.indexCast v98
  let c0_74 : Index := 0#32
  ![v99.toNat, 0]
def k1_off2 (k1_t1 : Fin k1_t1_loop.trips) : Fin 2 → Nat :=
  let c0_i32_27 : BitVec 32 := 0#32
  let c1_i32 : BitVec 32 := 1#32
  let arg22 : BitVec 32 := Scf.iv c0_i32_27 c1_i32 k1_t1
  let c16_i32_75 : BitVec 32 := 16#32
  let v115 : BitVec 32 := Scalar.muli arg22 c16_i32_75
  let v116 : Index := Scalar.indexCast v115
  let c0_76 : Index := 0#32
  ![v116.toNat, 0]
@[reducible] def k1_t2_loop : Scf.Loop 32 :=
  let c0_i32_53 : BitVec 32 := 0#32
  let c50_i32_54 : BitVec 32 := 50#32
  let v70 : BitVec 32 := Scalar.addi c0_i32_53 c50_i32_54
  let c1_i32_55 : BitVec 32 := 1#32
  ⟨c0_i32_53, v70, c1_i32_55⟩
def k1_off3 (k1_t2 : Fin k1_t2_loop.trips) : Fin 2 → Nat :=
  let c0_i32_53 : BitVec 32 := 0#32
  let c1_i32_55 : BitVec 32 := 1#32
  let arg22 : BitVec 32 := Scf.iv c0_i32_53 c1_i32_55 k1_t2
  let c16_i32 : BitVec 32 := 16#32
  let v98 : BitVec 32 := Scalar.muli arg22 c16_i32
  let v99 : Index := Scalar.indexCast v98
  let c0_74 : Index := 0#32
  ![v99.toNat, 0]
def k1_off4 (k1_t2 : Fin k1_t2_loop.trips) : Fin 2 → Nat :=
  let c0_i32_53 : BitVec 32 := 0#32
  let c1_i32_55 : BitVec 32 := 1#32
  let arg22 : BitVec 32 := Scf.iv c0_i32_53 c1_i32_55 k1_t2
  let c16_i32_75 : BitVec 32 := 16#32
  let v115 : BitVec 32 := Scalar.muli arg22 c16_i32_75
  let v116 : Index := Scalar.indexCast v115
  let c0_76 : Index := 0#32
  ![v116.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S800x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2x16x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S2x16x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S4096x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x4096 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S800x4096 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S2x16x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S2x16x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S16x50 : Shape := ⟨2, ![16, 50]⟩
abbrev S2x16x256 : Shape := ⟨3, ![2, 16, 256]⟩
abbrev S100000x64 : Shape := ⟨2, ![100000, 64]⟩
abbrev S1024x64 : Shape := ⟨2, ![1024, 64]⟩
abbrev S1024x256 : Shape := ⟨2, ![1024, 256]⟩
abbrev S1024 : Shape := ⟨1, ![1024]⟩
abbrev S100000x256 : Shape := ⟨2, ![100000, 256]⟩
abbrev S100000 : Shape := ⟨1, ![100000]⟩
abbrev S_ : Shape := ⟨0, ![]⟩
abbrev S16x50x1 : Shape := ⟨3, ![16, 50, 1]⟩
abbrev S1 : Shape := ⟨1, ![1]⟩
abbrev S1x1x1 : Shape := ⟨3, ![1, 1, 1]⟩
abbrev S16x50x64 : Shape := ⟨3, ![16, 50, 64]⟩
abbrev S1x16x256 : Shape := ⟨3, ![1, 16, 256]⟩
abbrev S16x256 : Shape := ⟨2, ![16, 256]⟩
abbrev S50x16x64 : Shape := ⟨3, ![50, 16, 64]⟩
abbrev S50x16x256 : Shape := ⟨3, ![50, 16, 256]⟩
abbrev S1x16x64 : Shape := ⟨3, ![1, 16, 64]⟩
abbrev S16x64 : Shape := ⟨2, ![16, 64]⟩
abbrev S64x1024 : Shape := ⟨2, ![64, 1024]⟩
abbrev S16x1024 : Shape := ⟨2, ![16, 1024]⟩
abbrev S256x1024 : Shape := ⟨2, ![256, 1024]⟩
abbrev S1x1024 : Shape := ⟨2, ![1, 1024]⟩
abbrev S16x50x256 : Shape := ⟨3, ![16, 50, 256]⟩
abbrev S800x256 : Shape := ⟨2, ![800, 256]⟩
abbrev S256x100000 : Shape := ⟨2, ![256, 100000]⟩
abbrev S800x100000 : Shape := ⟨2, ![800, 100000]⟩
abbrev S1x100000 : Shape := ⟨2, ![1, 100000]⟩

abbrev nBuf : Space → Nat
  | .hbm => 179
  | .vmem => 0
  | .smem => 0
  | _ => 0

abbrev hbmTy0_0 (i : Nat) : BufTy := match i % 128 with
  | 0 => ⟨S16x50, .i32⟩
  | 1 => ⟨S2x16x256, .f32⟩
  | 2 => ⟨S2x16x256, .f32⟩
  | 3 => ⟨S100000x64, .f32⟩
  | 4 => ⟨S1024x64, .f32⟩
  | 5 => ⟨S1024x256, .f32⟩
  | 6 => ⟨S1024, .f32⟩
  | 7 => ⟨S1024, .f32⟩
  | 8 => ⟨S1024x256, .f32⟩
  | 9 => ⟨S1024x256, .f32⟩
  | 10 => ⟨S1024, .f32⟩
  | 11 => ⟨S1024, .f32⟩
  | 12 => ⟨S100000x256, .f32⟩
  | 13 => ⟨S100000, .f32⟩
  | 14 => ⟨S_, .i32⟩
  | 15 => ⟨S16x50, .i32⟩
  | 16 => ⟨S16x50, .i1⟩
  | 17 => ⟨S_, .i32⟩
  | 18 => ⟨S16x50, .i32⟩
  | 19 => ⟨S16x50, .i32⟩
  | 20 => ⟨S16x50, .i32⟩
  | 21 => ⟨S16x50x1, .i32⟩
  | 22 => ⟨S1, .i32⟩
  | 23 => ⟨S_, .i32⟩
  | 24 => ⟨S16x50x1, .i32⟩
  | 25 => ⟨S16x50x1, .i1⟩
  | 26 => ⟨S1x1x1, .i32⟩
  | 27 => ⟨S16x50x1, .i32⟩
  | 28 => ⟨S16x50x1, .i1⟩
  | 29 => ⟨S16x50x1, .i1⟩
  | 30 => ⟨S_, .i1⟩
  | 31 => ⟨S16x50, .i1⟩
  | 32 => ⟨S16x50x64, .f32⟩
  | 33 => ⟨S16x50x64, .i1⟩
  | 34 => ⟨S_, .f32⟩
  | 35 => ⟨S16x50x64, .f32⟩
  | 36 => ⟨S16x50x64, .f32⟩
  | 37 => ⟨S1x16x256, .f32⟩
  | 38 => ⟨S16x256, .f32⟩
  | 39 => ⟨S1x16x256, .f32⟩
  | 40 => ⟨S16x256, .f32⟩
  | 41 => ⟨S1x16x256, .f32⟩
  | 42 => ⟨S16x256, .f32⟩
  | 43 => ⟨S1x16x256, .f32⟩
  | 44 => ⟨S16x256, .f32⟩
  | 45 => ⟨S50x16x64, .f32⟩
  | 46 => ⟨S_, .f32⟩
  | 47 => ⟨S50x16x256, .f32⟩
  | 48 => ⟨S_, .i32⟩
  | 49 => ⟨S50x16x64, .f32⟩
  | 50 => ⟨S1024x64, .f32⟩
  | 51 => ⟨S1024x256, .f32⟩
  | 52 => ⟨S1024, .f32⟩
  | 53 => ⟨S1024, .f32⟩
  | 54 => ⟨S1024x256, .f32⟩
  | 55 => ⟨S1024x256, .f32⟩
  | 56 => ⟨S1024, .f32⟩
  | 57 => ⟨S1024, .f32⟩
  | 58 => ⟨S_, .i32⟩
  | 59 => ⟨S16x256, .f32⟩
  | 60 => ⟨S16x256, .f32⟩
  | 61 => ⟨S16x256, .f32⟩
  | 62 => ⟨S16x256, .f32⟩
  | 63 => ⟨S50x16x256, .f32⟩
  | 64 => ⟨S_, .i32⟩
  | 65 => ⟨S_, .i1⟩
  | 66 => ⟨S_, .i32⟩
  | 67 => ⟨S_, .i32⟩
  | 68 => ⟨S1x16x64, .f32⟩
  | 69 => ⟨S16x64, .f32⟩
  | 70 => ⟨S64x1024, .f32⟩
  | 71 => ⟨S16x1024, .f32⟩
  | 72 => ⟨S256x1024, .f32⟩
  | 73 => ⟨S16x1024, .f32⟩
  | 74 => ⟨S16x1024, .f32⟩
  | 75 => ⟨S1x1024, .f32⟩
  | 76 => ⟨S16x1024, .f32⟩
  | 77 => ⟨S16x1024, .f32⟩
  | 78 => ⟨S1x1024, .f32⟩
  | 79 => ⟨S16x1024, .f32⟩
  | 80 => ⟨S16x1024, .f32⟩
  | 81 => ⟨S16x256, .f32⟩
  | 82 => ⟨S16x256, .f32⟩
  | 83 => ⟨S16x256, .f32⟩
  | 84 => ⟨S16x256, .f32⟩
  | 85 => ⟨S16x256, .f32⟩
  | 86 => ⟨S16x256, .f32⟩
  | 87 => ⟨S_, .f32⟩
  | 88 => ⟨S16x256, .f32⟩
  | 89 => ⟨S16x256, .f32⟩
  | 90 => ⟨S_, .f32⟩
  | 91 => ⟨S16x256, .f32⟩
  | 92 => ⟨S16x256, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S_, .f32⟩
  | 99 => ⟨S16x256, .f32⟩
  | 100 => ⟨S16x256, .f32⟩
  | 101 => ⟨S16x256, .f32⟩
  | 102 => ⟨S16x256, .f32⟩
  | 103 => ⟨S16x256, .f32⟩
  | 104 => ⟨S_, .f32⟩
  | 105 => ⟨S16x256, .f32⟩
  | 106 => ⟨S16x256, .f32⟩
  | 107 => ⟨S_, .f32⟩
  | 108 => ⟨S16x256, .f32⟩
  | 109 => ⟨S16x256, .f32⟩
  | 110 => ⟨S16x256, .f32⟩
  | 111 => ⟨S16x256, .f32⟩
  | 112 => ⟨S16x256, .f32⟩
  | 113 => ⟨S16x256, .f32⟩
  | 114 => ⟨S16x256, .f32⟩
  | 115 => ⟨S256x1024, .f32⟩
  | 116 => ⟨S16x1024, .f32⟩
  | 117 => ⟨S256x1024, .f32⟩
  | 118 => ⟨S16x1024, .f32⟩
  | 119 => ⟨S16x1024, .f32⟩
  | 120 => ⟨S1x1024, .f32⟩
  | 121 => ⟨S16x1024, .f32⟩
  | 122 => ⟨S16x1024, .f32⟩
  | 123 => ⟨S1x1024, .f32⟩
  | 124 => ⟨S16x1024, .f32⟩
  | 125 => ⟨S16x1024, .f32⟩
  | 126 => ⟨S16x256, .f32⟩
  | 127 => ⟨S16x256, .f32⟩
  | _ => ⟨S16x50, .i32⟩

abbrev hbmTy0_1 (i : Nat) : BufTy := match i % 128 with
  | 0 => ⟨S16x256, .f32⟩
  | 1 => ⟨S16x256, .f32⟩
  | 2 => ⟨S16x256, .f32⟩
  | 3 => ⟨S16x256, .f32⟩
  | 4 => ⟨S_, .f32⟩
  | 5 => ⟨S16x256, .f32⟩
  | 6 => ⟨S16x256, .f32⟩
  | 7 => ⟨S_, .f32⟩
  | 8 => ⟨S16x256, .f32⟩
  | 9 => ⟨S16x256, .f32⟩
  | 10 => ⟨S16x256, .f32⟩
  | 11 => ⟨S16x256, .f32⟩
  | 12 => ⟨S_, .f32⟩
  | 13 => ⟨S16x256, .f32⟩
  | 14 => ⟨S16x256, .f32⟩
  | 15 => ⟨S_, .f32⟩
  | 16 => ⟨S16x256, .f32⟩
  | 17 => ⟨S16x256, .f32⟩
  | 18 => ⟨S16x256, .f32⟩
  | 19 => ⟨S16x256, .f32⟩
  | 20 => ⟨S16x256, .f32⟩
  | 21 => ⟨S_, .f32⟩
  | 22 => ⟨S16x256, .f32⟩
  | 23 => ⟨S16x256, .f32⟩
  | 24 => ⟨S_, .f32⟩
  | 25 => ⟨S16x256, .f32⟩
  | 26 => ⟨S16x256, .f32⟩
  | 27 => ⟨S16x256, .f32⟩
  | 28 => ⟨S16x256, .f32⟩
  | 29 => ⟨S16x256, .f32⟩
  | 30 => ⟨S16x256, .f32⟩
  | 31 => ⟨S16x256, .f32⟩
  | 32 => ⟨S1x16x256, .f32⟩
  | 33 => ⟨S_, .i32⟩
  | 34 => ⟨S_, .i32⟩
  | 35 => ⟨S50x16x256, .f32⟩
  | 36 => ⟨S_, .i32⟩
  | 37 => ⟨S_, .i32⟩
  | 38 => ⟨S16x50x256, .f32⟩
  | 39 => ⟨S800x256, .f32⟩
  | 40 => ⟨S256x100000, .f32⟩
  | 41 => ⟨S800x100000, .f32⟩
  | 42 => ⟨S1x100000, .f32⟩
  | 43 => ⟨S800x100000, .f32⟩
  | 44 => ⟨S800x100000, .f32⟩
  | 45 => ⟨S1x16x256, .f32⟩
  | 46 => ⟨S1x16x256, .f32⟩
  | 47 => ⟨S2x16x256, .f32⟩
  | 48 => ⟨S1x16x256, .f32⟩
  | 49 => ⟨S1x16x256, .f32⟩
  | 50 => ⟨S2x16x256, .f32⟩
  | _ => ⟨S16x50, .i32⟩

abbrev hbmTy (i : Nat) : BufTy := match i / 128 with
  | 0 => hbmTy0_0 i
  | 1 => hbmTy0_1 i
  | _ => ⟨S16x50, .i32⟩

abbrev bufTy : (tb : Table) → Fin (tcTables nBuf tb) → BufTy
  | .hbm, ⟨i, _⟩ => hbmTy i
  | _, _ => ⟨S16x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_c : Ref sig .tc := ⟨.hbm, 48, rfl⟩
abbrev main_v11_0 : Ref sig .tc := ⟨.hbm, 49, rfl⟩
abbrev main_v11_1 : Ref sig .tc := ⟨.hbm, 50, rfl⟩
abbrev main_v11_2 : Ref sig .tc := ⟨.hbm, 51, rfl⟩
abbrev main_v11_3 : Ref sig .tc := ⟨.hbm, 52, rfl⟩
abbrev main_v11_4 : Ref sig .tc := ⟨.hbm, 53, rfl⟩
abbrev main_v11_5 : Ref sig .tc := ⟨.hbm, 54, rfl⟩
abbrev main_v11_6 : Ref sig .tc := ⟨.hbm, 55, rfl⟩
abbrev main_v11_7 : Ref sig .tc := ⟨.hbm, 56, rfl⟩
abbrev main_v11_8 : Ref sig .tc := ⟨.hbm, 57, rfl⟩
abbrev main_v11_9 : Ref sig .tc := ⟨.hbm, 58, rfl⟩
abbrev main_v11_10 : Ref sig .tc := ⟨.hbm, 59, rfl⟩
abbrev main_v11_11 : Ref sig .tc := ⟨.hbm, 60, rfl⟩
abbrev main_v11_12 : Ref sig .tc := ⟨.hbm, 61, rfl⟩
abbrev main_v11_13 : Ref sig .tc := ⟨.hbm, 62, rfl⟩
abbrev main_v11_14 : Ref sig .tc := ⟨.hbm, 63, rfl⟩
abbrev main_while0c_c_14 : Ref sig .tc := ⟨.hbm, 64, rfl⟩
abbrev main_while0c_v25 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_v0 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_v28 : Ref sig .tc := ⟨.hbm, 72, rfl⟩
abbrev main_while0b_v29 : Ref sig .tc := ⟨.hbm, 73, rfl⟩
abbrev main_while0b_v30 : Ref sig .tc := ⟨.hbm, 74, rfl⟩
abbrev main_while0b_v31 : Ref sig .tc := ⟨.hbm, 75, rfl⟩
abbrev main_while0b_v32 : Ref sig .tc := ⟨.hbm, 76, rfl⟩
abbrev main_while0b_v33 : Ref sig .tc := ⟨.hbm, 77, rfl⟩
abbrev main_while0b_v34 : Ref sig .tc := ⟨.hbm, 78, rfl⟩
abbrev main_while0b_v35 : Ref sig .tc := ⟨.hbm, 79, rfl⟩
abbrev main_while0b_v36 : Ref sig .tc := ⟨.hbm, 80, rfl⟩
abbrev main_while0b_v37 : Ref sig .tc := ⟨.hbm, 81, rfl⟩
abbrev main_while0b_v38 : Ref sig .tc := ⟨.hbm, 82, rfl⟩
abbrev main_while0b_v39 : Ref sig .tc := ⟨.hbm, 83, rfl⟩
abbrev main_while0b_v40 : Ref sig .tc := ⟨.hbm, 84, rfl⟩
abbrev main_while0b_v41 : Ref sig .tc := ⟨.hbm, 85, rfl⟩
abbrev main_while0b_v42 : Ref sig .tc := ⟨.hbm, 86, rfl⟩
abbrev main_while0b_cst_14 : Ref sig .tc := ⟨.hbm, 87, rfl⟩
abbrev main_while0b_v43 : Ref sig .tc := ⟨.hbm, 88, rfl⟩
abbrev main_while0b_v44 : Ref sig .tc := ⟨.hbm, 89, rfl⟩
abbrev main_while0b_cst_15 : Ref sig .tc := ⟨.hbm, 90, rfl⟩
abbrev main_while0b_v45 : Ref sig .tc := ⟨.hbm, 91, rfl⟩
abbrev main_while0b_v46 : Ref sig .tc := ⟨.hbm, 92, rfl⟩
abbrev main_while0b_v47 : Ref sig .tc := ⟨.hbm, 93, rfl⟩
abbrev main_while0b_v48 : Ref sig .tc := ⟨.hbm, 94, rfl⟩
abbrev main_while0b_cst_16 : Ref sig .tc := ⟨.hbm, 95, rfl⟩
abbrev main_while0b_v49 : Ref sig .tc := ⟨.hbm, 96, rfl⟩
abbrev main_while0b_v50 : Ref sig .tc := ⟨.hbm, 97, rfl⟩
abbrev main_while0b_cst_17 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_v55 : Ref sig .tc := ⟨.hbm, 103, rfl⟩
abbrev main_while0b_cst_18 : Ref sig .tc := ⟨.hbm, 104, rfl⟩
abbrev main_while0b_v56 : Ref sig .tc := ⟨.hbm, 105, rfl⟩
abbrev main_while0b_v57 : Ref sig .tc := ⟨.hbm, 106, rfl⟩
abbrev main_while0b_cst_19 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_cst_20 : Ref sig .tc := ⟨.hbm, 132, rfl⟩
abbrev main_while0b_v82 : Ref sig .tc := ⟨.hbm, 133, rfl⟩
abbrev main_while0b_v83 : Ref sig .tc := ⟨.hbm, 134, rfl⟩
abbrev main_while0b_cst_21 : Ref sig .tc := ⟨.hbm, 135, rfl⟩
abbrev main_while0b_v84 : Ref sig .tc := ⟨.hbm, 136, rfl⟩
abbrev main_while0b_v85 : Ref sig .tc := ⟨.hbm, 137, rfl⟩
abbrev main_while0b_v86 : Ref sig .tc := ⟨.hbm, 138, rfl⟩
abbrev main_while0b_v87 : Ref sig .tc := ⟨.hbm, 139, rfl⟩
abbrev main_while0b_cst_22 : Ref sig .tc := ⟨.hbm, 140, rfl⟩
abbrev main_while0b_v88 : Ref sig .tc := ⟨.hbm, 141, rfl⟩
abbrev main_while0b_v89 : Ref sig .tc := ⟨.hbm, 142, rfl⟩
abbrev main_while0b_cst_23 : Ref sig .tc := ⟨.hbm, 143, rfl⟩
abbrev main_while0b_v90 : Ref sig .tc := ⟨.hbm, 144, rfl⟩
abbrev main_while0b_v91 : Ref sig .tc := ⟨.hbm, 145, rfl⟩
abbrev main_while0b_v92 : Ref sig .tc := ⟨.hbm, 146, rfl⟩
abbrev main_while0b_v93 : Ref sig .tc := ⟨.hbm, 147, rfl⟩
abbrev main_while0b_v94 : Ref sig .tc := ⟨.hbm, 148, rfl⟩
abbrev main_while0b_cst_24 : Ref sig .tc := ⟨.hbm, 149, rfl⟩
abbrev main_while0b_v95 : Ref sig .tc := ⟨.hbm, 150, rfl⟩
abbrev main_while0b_v96 : Ref sig .tc := ⟨.hbm, 151, rfl⟩
abbrev main_while0b_cst_25 : Ref sig .tc := ⟨.hbm, 152, rfl⟩
abbrev main_while0b_v97 : Ref sig .tc := ⟨.hbm, 153, rfl⟩
abbrev main_while0b_v98 : Ref sig .tc := ⟨.hbm, 154, rfl⟩
abbrev main_while0b_v99 : Ref sig .tc := ⟨.hbm, 155, rfl⟩
abbrev main_while0b_v100 : Ref sig .tc := ⟨.hbm, 156, rfl⟩
abbrev main_while0b_v101 : Ref sig .tc := ⟨.hbm, 157, rfl⟩
abbrev main_while0b_v102 : Ref sig .tc := ⟨.hbm, 158, rfl⟩
abbrev main_while0b_v103 : Ref sig .tc := ⟨.hbm, 159, rfl⟩
abbrev main_while0b_call2_v0 : Ref sig .tc := ⟨.hbm, 160, rfl⟩
abbrev main_while0b_call2_c : Ref sig .tc := ⟨.hbm, 161, rfl⟩
abbrev main_while0b_call2_c_0 : Ref sig .tc := ⟨.hbm, 162, rfl⟩
abbrev main_while0b_v104 : Ref sig .tc := ⟨.hbm, 163, rfl⟩
abbrev main_while0b_c_26 : Ref sig .tc := ⟨.hbm, 164, rfl⟩
abbrev main_while0b_v105 : Ref sig .tc := ⟨.hbm, 165, rfl⟩
abbrev main_v12 : Ref sig .tc := ⟨.hbm, 166, rfl⟩
abbrev main_v13 : Ref sig .tc := ⟨.hbm, 167, rfl⟩
abbrev main_v14 : Ref sig .tc := ⟨.hbm, 168, rfl⟩
abbrev main_v15 : Ref sig .tc := ⟨.hbm, 169, rfl⟩
abbrev main_v16 : Ref sig .tc := ⟨.hbm, 170, rfl⟩
abbrev main_v17 : Ref sig .tc := ⟨.hbm, 171, rfl⟩
abbrev main_v18 : Ref sig .tc := ⟨.hbm, 172, rfl⟩
abbrev main_v19 : Ref sig .tc := ⟨.hbm, 173, rfl⟩
abbrev main_v20 : Ref sig .tc := ⟨.hbm, 174, rfl⟩
abbrev main_v21 : Ref sig .tc := ⟨.hbm, 175, rfl⟩
abbrev main_v22 : Ref sig .tc := ⟨.hbm, 176, rfl⟩
abbrev main_v23 : Ref sig .tc := ⟨.hbm, 177, rfl⟩
abbrev main_v24 : Ref sig .tc := ⟨.hbm, 178, rfl⟩

abbrev nD : Nat := 1
abbrev τ : Topo := Topo.v7x

variable {F : FTy → Type} [FloatOps F]

abbrev main_while0_count : Scf.Loop 32 := ⟨0#32, 50#32, 1#32⟩
-- ==== Proof.Setup.lean ====
/-
  The program as the SparseCore launch theorem sees it, the resource algebra of the run, and the memrefs of the
  gather kernel.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UU : Type := UH × (UR sig nD τ × Counters)

abbrev 𝕄' (F : FTy → Type) : Type := MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans embR
abbrev EC : UEmb Counters (MT nD τ sig (HIx 1) (Elt F) ℕ UU ℕ) := countersEmb

theorem EC_landsIn : (EC (F := F)).LandsIn (upEmb : UEmb _ (MT nD τ sig (HIx 1) (Elt F) ℕ UU ℕ)) := inferInstance
theorem EP_landsIn : (EP (F := F)).LandsIn (upEmb : UEmb _ (MT nD τ sig (HIx 1) (Elt F) ℕ UU ℕ)) := inferInstance

end Cert.Proof.Run

end
-- ==== Proof.Steps.lean ====
/-
  Loads and stores of a TensorCore kernel's buffers by what they read as: a load through a rectangle reads the buffer's
  contents there, a store through a rectangle overlays them.
-/
module

public import proofs.«01_k».proof.Proof.Setup

@[expose] public section

set_option maxRecDepth 16384

noncomputable section

namespace Cert.Proof.Run

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic

variable {F : FTy → Type}

local notation "𝕄" => MT nD τ sig (HIx 1) (Elt F) ℕ UU ℕ

section

variable [FloatOps F] (d : Dev nD) {α : Type} {cs : CoreSpace} {s : Shape} {e : EltTy}

local notation "WP" => wp frame (wpE (defs₀ (F := F)) 𝒱₀ (d : Thread nD τ) none) Set.univ

/-- A load reads the buffer's contents on its rectangle. -/
theorem own_load {m : Memref sig .tc cs s e} {q : PosShare TreeShare} {X : s.Idx → Elt F e} {r : Rect s} {hl : m.view.LoadsAt r.toLoadRect}
    (k : (r.shape.Idx → Elt F e) → Prog (TpuEff nD τ sig (Elt F) Λ₀ .tc) α) (Q : α → sProp 𝕄) :
    (owns (d : Thread nD τ) m q X : sProp 𝕄) ⊢ iprop((owns (d : Thread nD τ) m q X -∗ WP (k fun j => X (r.emb j)) (fun a => Q a))
      -∗ WP ((Prog.lift (.load m r.toLoadRect hl) : Prog (TpuEff nD τ sig (Elt F) Λ₀ .tc) _) >>= k) (fun a => Q a)) := by
  unfold owns
  iintro ⟨%f, %hf, H⟩ Hk
  subst hf
  iapply (wp_load (c := (d : Thread nD τ)) (defs := defs₀ (F := F)) 𝒱₀ none Set.univ (m := m) (r := r.toLoadRect) (hl := hl) (k := k) (q := q) (f := f) (S := m.view.set)
    (View.setOn_subset_set _ _)) $$ H
  iintro H
  iapply Hk
  iexists f
  isplitr
  · ipureintro; rfl
  iexact H

/-- A store overlays the buffer's contents on its rectangle. -/
theorem own_store {m : Memref sig .tc cs s e} {X : s.Idx → Elt F e} {r : Rect s} {w : r.shape.Idx → Elt F e} {hx : (m.access r).Stores Finset.univ} {hm}
    (k : PUnit → Prog (TpuEff nD τ sig (Elt F) Λ₀ .tc) α) (Q : α → sProp 𝕄) :
    (owns (d : Thread nD τ) m fullShare X : sProp 𝕄) ⊢ iprop((owns (d : Thread nD τ) m fullShare (r.overlay X w) -∗ WP (k ⟨⟩) (fun a => Q a))
      -∗ WP ((Prog.lift (.store m r w Finset.univ hx hm) : Prog (TpuEff nD τ sig (Elt F) Λ₀ .tc) _) >>= k) (fun a => Q a)) := by
  unfold owns
  iintro ⟨%f, %hf, H⟩ Hk
  subst hf
  iapply (wp_store (c := (d : Thread nD τ)) (defs := defs₀ (F := F)) 𝒱₀ none Set.univ (m := m) (r := r) (w := w) (hx := hx) (hm := hm) (k := k) (f := f) (S := m.view.set)
    (by rw [View.setOn_univ, View.set_slice]; exact View.setOn_subset_set _ _)) $$ H
  iintro H
  iapply Hk
  iexists _
  isplitr
  swap
  · iexact H
  ipureintro
  funext y
  by_cases hy : y ∈ r.set
  · obtain ⟨x, rfl⟩ := r.exists_idx_of_mem hy
    refine Eq.trans ?_ (Rect.overlay_emb r (m.view.read (Elt F) f) w x).symm
    exact View.read_slice_write_emb r f w (Finset.mem_univ x)
  · rw [Rect.overlay_of_not_mem r _ _ hy]
    exact View.read_slice_write_of_not_mem r f w Finset.univ (by rw [Rect.map_emb_univ]; exact hy)

end

/-- The full rectangle at offset zero is the identity. -/
theorem emb_full {s : Shape} {off : Fin s.rank → ℕ} (inb : ∀ a, off a + s.size a ≤ s.size a) (j : s.Idx) : (Rect.unit (s := s) off s.size inb).emb j = j := by
  funext a
  apply Fin.ext
  rw [Rect.emb_apply]
  show off a + 1 * (j a).val = (j a).val
  have := inb a
  omega

theorem overlay_full {s : Shape} {β : Type} {off : Fin s.rank → ℕ} (inb : ∀ a, off a + s.size a ≤ s.size a) (X w : s.Idx → β) :
    (Rect.unit (s := s) off s.size inb).overlay X w = w := by
  funext y
  exact (congrArg _ (emb_full inb y)).symm.trans (Rect.overlay_emb (Rect.unit (s := s) off s.size inb) X w y)

theorem read_full {s : Shape} {β : Type} {off : Fin s.rank → ℕ} (inb : ∀ a, off a + s.size a ≤ s.size a) (X : s.Idx → β) :
    (fun j => X ((Rect.unit (s := s) off s.size inb).emb j)) = X := funext fun j => congrArg X (emb_full inb j)

section

variable [FloatOps F] (d : Dev nD) {α : Type} {cs : CoreSpace} {s : Shape} {e : EltTy}

local notation "WP" => wp frame (wpE (defs₀ (F := F)) 𝒱₀ (d : Thread nD τ) none) Set.univ

/-- A load of the whole buffer. -/
theorem own_load_full {m : Memref sig .tc cs s e} {q : PosShare TreeShare} {X : s.Idx → Elt F e} {off : Fin s.rank → ℕ} {inb : ∀ a, off a + s.size a ≤ s.size a}
    {hl : m.view.LoadsAt (Rect.unit (s := s) off s.size inb).toLoadRect}
    (k : (s.Idx → Elt F e) → Prog (TpuEff nD τ sig (Elt F) Λ₀ .tc) α) (Q : α → sProp 𝕄) :
    (owns (d : Thread nD τ) m q X : sProp 𝕄) ⊢ iprop((owns (d : Thread nD τ) m q X -∗ WP (k X) (fun a => Q a))
      -∗ WP ((Prog.lift (.load m (Rect.unit (s := s) off s.size inb).toLoadRect hl) : Prog (TpuEff nD τ sig (Elt F) Λ₀ .tc) _) >>= k) (fun a => Q a)) := by
  have := own_load (F := F) d (m := m) (q := q) (X := X) (r := Rect.unit (s := s) off s.size inb) (hl := hl) k Q
  rwa [read_full inb X] at this

/-- A store of the whole buffer. -/
theorem own_store_full {m : Memref sig .tc cs s e} {X : s.Idx → Elt F e} {off : Fin s.rank → ℕ} {inb : ∀ a, off a + s.size a ≤ s.size a} {w : s.Idx → Elt F e}
    {hx : (m.access (Rect.unit (s := s) off s.size inb)).Stores Finset.univ} {hm}
    (k : PUnit → Prog (TpuEff nD τ sig (Elt F) Λ₀ .tc) α) (Q : α → sProp 𝕄) :
    (owns (d : Thread nD τ) m fullShare X : sProp 𝕄) ⊢ iprop((owns (d : Thread nD τ) m fullShare w -∗ WP (k ⟨⟩) (fun a => Q a))
      -∗ WP ((Prog.lift (.store m (Rect.unit (s := s) off s.size inb) w Finset.univ hx hm) : Prog (TpuEff nD τ sig (Elt F) Λ₀ .tc) _) >>= k) (fun a => Q a)) := by
  have := own_store (F := F) d (m := m) (X := X) (r := Rect.unit (s := s) off s.size inb) (w := w) (hx := hx) (hm := hm) k Q
  rwa [overlay_full inb X w] at this

end

end Cert.Proof.Run

end
-- ==== Proof.Lstm.lean ====
/-
  The recurrent kernel's body: what it computes, as functions of the values its input buffers hold, and its run over the
  buffers held at what they read.
-/
module

public import proofs.«01_k».proof.Proof.Steps

@[expose] public section

set_option maxRecDepth 16384

noncomputable section

namespace Cert.Proof.Run

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic

variable {F : FTy → Type}

local notation "𝕄" => MT nD τ sig (HIx 1) (Elt F) ℕ UU ℕ

/-! ## The values -/

section Values

variable [FloatOps F]

/-- Contents of a buffer of shape `s` and element type `e`. -/
abbrev Cn (F : FTy → Type) (s : Shape) (e : EltTy) : Type := s.Idx → Elt F e

def ixG (r : ℕ) (hr : r < 800) (j : Fin 1024) : S800x1024.Idx := fun | 0 => ⟨r, hr⟩ | 1 => j | ⟨_ + 2, h⟩ => absurd h (Nat.not_lt.2 (Nat.le_add_left _ _))
def ixH (r : ℕ) (hr : r < 16) (j : Fin 256) : S16x256.Idx := fun | 0 => ⟨r, hr⟩ | 1 => j | ⟨_ + 2, h⟩ => absurd h (Nat.not_lt.2 (Nat.le_add_left _ _))
def ixL (r : Fin 16) (j : Fin 256) : S1x16x256.Idx := fun | 0 => ⟨0, Nat.one_pos⟩ | 1 => r | 2 => j | ⟨_ + 3, h⟩ => absurd h (Nat.not_lt.2 (Nat.le_add_left _ _))

/-- The sixteen rows of the gates' input that step `n` reads. -/
def rowOf (n : ℕ) (G : Cn F S800x1024 .f32) : Cn F S16x1024 .f32 :=
  fun j => G (ixG ((16 * n + (j 0).val) % 800) (Nat.mod_lt _ (by decide)) (j 1))

/-- One step of the recurrence on (hidden, cell). -/
def cellStep (hw lw : Cn F S256x1024 .bf16) (G : Cn F S800x1024 .f32) (n : ℕ) (s : Cn F S16x256 .f32 × Cn F S16x256 .f32) : Cn F S16x256 .f32 × Cn F S16x256 .f32 :=
  (k1_pay10 s.1 s.2 hw lw (rowOf n G), k1_pay9 s.1 s.2 hw lw (rowOf n G))

/-- The recurrence's state after `n` steps. -/
def stAt (hw lw : Cn F S256x1024 .bf16) (G : Cn F S800x1024 .f32) (s0 : Cn F S16x256 .f32 × Cn F S16x256 .f32) : ℕ → Cn F S16x256 .f32 × Cn F S16x256 .f32
  | 0 => s0
  | n + 1 => cellStep hw lw G n (stAt hw lw G s0 n)

/-- What step `n` stores: its hidden state. -/
def outAt (hw lw : Cn F S256x1024 .bf16) (G : Cn F S800x1024 .f32) (s0 : Cn F S16x256 .f32 × Cn F S16x256 .f32) (n : ℕ) : Cn F S16x256 .f32 :=
  k1_pay11 (stAt hw lw G s0 n).1 (stAt hw lw G s0 n).2 hw lw (rowOf n G)

/-- All fifty steps' hidden states, step by step. -/
def outY (hw lw : Cn F S256x1024 .bf16) (G : Cn F S800x1024 .f32) (s0 : Cn F S16x256 .f32 × Cn F S16x256 .f32) : Cn F S800x256 .f32 :=
  fun y => outAt hw lw G s0 ((y 0).val / 16) (ixH ((y 0).val % 16) (Nat.mod_lt _ (by decide)) (y 1))

/-- Layer 0 and layer 1 of a two-layer state. -/
def lay0 (X : Cn F S2x16x256 .f32) : Cn F S1x16x256 .f32 := fun j => X ((Rect.unit (s := S2x16x256) ![0, 0, 0] S1x16x256.size inb_S2x16x256_S1x16x256_0_0_0).emb j)
def lay1 (X : Cn F S2x16x256 .f32) : Cn F S1x16x256 .f32 := fun j => X ((Rect.unit (s := S2x16x256) ![1, 0, 0] S1x16x256.size inb_S2x16x256_S1x16x256_1_0_0).emb j)

/-- Two layers put together. -/
def twoL (a b : Cn F S1x16x256 .f32) : Cn F S2x16x256 .f32 := fun y => if (y 0).val = 0 then a (ixL (y 1) (y 2)) else b (ixL (y 1) (y 2))

/-- The kernel's input buffers' contents that the recurrence reads. -/
structure Ins (F : FTy → Type) where
  e : Cn F S800x64 .f32
  ih0h : Cn F S64x1024 .bf16
  ih0l : Cn F S64x1024 .bf16
  hh0h : Cn F S256x1024 .bf16
  hh0l : Cn F S256x1024 .bf16
  b0 : Cn F S1x1024 .f32
  ih1h : Cn F S256x1024 .bf16
  ih1l : Cn F S256x1024 .bf16
  hh1h : Cn F S256x1024 .bf16
  hh1l : Cn F S256x1024 .bf16
  b1 : Cn F S1x1024 .f32
  h0 : Cn F S2x16x256 .f32
  c0 : Cn F S2x16x256 .f32

namespace Ins

variable (I : Ins F)

def g0 : Cn F S800x1024 .f32 := k1_pay7 I.e I.ih0h I.ih0l I.b0
def s0 : Cn F S16x256 .f32 × Cn F S16x256 .f32 := (k1_pay5 (lay0 I.h0), k1_pay6 (lay0 I.c0))
def y0 : Cn F S800x256 .f32 := outY I.hh0h I.hh0l I.g0 I.s0
def f0 : Cn F S16x256 .f32 × Cn F S16x256 .f32 := stAt I.hh0h I.hh0l I.g0 I.s0 50
def g1 : Cn F S800x1024 .f32 := k1_pay16 I.y0 I.ih1h I.ih1l I.b1
def s1 : Cn F S16x256 .f32 × Cn F S16x256 .f32 := (k1_pay14 (lay1 I.h0), k1_pay15 (lay1 I.c0))
def y1 : Cn F S800x256 .f32 := outY I.hh1h I.hh1l I.g1 I.s1
def f1 : Cn F S16x256 .f32 × Cn F S16x256 .f32 := stAt I.hh1h I.hh1l I.g1 I.s1 50
/-- The last layer's hidden states, batch row by batch row. -/
def yb : Cn F S800x256 .f32 := k1_pay3 I.y1
/-- The final hidden and cell states of the two layers. -/
def hn : Cn F S2x16x256 .f32 := twoL (k1_pay12 I.f0.1) (k1_pay1 I.f1.1)
def cn : Cn F S2x16x256 .f32 := twoL (k1_pay13 I.f0.2) (k1_pay2 I.f1.2)

end Ins

end Values

/-! ## Offsets and blocks -/

theorem off1_eq : ∀ t : Fin k1_t1_loop.trips, k1_off1 t = ![16 * t.val, 0] := by decide +kernel
theorem off2_eq : ∀ t : Fin k1_t1_loop.trips, k1_off2 t = ![16 * t.val, 0] := by decide +kernel
theorem off3_eq : ∀ t : Fin k1_t2_loop.trips, k1_off3 t = ![16 * t.val, 0] := by decide +kernel
theorem off4_eq : ∀ t : Fin k1_t2_loop.trips, k1_off4 t = ![16 * t.val, 0] := by decide +kernel

/-- A load of step `n`'s rows. -/
theorem rows_read (n : ℕ) (hn : n < 50) (G : Cn F S800x1024 .f32) (off : Fin 2 → ℕ) (hoff : off = ![16 * n, 0]) (inb) :
    (fun j => G ((Rect.unit (s := S800x1024) off S16x1024.size inb).emb j)) = rowOf n G := by
  subst hoff
  funext j
  refine congrArg G ?_
  funext a
  have h0 : (j 0).val < 16 := (j 0).isLt
  match a with
  | 0 => apply Fin.ext; rw [Rect.emb_apply]; show 16 * n + 1 * (j 0).val = (16 * n + (j 0).val) % 800; omega
  | 1 => apply Fin.ext; rw [Rect.emb_apply]; show 0 + 1 * (j 1).val = (j 1).val; omega

/-- A store of step `n`'s rows extends the rows known. -/
theorem rows_overlay (n : ℕ) (hn : n < 50) (X Z : Cn F S800x256 .f32) (w : Cn F S16x256 .f32) (off : Fin 2 → ℕ) (hoff : off = ![16 * n, 0]) (inb)
    (hX : ∀ y : S800x256.Idx, (y 0).val < 16 * n → X y = Z y)
    (hw : ∀ y : S800x256.Idx, (y 0).val / 16 = n → w (ixH ((y 0).val % 16) (Nat.mod_lt _ (by decide)) (y 1)) = Z y) :
    ∀ y : S800x256.Idx, (y 0).val < 16 * (n + 1) → (Rect.unit (s := S800x256) off S16x256.size inb).overlay X w y = Z y := by
  subst hoff
  intro y hy
  by_cases h : (y 0).val < 16 * n
  · rw [Rect.overlay_of_not_mem, hX y h]
    intro hm
    obtain ⟨x, hx⟩ := (Rect.unit (s := S800x256) ![16 * n, 0] S16x256.size inb).exists_idx_of_mem hm
    have h0 := congrArg (fun z : S800x256.Idx => (z 0).val) hx
    have h1 : 16 * n + 1 * (x 0).val = (y 0).val := h0
    omega
  · have e : (Rect.unit (s := S800x256) ![16 * n, 0] S16x256.size inb).emb (ixH ((y 0).val % 16) (Nat.mod_lt _ (by decide)) (y 1)) = y := by
      funext a
      match a with
      | 0 => apply Fin.ext; rw [Rect.emb_apply]; show 16 * n + 1 * ((y 0).val % 16) = (y 0).val; omega
      | 1 => apply Fin.ext; rw [Rect.emb_apply]; show 0 + 1 * (y 1).val = (y 1).val; omega
    refine (congrArg _ e).symm.trans ((Rect.overlay_emb (Rect.unit (s := S800x256) ![16 * n, 0] S16x256.size inb) X w _).trans (hw y (by omega)))

/-- The two layers stored one after the other, whatever was there. -/
theorem lay_overlay (X : Cn F S2x16x256 .f32) (a b : Cn F S1x16x256 .f32) (inb0) (inb1) :
    (Rect.unit (s := S2x16x256) ![1, 0, 0] S1x16x256.size inb1).overlay ((Rect.unit (s := S2x16x256) ![0, 0, 0] S1x16x256.size inb0).overlay X a) b = twoL a b := by
  funext y
  have hy0 : (y 0).val < 2 := (y 0).isLt
  by_cases h : (y 0).val = 0
  · rw [Rect.overlay_of_not_mem]
    · have e : (Rect.unit (s := S2x16x256) ![0, 0, 0] S1x16x256.size inb0).emb (ixL (y 1) (y 2)) = y := by
        funext c
        match c with
        | 0 => apply Fin.ext; rw [Rect.emb_apply]; show 0 + 1 * 0 = (y 0).val; omega
        | 1 => apply Fin.ext; rw [Rect.emb_apply]; show 0 + 1 * (y 1).val = (y 1).val; omega
        | 2 => apply Fin.ext; rw [Rect.emb_apply]; show 0 + 1 * (y 2).val = (y 2).val; omega
      refine (congrArg _ e).symm.trans ((Rect.overlay_emb (Rect.unit (s := S2x16x256) ![0, 0, 0] S1x16x256.size inb0) X a _).trans ?_)
      unfold twoL; rw [if_pos h]
    · intro hm
      obtain ⟨x, hx⟩ := (Rect.unit (s := S2x16x256) ![1, 0, 0] S1x16x256.size inb1).exists_idx_of_mem hm
      have h0 := congrArg (fun z : S2x16x256.Idx => (z 0).val) hx
      have h1 : 1 + 1 * (x 0).val = (y 0).val := h0
      omega
  · have e : (Rect.unit (s := S2x16x256) ![1, 0, 0] S1x16x256.size inb1).emb (ixL (y 1) (y 2)) = y := by
      funext c
      match c with
      | 0 => apply Fin.ext; rw [Rect.emb_apply]; show 1 + 1 * 0 = (y 0).val; omega
      | 1 => apply Fin.ext; rw [Rect.emb_apply]; show 0 + 1 * (y 1).val = (y 1).val; omega
      | 2 => apply Fin.ext; rw [Rect.emb_apply]; show 0 + 1 * (y 2).val = (y 2).val; omega
    refine (congrArg _ e).symm.trans ((Rect.overlay_emb (Rect.unit (s := S2x16x256) ![1, 0, 0] S1x16x256.size inb1) _ b _).trans ?_)
    unfold twoL; rw [if_neg h]

/-! ## The run -/

section Body

variable [FloatOps F] (d : Dev nD)

local notation "WP" => wp frame (wpE (defs₀ (F := F)) 𝒱₀ (d : Thread nD τ) none) Set.univ

theorem bindT {α β : Type} (p : Prog (TpuEff nD τ sig (Elt F) Λ₀ .tc) α) (k : α → Prog (TpuEff nD τ sig (Elt F) Λ₀ .tc) β) (Q : β → sProp 𝕄) :
    (WP p (fun a => WP (k a) (fun b => Q b))) ⊢ WP (p >>= k) (fun b => Q b) := by
  rw [wp_bind]

variable (i : grid1.Coords) (arg1 : Memref sig .tc .vmem S800x64 .f32) (harg1 : arg1.IsWhole) (arg2 : Memref sig .tc .vmem S64x1024 .bf16) (harg2 : arg2.IsWhole) (arg3 : Memref sig .tc .vmem S64x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S2x16x256 .f32) (harg12 : arg12.IsWhole) (arg13 : Memref sig .tc .vmem S2x16x256 .f32) (harg13 : arg13.IsWhole) (arg14 : Memref sig .tc .vmem S4096x256 .f32) (harg14 : arg14.IsWhole) (arg15 : Memref sig .tc .vmem S1x4096 .f32) (harg15 : arg15.IsWhole) (arg16 : Memref sig .tc .vmem S800x4096 .f32) (harg16 : arg16.IsWhole) (arg17 : Memref sig .tc .vmem S2x16x256 .f32) (harg17 : arg17.IsWhole) (arg18 : Memref sig .tc .vmem S2x16x256 .f32) (harg18 : arg18.IsWhole) (arg19 : Memref sig .tc .vmem S800x1024 .f32) (harg19 : arg19.IsWhole) (arg20 : Memref sig .tc .vmem S800x256 .f32) (harg20 : arg20.IsWhole) (arg21 : Memref sig .tc .vmem S800x256 .f32) (harg21 : arg21.IsWhole)

/-- The state between two steps of a layer: the weights, the gates' input, and the rows stored so far. -/
def LSt (aH aL : Memref sig .tc .vmem S256x1024 .bf16) (aG : Memref sig .tc .vmem S800x1024 .f32) (aY : Memref sig .tc .vmem S800x256 .f32)
    (hw lw : Cn F S256x1024 .bf16) (G : Cn F S800x1024 .f32) (s0 : Cn F S16x256 .f32 × Cn F S16x256 .f32) (n : ℕ) (acc : Cn F S16x256 .f32 × Cn F S16x256 .f32) : sProp 𝕄 :=
  iprop(⌜acc = stAt hw lw G s0 n⌝ ∗ owns (d : Thread nD τ) aH fullShare hw ∗ owns (d : Thread nD τ) aL fullShare lw ∗ owns (d : Thread nD τ) aG fullShare G
    ∗ ∃ X, ⌜∀ y : S800x256.Idx, (y 0).val < 16 * n → X y = outY hw lw G s0 y⌝ ∗ owns (d : Thread nD τ) aY fullShare X)

theorem out_row (hw lw : Cn F S256x1024 .bf16) (G : Cn F S800x1024 .f32) (s0 : Cn F S16x256 .f32 × Cn F S16x256 .f32) (n : ℕ) (y : S800x256.Idx) (hy : (y 0).val / 16 = n) :
    outAt hw lw G s0 n (ixH ((y 0).val % 16) (Nat.mod_lt _ (by decide)) (y 1)) = outY hw lw G s0 y := by
  subst hy; rfl

variable (k1_h1 : k1_cond1 i = 1#1)

/-- One step of layer 0. -/
theorem trip1_run (hw lw : Cn F S256x1024 .bf16) (G : Cn F S800x1024 .f32) (s0 : Cn F S16x256 .f32 × Cn F S16x256 .f32)
    (t : Fin k1_t1_loop.trips) (acc : Cn F S16x256 .f32 × Cn F S16x256 .f32) :
    LSt d arg4 arg5 arg19 arg21 hw lw G s0 t.val acc ⊢ WP (k1_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k1_h1  t acc) (fun a => LSt d arg4 arg5 arg19 arg21 hw lw G s0 (t.val + 1) a) := by
  have ht : t.val < 50 := t.isLt
  unfold LSt
  iintro ⟨%hacc, HH, HL, HG, %X, %hX, HY⟩
  subst hacc
  unfold k1_t1_body
  dsimp only
  iapply (own_load_full d _ _) $$ HH; iintro HH
  iapply (own_load_full d _ _) $$ HL; iintro HL
  iapply (own_load d _ _) $$ HG; iintro HG
  iapply (own_load d _ _) $$ HY; iintro HY
  iapply (own_store d _ _) $$ HY; iintro HY
  rw [rows_read t.val ht G _ (off1_eq t)]
  iapply (le_wp_ret _ _)
  isplitr
  · ipureintro; rfl
  isplitl [HH]; · iexact HH
  isplitl [HL]; · iexact HL
  isplitl [HG]; · iexact HG
  iexists _
  isplitr
  swap
  · iexact HY
  ipureintro
  exact rows_overlay t.val ht X (outY hw lw G s0) _ _ (off2_eq t) _ hX (fun y hy => out_row hw lw G s0 t.val y hy)

/-- One step of layer 1. -/
theorem trip2_run (hw lw : Cn F S256x1024 .bf16) (G : Cn F S800x1024 .f32) (s0 : Cn F S16x256 .f32 × Cn F S16x256 .f32) (v38_1 : FVec F S16x256 .f32)
    (t : Fin k1_t2_loop.trips) (acc : Cn F S16x256 .f32 × Cn F S16x256 .f32) :
    LSt d arg9 arg10 arg19 arg20 hw lw G s0 t.val acc ⊢ WP (k1_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k1_h1 v38_1 t acc) (fun a => LSt d arg9 arg10 arg19 arg20 hw lw G s0 (t.val + 1) a) := by
  have ht : t.val < 50 := t.isLt
  unfold LSt
  iintro ⟨%hacc, HH, HL, HG, %X, %hX, HY⟩
  subst hacc
  unfold k1_t2_body
  dsimp only
  iapply (own_load_full d _ _) $$ HH; iintro HH
  iapply (own_load_full d _ _) $$ HL; iintro HL
  iapply (own_load d _ _) $$ HG; iintro HG
  iapply (own_load d _ _) $$ HY; iintro HY
  iapply (own_store d _ _) $$ HY; iintro HY
  rw [rows_read t.val ht G _ (off3_eq t)]
  iapply (le_wp_ret _ _)
  isplitr
  · ipureintro; rfl
  isplitl [HH]; · iexact HH
  isplitl [HL]; · iexact HL
  isplitl [HG]; · iexact HG
  iexists _
  isplitr
  swap
  · iexact HY
  ipureintro
  exact rows_overlay t.val ht X (outY hw lw G s0) _ _ (off4_eq t) _ hX (fun y hy => out_row hw lw G s0 t.val y hy)

/-- The recurrence's thirteen inputs held at `I`. -/
def inH (I : Ins F) : sProp 𝕄 := iprop(owns (d : Thread nD τ) arg1 fullShare I.e ∗ owns (d : Thread nD τ) arg2 fullShare I.ih0h ∗ owns (d : Thread nD τ) arg3 fullShare I.ih0l ∗ owns (d : Thread nD τ) arg4 fullShare I.hh0h ∗ owns (d : Thread nD τ) arg5 fullShare I.hh0l ∗ owns (d : Thread nD τ) arg6 fullShare I.b0 ∗ owns (d : Thread nD τ) arg7 fullShare I.ih1h ∗ owns (d : Thread nD τ) arg8 fullShare I.ih1l ∗ owns (d : Thread nD τ) arg9 fullShare I.hh1h ∗ owns (d : Thread nD τ) arg10 fullShare I.hh1l ∗ owns (d : Thread nD τ) arg11 fullShare I.b1 ∗ owns (d : Thread nD τ) arg12 fullShare I.h0 ∗ owns (d : Thread nD τ) arg13 fullShare I.c0)

/-- Layer 0: the gates' input, the fifty steps, the final hidden state stored. -/
theorem layer0_run (I : Ins F) (X17 : Cn F S2x16x256 .f32) (X19 : Cn F S800x1024 .f32) (X21 : Cn F S800x256 .f32) (Q : FVec F S16x256 .f32 → sProp 𝕄) :
    iprop(inH d arg1 arg2 arg3 arg4 arg5 arg6 arg7 arg8 arg9 arg10 arg11 arg12 arg13 I ∗ owns (d : Thread nD τ) arg17 fullShare X17 ∗ owns (d : Thread nD τ) arg19 fullShare X19 ∗ owns (d : Thread nD τ) arg21 fullShare X21)
      ⊢ iprop((iprop(inH d arg1 arg2 arg3 arg4 arg5 arg6 arg7 arg8 arg9 arg10 arg11 arg12 arg13 I
          ∗ owns (d : Thread nD τ) arg17 fullShare ((Rect.unit (s := S2x16x256) ![0, 0, 0] S1x16x256.size inb_S2x16x256_S1x16x256_0_0_0).overlay X17 (k1_pay12 I.f0.1))
          ∗ owns (d : Thread nD τ) arg19 fullShare I.g0 ∗ owns (d : Thread nD τ) arg21 fullShare I.y0) -∗ Q I.f0.2)
        -∗ WP (k1_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k1_h1) (fun a => Q a)) := by
  rw [k1_part1_eq_skeleton]
  unfold k1_part1_skel inH
  iintro ⟨⟨H1, H2, H3, H4, H5, H6, H7, H8, H9, H10, H11, H12, H13⟩, H17, H19, H21⟩ Hk
  iapply (own_load_full d _ _) $$ H1; iintro H1
  iapply (own_load_full d _ _) $$ H2; iintro H2
  iapply (own_load_full d _ _) $$ H3; iintro H3
  iapply (own_load_full d _ _) $$ H6; iintro H6
  iapply (own_load d _ _) $$ H12; iintro H12
  iapply (own_load d _ _) $$ H13; iintro H13
  iapply (own_load_full d _ _) $$ H19; iintro H19
  iapply (own_store_full d _ _) $$ H19; iintro H19
  iapply (bindT d _ _ _)
  iapply (Scf.wp_for (I := fun n a => LSt d arg4 arg5 arg19 arg21 I.hh0h I.hh0l I.g0 I.s0 n a)
    (hbody := fun t a => trip1_run d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k1_h1 I.hh0h I.hh0l I.g0 I.s0  t a))
  isplitl [H4 H5 H19 H21]
  · unfold LSt
    isplitr; · ipureintro; rfl
    isplitl [H4]; · iexact H4
    isplitl [H5]; · iexact H5
    isplitl [H19]; · iexact H19
    iexists _
    isplitr
    swap
    · iexact H21
    ipureintro
    intro y hy
    exact absurd hy (Nat.not_lt_zero _)
  iintro %acc HS
  unfold LSt
  icases HS with ⟨%hacc, H4, H5, H19, %Z, %hZ, H21⟩
  obtain rfl : Z = I.y0 := funext fun y => hZ y (by
    have h0 : (y 0).val < 800 := (y 0).isLt
    have h1 : Scf.trips k1_t1_loop.lb k1_t1_loop.ub k1_t1_loop.st = 50 := by decide
    omega)
  have hacc' : acc = I.f0 := hacc
  subst hacc'
  dsimp only
  iapply (own_load d _ _) $$ H17; iintro H17
  iapply (own_store d _ _) $$ H17; iintro H17
  iapply (le_wp_ret _ _)
  iapply Hk
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H17]; · iexact H17
  isplitl [H19]; · iexact H19
  iexact H21

/-- Layer 1: the cell state of layer 0 stored, the gates' input, the fifty steps. -/
theorem layer1_run (I : Ins F) (X18 : Cn F S2x16x256 .f32) (X19 : Cn F S800x1024 .f32) (X20 : Cn F S800x256 .f32)
    (Q : (Σ' (_ : FVec F S16x256 .f32), FVec F S16x256 .f32) → sProp 𝕄) :
    iprop(inH d arg1 arg2 arg3 arg4 arg5 arg6 arg7 arg8 arg9 arg10 arg11 arg12 arg13 I ∗ owns (d : Thread nD τ) arg18 fullShare X18 ∗ owns (d : Thread nD τ) arg19 fullShare X19 ∗ owns (d : Thread nD τ) arg20 fullShare X20 ∗ owns (d : Thread nD τ) arg21 fullShare I.y0)
      ⊢ iprop((iprop(inH d arg1 arg2 arg3 arg4 arg5 arg6 arg7 arg8 arg9 arg10 arg11 arg12 arg13 I
          ∗ owns (d : Thread nD τ) arg18 fullShare ((Rect.unit (s := S2x16x256) ![0, 0, 0] S1x16x256.size inb_S2x16x256_S1x16x256_0_0_0).overlay X18 (k1_pay13 I.f0.2))
          ∗ owns (d : Thread nD τ) arg19 fullShare I.g1 ∗ owns (d : Thread nD τ) arg20 fullShare I.y1 ∗ owns (d : Thread nD τ) arg21 fullShare I.y0) -∗ Q ⟨I.f1.1, I.f1.2⟩)
        -∗ WP (k1_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k1_h1 I.f0.2) (fun a => Q a)) := by
  rw [k1_part2_eq_skeleton]
  unfold k1_part2_skel inH
  iintro ⟨⟨H1, H2, H3, H4, H5, H6, H7, H8, H9, H10, H11, H12, H13⟩, H18, H19, H20, H21⟩ Hk
  iapply (own_load d _ _) $$ H18; iintro H18
  iapply (own_store d _ _) $$ H18; iintro H18
  iapply (own_load_full d _ _) $$ H21; iintro H21
  iapply (own_load_full d _ _) $$ H7; iintro H7
  iapply (own_load_full d _ _) $$ H8; iintro H8
  iapply (own_load_full d _ _) $$ H11; iintro H11
  iapply (own_load d _ _) $$ H12; iintro H12
  iapply (own_load d _ _) $$ H13; iintro H13
  iapply (own_load_full d _ _) $$ H19; iintro H19
  iapply (own_store_full d _ _) $$ H19; iintro H19
  iapply (bindT d _ _ _)
  iapply (Scf.wp_for (I := fun n a => LSt d arg9 arg10 arg19 arg20 I.hh1h I.hh1l I.g1 I.s1 n a)
    (hbody := fun t a => trip2_run d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k1_h1 I.hh1h I.hh1l I.g1 I.s1 I.f0.2 t a))
  isplitl [H9 H10 H19 H20]
  · unfold LSt
    isplitr; · ipureintro; rfl
    isplitl [H9]; · iexact H9
    isplitl [H10]; · iexact H10
    isplitl [H19]; · iexact H19
    iexists _
    isplitr
    swap
    · iexact H20
    ipureintro
    intro y hy
    exact absurd hy (Nat.not_lt_zero _)
  iintro %acc HS
  unfold LSt
  icases HS with ⟨%hacc, H9, H10, H19, %Z, %hZ, H20⟩
  obtain rfl : Z = I.y1 := funext fun y => hZ y (by
    have h0 : (y 0).val < 800 := (y 0).isLt
    have h1 : Scf.trips k1_t2_loop.lb k1_t2_loop.ub k1_t2_loop.st = 50 := by decide
    omega)
  have hacc' : acc = I.f1 := hacc
  subst hacc'
  dsimp only
  iapply (le_wp_ret _ _)
  iapply Hk
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H18]; · iexact H18
  isplitl [H19]; · iexact H19
  isplitl [H20]; · iexact H20
  iexact H21

/-- The projection's block: computed from the hidden states, the block of the weights and of the bias. -/
theorem tail_run (YB : Cn F S800x256 .f32) (X14 : Cn F S4096x256 .f32) (X15 : Cn F S1x4096 .f32) (X16 : Cn F S800x4096 .f32) (Q : PUnit → sProp 𝕄) :
    iprop(owns (d : Thread nD τ) arg14 fullShare X14 ∗ owns (d : Thread nD τ) arg15 fullShare X15 ∗ owns (d : Thread nD τ) arg16 fullShare X16 ∗ owns (d : Thread nD τ) arg21 fullShare YB)
      ⊢ iprop((iprop(owns (d : Thread nD τ) arg14 fullShare X14 ∗ owns (d : Thread nD τ) arg15 fullShare X15 ∗ owns (d : Thread nD τ) arg16 fullShare (k1_pay4 YB X14 X15) ∗ owns (d : Thread nD τ) arg21 fullShare YB) -∗ Q ⟨⟩)
        -∗ WP (do
  let v3 : Vec F S800x256 .f32 ← Prog.lift (.load arg21 (Rect.unit (s := S800x256) ![0, 0] S800x256.size inb_S800x256_S800x256_0_0).toLoadRect (View.loadsAt_vmem h_S800x256))
  let v4 : Vec F S4096x256 .f32 ← Prog.lift (.load arg14 (Rect.unit (s := S4096x256) ![0, 0] S4096x256.size inb_S4096x256_S4096x256_0_0).toLoadRect (View.loadsAt_vmem h_S4096x256))
  let v6 : Vec F S1x4096 .f32 ← Prog.lift (.load arg15 (Rect.unit (s := S1x4096) ![0, 0] S1x4096.size inb_S1x4096_S1x4096_0_0).toLoadRect (View.loadsAt_vmem h_S1x4096))
  let v10 : Vec F S800x4096 .f32 ← Prog.lift (.load arg16 (Rect.unit (s := S800x4096) ![0, 0] S800x4096.size inb_S800x4096_S800x4096_0_0).toLoadRect (View.loadsAt_vmem h_S800x4096))
  Prog.lift (.store arg16 (Rect.unit (s := S800x4096) ![0, 0] S800x4096.size inb_S800x4096_S800x4096_0_0) (k1_pay4 v3 v4 v6) Finset.univ (View.stores_vmem_bits_univ h_S800x4096 rfl) (.inl rfl))
  pure ⟨⟩) (fun a => Q a)) := by
  iintro ⟨H14, H15, H16, H21⟩ Hk
  iapply (own_load_full d _ _) $$ H21; iintro H21
  iapply (own_load_full d _ _) $$ H14; iintro H14
  iapply (own_load_full d _ _) $$ H15; iintro H15
  iapply (own_load_full d _ _) $$ H16; iintro H16
  iapply (own_store_full d _ _) $$ H16; iintro H16
  iapply (le_wp_ret _ _)
  iapply Hk
  isplitl [H14]; · iexact H14
  isplitl [H15]; · iexact H15
  isplitl [H16]; · iexact H16
  iexact H21

/-- The kernel at its first point: the recurrence, then the projection's first block. -/
theorem first_run (hc : k1_cond1 i = 1#1) (I : Ins F) (X14 : Cn F S4096x256 .f32) (X15 : Cn F S1x4096 .f32) (X16 : Cn F S800x4096 .f32) (X17 X18 : Cn F S2x16x256 .f32)
    (X19 : Cn F S800x1024 .f32) (X20 X21 : Cn F S800x256 .f32) (Q : PUnit → sProp 𝕄) :
    iprop(inH d arg1 arg2 arg3 arg4 arg5 arg6 arg7 arg8 arg9 arg10 arg11 arg12 arg13 I ∗ owns (d : Thread nD τ) arg14 fullShare X14 ∗ owns (d : Thread nD τ) arg15 fullShare X15 ∗ owns (d : Thread nD τ) arg16 fullShare X16
        ∗ owns (d : Thread nD τ) arg17 fullShare X17 ∗ owns (d : Thread nD τ) arg18 fullShare X18 ∗ owns (d : Thread nD τ) arg19 fullShare X19 ∗ owns (d : Thread nD τ) arg20 fullShare X20 ∗ owns (d : Thread nD τ) arg21 fullShare X21)
      ⊢ iprop((iprop(inH d arg1 arg2 arg3 arg4 arg5 arg6 arg7 arg8 arg9 arg10 arg11 arg12 arg13 I ∗ owns (d : Thread nD τ) arg14 fullShare X14 ∗ owns (d : Thread nD τ) arg15 fullShare X15 ∗ owns (d : Thread nD τ) arg16 fullShare (k1_pay4 I.yb X14 X15)
          ∗ owns (d : Thread nD τ) arg17 fullShare I.hn ∗ owns (d : Thread nD τ) arg18 fullShare I.cn ∗ owns (d : Thread nD τ) arg19 fullShare I.g1 ∗ owns (d : Thread nD τ) arg20 fullShare I.y1 ∗ owns (d : Thread nD τ) arg21 fullShare I.yb) -∗ Q ⟨⟩)
        -∗ WP (cc1__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun a => Q a)) := by
  rw [cc1__fused_body_eq_skeleton]
  unfold cc1__fused_body_skel
  iintro ⟨HI, H14, H15, H16, H17, H18, H19, H20, H21⟩ Hk
  dsimp only
  rw [dif_pos hc]
  iapply (bindT d _ _ _)
  iapply (layer0_run d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc I X17 X19 X21 _) $$ [HI H17 H19 H21]
  · isplitl [HI]; · iexact HI
    isplitl [H17]; · iexact H17
    isplitl [H19]; · iexact H19
    iexact H21
  iintro ⟨HI, H17, H19, H21⟩
  iapply (bindT d _ _ _)
  iapply (layer1_run d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc I X18 _ X20 _) $$ [HI H18 H19 H20 H21]
  · isplitl [HI]; · iexact HI
    isplitl [H18]; · iexact H18
    isplitl [H19]; · iexact H19
    isplitl [H20]; · iexact H20
    iexact H21
  iintro ⟨HI, H18, H19, H20, H21⟩
  dsimp only
  iapply (own_load d _ _) $$ H17; iintro H17
  iapply (own_store d _ _) $$ H17; iintro H17
  iapply (own_load d _ _) $$ H18; iintro H18
  iapply (own_store d _ _) $$ H18; iintro H18
  iapply (own_load_full d _ _) $$ H20; iintro H20
  iapply (own_load_full d _ _) $$ H21; iintro H21
  iapply (own_store_full d _ _) $$ H21; iintro H21
  rw [lay_overlay, lay_overlay]
  iapply (tail_run d arg14 arg15 arg16 arg21 I.yb X14 X15 X16 _) $$ [H14 H15 H16 H21]
  · isplitl [H14]; · iexact H14
    isplitl [H15]; · iexact H15
    isplitl [H16]; · iexact H16
    iexact H21
  iintro ⟨H14, H15, H16, H21⟩
  iapply Hk
  isplitl [HI]; · iexact HI
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The kernel at a later point: a block of the projection. -/
theorem later_run (hc : ¬ k1_cond1 i = 1#1) (YB : Cn F S800x256 .f32) (X14 : Cn F S4096x256 .f32) (X15 : Cn F S1x4096 .f32) (X16 : Cn F S800x4096 .f32) (Q : PUnit → sProp 𝕄) :
    iprop(owns (d : Thread nD τ) arg14 fullShare X14 ∗ owns (d : Thread nD τ) arg15 fullShare X15 ∗ owns (d : Thread nD τ) arg16 fullShare X16 ∗ owns (d : Thread nD τ) arg21 fullShare YB)
      ⊢ iprop((iprop(owns (d : Thread nD τ) arg14 fullShare X14 ∗ owns (d : Thread nD τ) arg15 fullShare X15 ∗ owns (d : Thread nD τ) arg16 fullShare (k1_pay4 YB X14 X15) ∗ owns (d : Thread nD τ) arg21 fullShare YB) -∗ Q ⟨⟩)
        -∗ WP (cc1__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun a => Q a)) := by
  rw [cc1__fused_body_eq_skeleton]
  unfold cc1__fused_body_skel
  iintro H Hk
  dsimp only
  rw [dif_neg hc]
  iapply (tail_run d arg14 arg15 arg16 arg21 YB X14 X15 X16 _) $$ H
  iexact Hk

end Body

end Cert.Proof.Run

end
-- ==== Proof.Region.lean ====
/-
  The TensorCore's pallas_call: what each point of its grid leaves in the staging buffers (proof data that
  relate, since the last block of the projection overhangs its array), the body obligation, and the call as a
  region of @main.
-/
module

public import proofs.«01_k».proof.Proof.Lstm
public import Idealize.ShloMosaic.Lib.Pipeline.ArrRel

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 1) (Elt F) ℕ UU ℕ

/-- What a core's TensorCore buffers hold, as the pipeline reads them. -/
abbrev Val1 (F : FTy → Type) : Type := (c : Dev nD) → (b : Ref sig .tc) → Buf (Elt F) ((c : Thread nD τ).loc b)

variable (V : Val1 F)

/-- The recurrence's inputs, read off the buffers. -/
def insOf (c : Dev nD) : Ins F where
  e := V c main_v4
  ih0h := V c main_v10
  ih0l := V c main_v13
  hh0h := V c main_v15
  hh0l := V c main_v18
  b0 := V c main_v6
  ih1h := V c main_v20
  ih1l := V c main_v23
  hh1h := V c main_v25
  hh1l := V c main_v28
  b1 := V c main_v8
  h0 := V c main_arg1
  c0 := V c main_arg2

/-- The block of the projection's weights a fetch at `t` stages over contents `d`, and of its bias. -/
def fwAt (c : Dev nD) (t : Fin cfg1.N) (d : Cn F S4096x256 .f32) : Cn F S4096x256 .f32 :=
  (cfg1.win 13).fill (grid1.coords t) d (((cfg1.win 13).blk t).view.read (Elt F) (V c main_arg12))
def fbAt (c : Dev nD) (t : Fin cfg1.N) (d : Cn F S1x4096 .f32) : Cn F S1x4096 .f32 :=
  (cfg1.win 14).fill (grid1.coords t) d (((cfg1.win 14).blk t).view.read (Elt F) (V c main_v29))

/-- What holds between points: the scratch buffers, the hidden states in the third once the first point has run. -/
def Φ1 (c : Dev nD) (n : ℕ) : sProp 𝕄 :=
  iprop(∃ (X19 : Cn F S800x1024 .f32) (X20 X21 : Cn F S800x256 .f32), ⌜n ≠ 0 → X21 = (insOf V c).yb⌝
    ∗ owns (c : Thread nD τ) (Memref.whole cc1_scratch0) fullShare X19
    ∗ owns (c : Thread nD τ) (Memref.whole cc1_scratch1) fullShare X20
    ∗ owns (c : Thread nD τ) (Memref.whole cc1_scratch2) fullShare X21)

/-- What the TensorCore's recorded waits lie within: levels at most `n`. -/
def recB (c : Dev nD) (n : ℕ) : Set (SemLoc sig × HIx 1) := {p | (K (F := F)).lev ((c : Thread nD τ), p.1) p.2 ≤ n}

/-- The proof data. -/
def rd1 (b : ℕ) (c : Dev nD) : RDat τ (Elt F) (HIx 1) ℕ UU ℕ cfg1 c where
  A w := V c (Pipeline.arrRef spec1 w)
  after w t := match w with
    | ⟨0, _⟩ => fun _ X => X = (insOf V c).e
    | ⟨1, _⟩ => fun _ X => X = (insOf V c).ih0h
    | ⟨2, _⟩ => fun _ X => X = (insOf V c).ih0l
    | ⟨3, _⟩ => fun _ X => X = (insOf V c).hh0h
    | ⟨4, _⟩ => fun _ X => X = (insOf V c).hh0l
    | ⟨5, _⟩ => fun _ X => X = (insOf V c).b0
    | ⟨6, _⟩ => fun _ X => X = (insOf V c).ih1h
    | ⟨7, _⟩ => fun _ X => X = (insOf V c).ih1l
    | ⟨8, _⟩ => fun _ X => X = (insOf V c).hh1h
    | ⟨9, _⟩ => fun _ X => X = (insOf V c).hh1l
    | ⟨10, _⟩ => fun _ X => X = (insOf V c).b1
    | ⟨11, _⟩ => fun _ X => X = (insOf V c).h0
    | ⟨12, _⟩ => fun _ X => X = (insOf V c).c0
    | ⟨13, _⟩ => fun _ _ => True
    | ⟨14, _⟩ => fun _ _ => True
    | ⟨15, _⟩ => fun _ X => ∃ dw db, X = k1_pay4 (insOf V c).yb (fwAt V c t dw) (fbAt V c t db)
    | ⟨16, _⟩ => fun _ X => X = (insOf V c).hn
    | ⟨17, _⟩ => fun _ X => X = (insOf V c).cn
    | ⟨n + 18, h⟩ => absurd (show n + 18 < 18 from h) (by omega)
  Φ t := Φ1 V c t.val
  q _ := fullShare
  owed _ := 0
  recorded _ := recB (F := F) c b

variable (b : ℕ)

/-- A fetch of an uncut block stages the array's element under each index. -/
theorem fetched_apply {cfg : Pipeline.Cfg sig Λ₀} {c : Dev nD} (rd : RDat τ (Elt F) (HIx 1) ℕ UU ℕ cfg c) (w : Fin cfg.W) (t : Fin cfg.N)
    (h : ∀ a, (cfg.win w).clip (cfg.grid.coords t) a = none) (d : (cfg.win w).block.Idx → Elt F (cfg.win w).elt) (j : (cfg.win w).block.Idx) :
    rd.fetched w t d j = ((cfg.win w).blk t).view.read (Elt F) (rd.A w) fun a => ⟨(j a).val, by
      show (j a).val < (cfg.win w).xsize (cfg.grid.coords t) a
      have := (j a).isLt; unfold Pipeline.Window.xsize; rw [h a]; exact this⟩ := by
  have hm : (cfg.win w).moved (cfg.grid.coords t) j = true :=
    ((cfg.win w).moved_iff _ j).mpr fun a => by have := (j a).isLt; unfold Pipeline.Window.xsize; rw [h a]; exact this
  unfold RDat.fetched Pipeline.Window.fill
  rw [dif_pos hm]
  rfl

theorem idx2 (f : Fin 2 → ℕ) (h0 : f 0 = 0) (h1 : f 1 = 0) : ∀ a, f a = 0 := Fin.forall_fin_two.2 ⟨h0, h1⟩
theorem idx3 (f : Fin 3 → ℕ) (h0 : f 0 = 0) (h1 : f 1 = 0) (h2 : f 2 = 0) : ∀ a, f a = 0 := by
  intro a; fin_cases a; exacts [h0, h1, h2]

theorem fetched0 (c : Dev nD) (t : Fin cfg1.N) (d) : (rd1 V b c).fetched 0 t d = (insOf V c).e := by
  funext j
  rw [fetched_apply (rd1 V b c) 0 t (fun _ => rfl)]
  refine congrArg (V c main_v4) (funext fun a => Fin.ext ?_)
  exact Pipeline.Window.rect_emb_val_of_index_zero win1_0 t a (idx2 (cc1_transform_0 (grid1.coords t)) rfl rfl a) _
theorem finds0 (c : Dev nD) (t : Fin cfg1.N) (X) (h : (rd1 V b c).Finds 0 t X) : X = (insOf V c).e := by
  by_cases ht : t.val = 0
  · obtain ⟨d, rfl⟩ := ((rd1 V b c).finds_of_fetch ((fetch1_0 t).2 (by rw [ht])) X).1 h
    exact fetched0 V b c t d
  · have hN : t.val < 25 := lt_of_lt_of_eq t.isLt N_1
    have hf : (cfg1.win 0).fetch t = false := Bool.eq_false_iff.2 fun h' => ht (by have := (fetch1_0 t).1 h'; omega)
    rcases ((rd1 V b c).finds_of_pos hf ht X).1 h with h' | ⟨_, _, h'⟩
    · exact absurd h' (by rw [show (cfg1.win 0).flush _ = false from by rfl]; exact Bool.false_ne_true)
    · exact h'
theorem fetched1 (c : Dev nD) (t : Fin cfg1.N) (d) : (rd1 V b c).fetched 1 t d = (insOf V c).ih0h := by
  funext j
  rw [fetched_apply (rd1 V b c) 1 t (fun _ => rfl)]
  refine congrArg (V c main_v10) (funext fun a => Fin.ext ?_)
  exact Pipeline.Window.rect_emb_val_of_index_zero win1_1 t a (idx2 (cc1_transform_1 (grid1.coords t)) rfl rfl a) _
theorem finds1 (c : Dev nD) (t : Fin cfg1.N) (X) (h : (rd1 V b c).Finds 1 t X) : X = (insOf V c).ih0h := by
  by_cases ht : t.val = 0
  · obtain ⟨d, rfl⟩ := ((rd1 V b c).finds_of_fetch ((fetch1_1 t).2 (by rw [ht])) X).1 h
    exact fetched1 V b c t d
  · have hN : t.val < 25 := lt_of_lt_of_eq t.isLt N_1
    have hf : (cfg1.win 1).fetch t = false := Bool.eq_false_iff.2 fun h' => ht (by have := (fetch1_1 t).1 h'; omega)
    rcases ((rd1 V b c).finds_of_pos hf ht X).1 h with h' | ⟨_, _, h'⟩
    · exact absurd h' (by rw [show (cfg1.win 1).flush _ = false from by rfl]; exact Bool.false_ne_true)
    · exact h'
theorem fetched2 (c : Dev nD) (t : Fin cfg1.N) (d) : (rd1 V b c).fetched 2 t d = (insOf V c).ih0l := by
  funext j
  rw [fetched_apply (rd1 V b c) 2 t (fun _ => rfl)]
  refine congrArg (V c main_v13) (funext fun a => Fin.ext ?_)
  exact Pipeline.Window.rect_emb_val_of_index_zero win1_2 t a (idx2 (cc1_transform_2 (grid1.coords t)) rfl rfl a) _
theorem finds2 (c : Dev nD) (t : Fin cfg1.N) (X) (h : (rd1 V b c).Finds 2 t X) : X = (insOf V c).ih0l := by
  by_cases ht : t.val = 0
  · obtain ⟨d, rfl⟩ := ((rd1 V b c).finds_of_fetch ((fetch1_2 t).2 (by rw [ht])) X).1 h
    exact fetched2 V b c t d
  · have hN : t.val < 25 := lt_of_lt_of_eq t.isLt N_1
    have hf : (cfg1.win 2).fetch t = false := Bool.eq_false_iff.2 fun h' => ht (by have := (fetch1_2 t).1 h'; omega)
    rcases ((rd1 V b c).finds_of_pos hf ht X).1 h with h' | ⟨_, _, h'⟩
    · exact absurd h' (by rw [show (cfg1.win 2).flush _ = false from by rfl]; exact Bool.false_ne_true)
    · exact h'
theorem fetched3 (c : Dev nD) (t : Fin cfg1.N) (d) : (rd1 V b c).fetched 3 t d = (insOf V c).hh0h := by
  funext j
  rw [fetched_apply (rd1 V b c) 3 t (fun _ => rfl)]
  refine congrArg (V c main_v15) (funext fun a => Fin.ext ?_)
  exact Pipeline.Window.rect_emb_val_of_index_zero win1_3 t a (idx2 (cc1_transform_3 (grid1.coords t)) rfl rfl a) _
theorem finds3 (c : Dev nD) (t : Fin cfg1.N) (X) (h : (rd1 V b c).Finds 3 t X) : X = (insOf V c).hh0h := by
  by_cases ht : t.val = 0
  · obtain ⟨d, rfl⟩ := ((rd1 V b c).finds_of_fetch ((fetch1_3 t).2 (by rw [ht])) X).1 h
    exact fetched3 V b c t d
  · have hN : t.val < 25 := lt_of_lt_of_eq t.isLt N_1
    have hf : (cfg1.win 3).fetch t = false := Bool.eq_false_iff.2 fun h' => ht (by have := (fetch1_3 t).1 h'; omega)
    rcases ((rd1 V b c).finds_of_pos hf ht X).1 h with h' | ⟨_, _, h'⟩
    · exact absurd h' (by rw [show (cfg1.win 3).flush _ = false from by rfl]; exact Bool.false_ne_true)
    · exact h'
theorem fetched4 (c : Dev nD) (t : Fin cfg1.N) (d) : (rd1 V b c).fetched 4 t d = (insOf V c).hh0l := by
  funext j
  rw [fetched_apply (rd1 V b c) 4 t (fun _ => rfl)]
  refine congrArg (V c main_v18) (funext fun a => Fin.ext ?_)
  exact Pipeline.Window.rect_emb_val_of_index_zero win1_4 t a (idx2 (cc1_transform_4 (grid1.coords t)) rfl rfl a) _
theorem finds4 (c : Dev nD) (t : Fin cfg1.N) (X) (h : (rd1 V b c).Finds 4 t X) : X = (insOf V c).hh0l := by
  by_cases ht : t.val = 0
  · obtain ⟨d, rfl⟩ := ((rd1 V b c).finds_of_fetch ((fetch1_4 t).2 (by rw [ht])) X).1 h
    exact fetched4 V b c t d
  · have hN : t.val < 25 := lt_of_lt_of_eq t.isLt N_1
    have hf : (cfg1.win 4).fetch t = false := Bool.eq_false_iff.2 fun h' => ht (by have := (fetch1_4 t).1 h'; omega)
    rcases ((rd1 V b c).finds_of_pos hf ht X).1 h with h' | ⟨_, _, h'⟩
    · exact absurd h' (by rw [show (cfg1.win 4).flush _ = false from by rfl]; exact Bool.false_ne_true)
    · exact h'
theorem fetched5 (c : Dev nD) (t : Fin cfg1.N) (d) : (rd1 V b c).fetched 5 t d = (insOf V c).b0 := by
  funext j
  rw [fetched_apply (rd1 V b c) 5 t (fun _ => rfl)]
  refine congrArg (V c main_v6) (funext fun a => Fin.ext ?_)
  exact Pipeline.Window.rect_emb_val_of_index_zero win1_5 t a (idx2 (cc1_transform_5 (grid1.coords t)) rfl rfl a) _
theorem finds5 (c : Dev nD) (t : Fin cfg1.N) (X) (h : (rd1 V b c).Finds 5 t X) : X = (insOf V c).b0 := by
  by_cases ht : t.val = 0
  · obtain ⟨d, rfl⟩ := ((rd1 V b c).finds_of_fetch ((fetch1_5 t).2 (by rw [ht])) X).1 h
    exact fetched5 V b c t d
  · have hN : t.val < 25 := lt_of_lt_of_eq t.isLt N_1
    have hf : (cfg1.win 5).fetch t = false := Bool.eq_false_iff.2 fun h' => ht (by have := (fetch1_5 t).1 h'; omega)
    rcases ((rd1 V b c).finds_of_pos hf ht X).1 h with h' | ⟨_, _, h'⟩
    · exact absurd h' (by rw [show (cfg1.win 5).flush _ = false from by rfl]; exact Bool.false_ne_true)
    · exact h'
theorem fetched6 (c : Dev nD) (t : Fin cfg1.N) (d) : (rd1 V b c).fetched 6 t d = (insOf V c).ih1h := by
  funext j
  rw [fetched_apply (rd1 V b c) 6 t (fun _ => rfl)]
  refine congrArg (V c main_v20) (funext fun a => Fin.ext ?_)
  exact Pipeline.Window.rect_emb_val_of_index_zero win1_6 t a (idx2 (cc1_transform_6 (grid1.coords t)) rfl rfl a) _
theorem finds6 (c : Dev nD) (t : Fin cfg1.N) (X) (h : (rd1 V b c).Finds 6 t X) : X = (insOf V c).ih1h := by
  by_cases ht : t.val = 0
  · obtain ⟨d, rfl⟩ := ((rd1 V b c).finds_of_fetch ((fetch1_6 t).2 (by rw [ht])) X).1 h
    exact fetched6 V b c t d
  · have hN : t.val < 25 := lt_of_lt_of_eq t.isLt N_1
    have hf : (cfg1.win 6).fetch t = false := Bool.eq_false_iff.2 fun h' => ht (by have := (fetch1_6 t).1 h'; omega)
    rcases ((rd1 V b c).finds_of_pos hf ht X).1 h with h' | ⟨_, _, h'⟩
    · exact absurd h' (by rw [show (cfg1.win 6).flush _ = false from by rfl]; exact Bool.false_ne_true)
    · exact h'
theorem fetched7 (c : Dev nD) (t : Fin cfg1.N) (d) : (rd1 V b c).fetched 7 t d = (insOf V c).ih1l := by
  funext j
  rw [fetched_apply (rd1 V b c) 7 t (fun _ => rfl)]
  refine congrArg (V c main_v23) (funext fun a => Fin.ext ?_)
  exact Pipeline.Window.rect_emb_val_of_index_zero win1_7 t a (idx2 (cc1_transform_7 (grid1.coords t)) rfl rfl a) _
theorem finds7 (c : Dev nD) (t : Fin cfg1.N) (X) (h : (rd1 V b c).Finds 7 t X) : X = (insOf V c).ih1l := by
  by_cases ht : t.val = 0
  · obtain ⟨d, rfl⟩ := ((rd1 V b c).finds_of_fetch ((fetch1_7 t).2 (by rw [ht])) X).1 h
    exact fetched7 V b c t d
  · have hN : t.val < 25 := lt_of_lt_of_eq t.isLt N_1
    have hf : (cfg1.win 7).fetch t = false := Bool.eq_false_iff.2 fun h' => ht (by have := (fetch1_7 t).1 h'; omega)
    rcases ((rd1 V b c).finds_of_pos hf ht X).1 h with h' | ⟨_, _, h'⟩
    · exact absurd h' (by rw [show (cfg1.win 7).flush _ = false from by rfl]; exact Bool.false_ne_true)
    · exact h'
theorem fetched8 (c : Dev nD) (t : Fin cfg1.N) (d) : (rd1 V b c).fetched 8 t d = (insOf V c).hh1h := by
  funext j
  rw [fetched_apply (rd1 V b c) 8 t (fun _ => rfl)]
  refine congrArg (V c main_v25) (funext fun a => Fin.ext ?_)
  exact Pipeline.Window.rect_emb_val_of_index_zero win1_8 t a (idx2 (cc1_transform_8 (grid1.coords t)) rfl rfl a) _
theorem finds8 (c : Dev nD) (t : Fin cfg1.N) (X) (h : (rd1 V b c).Finds 8 t X) : X = (insOf V c).hh1h := by
  by_cases ht : t.val = 0
  · obtain ⟨d, rfl⟩ := ((rd1 V b c).finds_of_fetch ((fetch1_8 t).2 (by rw [ht])) X).1 h
    exact fetched8 V b c t d
  · have hN : t.val < 25 := lt_of_lt_of_eq t.isLt N_1
    have hf : (cfg1.win 8).fetch t = false := Bool.eq_false_iff.2 fun h' => ht (by have := (fetch1_8 t).1 h'; omega)
    rcases ((rd1 V b c).finds_of_pos hf ht X).1 h with h' | ⟨_, _, h'⟩
    · exact absurd h' (by rw [show (cfg1.win 8).flush _ = false from by rfl]; exact Bool.false_ne_true)
    · exact h'
theorem fetched9 (c : Dev nD) (t : Fin cfg1.N) (d) : (rd1 V b c).fetched 9 t d = (insOf V c).hh1l := by
  funext j
  rw [fetched_apply (rd1 V b c) 9 t (fun _ => rfl)]
  refine congrArg (V c main_v28) (funext fun a => Fin.ext ?_)
  exact Pipeline.Window.rect_emb_val_of_index_zero win1_9 t a (idx2 (cc1_transform_9 (grid1.coords t)) rfl rfl a) _
theorem finds9 (c : Dev nD) (t : Fin cfg1.N) (X) (h : (rd1 V b c).Finds 9 t X) : X = (insOf V c).hh1l := by
  by_cases ht : t.val = 0
  · obtain ⟨d, rfl⟩ := ((rd1 V b c).finds_of_fetch ((fetch1_9 t).2 (by rw [ht])) X).1 h
    exact fetched9 V b c t d
  · have hN : t.val < 25 := lt_of_lt_of_eq t.isLt N_1
    have hf : (cfg1.win 9).fetch t = false := Bool.eq_false_iff.2 fun h' => ht (by have := (fetch1_9 t).1 h'; omega)
    rcases ((rd1 V b c).finds_of_pos hf ht X).1 h with h' | ⟨_, _, h'⟩
    · exact absurd h' (by rw [show (cfg1.win 9).flush _ = false from by rfl]; exact Bool.false_ne_true)
    · exact h'
theorem fetched10 (c : Dev nD) (t : Fin cfg1.N) (d) : (rd1 V b c).fetched 10 t d = (insOf V c).b1 := by
  funext j
  rw [fetched_apply (rd1 V b c) 10 t (fun _ => rfl)]
  refine congrArg (V c main_v8) (funext fun a => Fin.ext ?_)
  exact Pipeline.Window.rect_emb_val_of_index_zero win1_10 t a (idx2 (cc1_transform_10 (grid1.coords t)) rfl rfl a) _
theorem finds10 (c : Dev nD) (t : Fin cfg1.N) (X) (h : (rd1 V b c).Finds 10 t X) : X = (insOf V c).b1 := by
  by_cases ht : t.val = 0
  · obtain ⟨d, rfl⟩ := ((rd1 V b c).finds_of_fetch ((fetch1_10 t).2 (by rw [ht])) X).1 h
    exact fetched10 V b c t d
  · have hN : t.val < 25 := lt_of_lt_of_eq t.isLt N_1
    have hf : (cfg1.win 10).fetch t = false := Bool.eq_false_iff.2 fun h' => ht (by have := (fetch1_10 t).1 h'; omega)
    rcases ((rd1 V b c).finds_of_pos hf ht X).1 h with h' | ⟨_, _, h'⟩
    · exact absurd h' (by rw [show (cfg1.win 10).flush _ = false from by rfl]; exact Bool.false_ne_true)
    · exact h'
theorem fetched11 (c : Dev nD) (t : Fin cfg1.N) (d) : (rd1 V b c).fetched 11 t d = (insOf V c).h0 := by
  funext j
  rw [fetched_apply (rd1 V b c) 11 t (fun _ => rfl)]
  refine congrArg (V c main_arg1) (funext fun a => Fin.ext ?_)
  exact Pipeline.Window.rect_emb_val_of_index_zero win1_11 t a (idx3 (cc1_transform_11 (grid1.coords t)) rfl rfl rfl a) _
theorem finds11 (c : Dev nD) (t : Fin cfg1.N) (X) (h : (rd1 V b c).Finds 11 t X) : X = (insOf V c).h0 := by
  by_cases ht : t.val = 0
  · obtain ⟨d, rfl⟩ := ((rd1 V b c).finds_of_fetch ((fetch1_11 t).2 (by rw [ht])) X).1 h
    exact fetched11 V b c t d
  · have hN : t.val < 25 := lt_of_lt_of_eq t.isLt N_1
    have hf : (cfg1.win 11).fetch t = false := Bool.eq_false_iff.2 fun h' => ht (by have := (fetch1_11 t).1 h'; omega)
    rcases ((rd1 V b c).finds_of_pos hf ht X).1 h with h' | ⟨_, _, h'⟩
    · exact absurd h' (by rw [show (cfg1.win 11).flush _ = false from by rfl]; exact Bool.false_ne_true)
    · exact h'
theorem fetched12 (c : Dev nD) (t : Fin cfg1.N) (d) : (rd1 V b c).fetched 12 t d = (insOf V c).c0 := by
  funext j
  rw [fetched_apply (rd1 V b c) 12 t (fun _ => rfl)]
  refine congrArg (V c main_arg2) (funext fun a => Fin.ext ?_)
  exact Pipeline.Window.rect_emb_val_of_index_zero win1_12 t a (idx3 (cc1_transform_12 (grid1.coords t)) rfl rfl rfl a) _
theorem finds12 (c : Dev nD) (t : Fin cfg1.N) (X) (h : (rd1 V b c).Finds 12 t X) : X = (insOf V c).c0 := by
  by_cases ht : t.val = 0
  · obtain ⟨d, rfl⟩ := ((rd1 V b c).finds_of_fetch ((fetch1_12 t).2 (by rw [ht])) X).1 h
    exact fetched12 V b c t d
  · have hN : t.val < 25 := lt_of_lt_of_eq t.isLt N_1
    have hf : (cfg1.win 12).fetch t = false := Bool.eq_false_iff.2 fun h' => ht (by have := (fetch1_12 t).1 h'; omega)
    rcases ((rd1 V b c).finds_of_pos hf ht X).1 h with h' | ⟨_, _, h'⟩
    · exact absurd h' (by rw [show (cfg1.win 12).flush _ = false from by rfl]; exact Bool.false_ne_true)
    · exact h'
theorem finds13 (c : Dev nD) (t : Fin cfg1.N) (X) (h : (rd1 V b c).Finds 13 t X) : ∃ d, X = fwAt V c t d :=
  ((rd1 V b c).finds_of_fetch (fetch1_13 t) X).1 h
theorem finds14 (c : Dev nD) (t : Fin cfg1.N) (X) (h : (rd1 V b c).Finds 14 t X) : ∃ d, X = fbAt V c t d :=
  ((rd1 V b c).finds_of_fetch (fetch1_14 t) X).1 h
theorem finds16 (c : Dev nD) (t : Fin cfg1.N) (ht : t.val ≠ 0) (X) (h : (rd1 V b c).Finds 16 t X) : X = (insOf V c).hn := by
  have hN : t.val < 25 := lt_of_lt_of_eq t.isLt N_1
  have hf : (cfg1.win 16).fetch t = false := by rfl
  rcases ((rd1 V b c).finds_of_pos hf ht X).1 h with h' | ⟨_, _, h'⟩
  · have := (flush1_16 _).1 h'
    dsimp only at this
    omega
  · exact h'
theorem finds17 (c : Dev nD) (t : Fin cfg1.N) (ht : t.val ≠ 0) (X) (h : (rd1 V b c).Finds 17 t X) : X = (insOf V c).cn := by
  have hN : t.val < 25 := lt_of_lt_of_eq t.isLt N_1
  have hf : (cfg1.win 17).fetch t = false := by rfl
  rcases ((rd1 V b c).finds_of_pos hf ht X).1 h with h' | ⟨_, _, h'⟩
  · have := (flush1_17 _).1 h'
    dsimp only at this
    omega
  · exact h'

theorem cond1_iff : ∀ t : Fin grid1.N, k1_cond1 (grid1.coords t) = 1#1 ↔ t.val = 0 := by decide +kernel

end Cert.Proof.Run

end
-- ==== Proof.Body.lean ====
/-
  The body obligation of the TensorCore's pallas_call: the first point runs the recurrence and the projection of
  its block, every later point the projection alone.
-/
module

public import proofs.«01_k».proof.Proof.Region

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 1) (Elt F) ℕ UU ℕ

variable (V : Val1 F) (b : ℕ)

theorem body_obligation (c : Dev nD) : (rd1 V b c).BodyObligation (defs₀ (F := F)) 𝒱₀ (none : HIx 1) Set.univ := fun t Y hY => by
  have e0 : Y 0 = _ := finds0 V b c t (Y 0) (hY 0)
  have e1 : Y 1 = _ := finds1 V b c t (Y 1) (hY 1)
  have e2 : Y 2 = _ := finds2 V b c t (Y 2) (hY 2)
  have e3 : Y 3 = _ := finds3 V b c t (Y 3) (hY 3)
  have e4 : Y 4 = _ := finds4 V b c t (Y 4) (hY 4)
  have e5 : Y 5 = _ := finds5 V b c t (Y 5) (hY 5)
  have e6 : Y 6 = _ := finds6 V b c t (Y 6) (hY 6)
  have e7 : Y 7 = _ := finds7 V b c t (Y 7) (hY 7)
  have e8 : Y 8 = _ := finds8 V b c t (Y 8) (hY 8)
  have e9 : Y 9 = _ := finds9 V b c t (Y 9) (hY 9)
  have e10 : Y 10 = _ := finds10 V b c t (Y 10) (hY 10)
  have e11 : Y 11 = _ := finds11 V b c t (Y 11) (hY 11)
  have e12 : Y 12 = _ := finds12 V b c t (Y 12) (hY 12)
  obtain ⟨dw, e13⟩ := finds13 V b c t (Y 13) (hY 13)
  obtain ⟨db, e14⟩ := finds14 V b c t (Y 14) (hY 14)
  rw [bigSep_W1, bigSep_W1]
  rw [show (rd1 V b c).owesAt (none : HIx 1) t.succ = (rd1 V b c).owesAt (none : HIx 1) t.castSucc from rfl]
  rw [show (rd1 V b c).Φ t.castSucc = Φ1 V c t.val from rfl, show (rd1 V b c).Φ t.succ = Φ1 V c (t.val + 1) from rfl]
  show _ ⊢ wp _ _ _ (bodyAt1 t) _
  rw [e0, e1, e2, e3, e4, e5, e6, e7, e8, e9, e10, e11, e12, e13, e14]
  unfold Φ1
  iintro ⟨⟨%X19, %X20, %X21, %h21, S19, S20, S21⟩, Howes, W0, W1, W2, W3, W4, W5, W6, W7, W8, W9, W10, W11, W12, W13, W14, W15, W16, W17⟩
  by_cases hc : k1_cond1 (grid1.coords t) = 1#1
  · iapply (first_run c (grid1.coords t) _ _ _ _ _ _ _ _ _ _ _ _ _ _ _ _ _ _ _ _ _ _ _ _ _ _ _ _ _ _ _ _ _ _ _ _ _ _ _ _ _ _ hc (insOf V c) (fwAt V c t dw) (fbAt V c t db) (Y 15) (Y 16) (Y 17) X19 X20 X21 _) $$ [W0 W1 W2 W3 W4 W5 W6 W7 W8 W9 W10 W11 W12 W13 W14 W15 W16 W17 S19 S20 S21]
    · isplitl [W0 W1 W2 W3 W4 W5 W6 W7 W8 W9 W10 W11 W12]
      · unfold inH
        isplitl [W0]; · iexact W0
        isplitl [W1]; · iexact W1
        isplitl [W2]; · iexact W2
        isplitl [W3]; · iexact W3
        isplitl [W4]; · iexact W4
        isplitl [W5]; · iexact W5
        isplitl [W6]; · iexact W6
        isplitl [W7]; · iexact W7
        isplitl [W8]; · iexact W8
        isplitl [W9]; · iexact W9
        isplitl [W10]; · iexact W10
        isplitl [W11]; · iexact W11
        iexact W12
      isplitl [W13]; · iexact W13
      isplitl [W14]; · iexact W14
      isplitl [W15]; · iexact W15
      isplitl [W16]; · iexact W16
      isplitl [W17]; · iexact W17
      isplitl [S19]; · iexact S19
      isplitl [S20]; · iexact S20
      iexact S21
    unfold inH
    iintro ⟨⟨W0, W1, W2, W3, W4, W5, W6, W7, W8, W9, W10, W11, W12⟩, W13, W14, W15, W16, W17, S19, S20, S21⟩
    isplitl [S19 S20 S21]
    · iexists _, _, _
      isplitr; swap
      · isplitl [S19]; · iexact S19
        isplitl [S20]; · iexact S20
        iexact S21
      ipureintro; exact fun _ => rfl
    isplitl [Howes]; · iexact Howes
    isplitl [W0]; · iexists _; isplitr; swap; (· iexact W0); ipureintro; exact rfl
    isplitl [W1]; · iexists _; isplitr; swap; (· iexact W1); ipureintro; exact rfl
    isplitl [W2]; · iexists _; isplitr; swap; (· iexact W2); ipureintro; exact rfl
    isplitl [W3]; · iexists _; isplitr; swap; (· iexact W3); ipureintro; exact rfl
    isplitl [W4]; · iexists _; isplitr; swap; (· iexact W4); ipureintro; exact rfl
    isplitl [W5]; · iexists _; isplitr; swap; (· iexact W5); ipureintro; exact rfl
    isplitl [W6]; · iexists _; isplitr; swap; (· iexact W6); ipureintro; exact rfl
    isplitl [W7]; · iexists _; isplitr; swap; (· iexact W7); ipureintro; exact rfl
    isplitl [W8]; · iexists _; isplitr; swap; (· iexact W8); ipureintro; exact rfl
    isplitl [W9]; · iexists _; isplitr; swap; (· iexact W9); ipureintro; exact rfl
    isplitl [W10]; · iexists _; isplitr; swap; (· iexact W10); ipureintro; exact rfl
    isplitl [W11]; · iexists _; isplitr; swap; (· iexact W11); ipureintro; exact rfl
    isplitl [W12]; · iexists _; isplitr; swap; (· iexact W12); ipureintro; exact rfl
    isplitl [W13]; · iexists _; isplitr; swap; (· iexact W13); ipureintro; exact trivial
    isplitl [W14]; · iexists _; isplitr; swap; (· iexact W14); ipureintro; exact trivial
    isplitl [W15]; · iexists _; isplitr; swap; (· iexact W15); ipureintro; exact ⟨dw, db, rfl⟩
    isplitl [W16]; · iexists _; isplitr; swap; (· iexact W16); ipureintro; exact rfl
    iexists _; isplitr; swap; (· iexact W17); ipureintro; exact rfl
  · have ht : t.val ≠ 0 := fun h => hc ((cond1_iff t).2 h)
    have h21' := h21 ht
    subst h21'
    iapply (later_run c (grid1.coords t) _ _ _ _ _ _ _ _ _ _ _ _ _ _ _ _ _ _ _ _ _ _ _ _ _ _ _ _ _ _ _ _ _ _ _ _ _ _ _ _ _ _ hc (insOf V c).yb (fwAt V c t dw) (fbAt V c t db) (Y 15) _) $$ [W13 W14 W15 S21]
    · isplitl [W13]; · iexact W13
      isplitl [W14]; · iexact W14
      isplitl [W15]; · iexact W15
      iexact S21
    iintro ⟨W13, W14, W15, S21⟩
    isplitl [S19 S20 S21]
    · iexists _, _, _
      isplitr; swap
      · isplitl [S19]; · iexact S19
        isplitl [S20]; · iexact S20
        iexact S21
      ipureintro; exact fun _ => rfl
    isplitl [Howes]; · iexact Howes
    isplitl [W0]; · iexists _; isplitr; swap; (· iexact W0); ipureintro; exact rfl
    isplitl [W1]; · iexists _; isplitr; swap; (· iexact W1); ipureintro; exact rfl
    isplitl [W2]; · iexists _; isplitr; swap; (· iexact W2); ipureintro; exact rfl
    isplitl [W3]; · iexists _; isplitr; swap; (· iexact W3); ipureintro; exact rfl
    isplitl [W4]; · iexists _; isplitr; swap; (· iexact W4); ipureintro; exact rfl
    isplitl [W5]; · iexists _; isplitr; swap; (· iexact W5); ipureintro; exact rfl
    isplitl [W6]; · iexists _; isplitr; swap; (· iexact W6); ipureintro; exact rfl
    isplitl [W7]; · iexists _; isplitr; swap; (· iexact W7); ipureintro; exact rfl
    isplitl [W8]; · iexists _; isplitr; swap; (· iexact W8); ipureintro; exact rfl
    isplitl [W9]; · iexists _; isplitr; swap; (· iexact W9); ipureintro; exact rfl
    isplitl [W10]; · iexists _; isplitr; swap; (· iexact W10); ipureintro; exact rfl
    isplitl [W11]; · iexists _; isplitr; swap; (· iexact W11); ipureintro; exact rfl
    isplitl [W12]; · iexists _; isplitr; swap; (· iexact W12); ipureintro; exact rfl
    isplitl [W13]; · iexists _; isplitr; swap; (· iexact W13); ipureintro; exact trivial
    isplitl [W14]; · iexists _; isplitr; swap; (· iexact W14); ipureintro; exact trivial
    isplitl [W15]; · iexists _; isplitr; swap; (· iexact W15); ipureintro; exact ⟨dw, db, rfl⟩
    isplitl [W16]; · iexists _; isplitr; swap; (· iexact W16); ipureintro; exact finds16 V b c t ht (Y 16) (hY 16)
    iexists _; isplitr; swap; (· iexact W17); ipureintro; exact finds17 V b c t ht (Y 17) (hY 17)

end Cert.Proof.Run

end
-- ==== Proof.Seg.lean ====
/-
  The TensorCore's pallas_call as a region of @main: entered from its windows' arrays, left with each at some
  contents its write-backs may leave.
-/
module

public import proofs.«01_k».proof.Proof.Body
public import Idealize.ShloMosaic.Lib.Pipeline.RegionArrays

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 1) (Elt F) ℕ UU ℕ

variable (VB : Dev nD → Valuation τ sig (Elt F)) (b : ℕ)

/-- The buffers of a valuation, by the TensorCore's names. -/
abbrev valOf : Val1 F := fun c r => VB c (Proc.devRef .tc r)

def adm : (p : Fin 1) → (pcfgs (F := F) p).Adm := fun p => (cfgs p).toPCfg_adm

def rdats : (p : Fin 1) → (c : Dev nD) → RDat τ (Elt F) (HIx 1) ℕ UU ℕ (Pipeline.pin (pcfgs (F := F)) adm p) c
  | ⟨0, _⟩ => fun c => rd1 (valOf VB) b c

theorem phinj : Function.Injective (Pipeline.cellOf (nD := nD) (τ := τ) (Pipeline.pin (pcfgs (F := F)) adm)) := cellOf_inj

/-- The arrays the windows name, as device buffers. -/
abbrev arrs : Finset (DevRef τ sig) := Pipeline.arrRefs (τ := τ) spec1

theorem share_full (c : Dev nD) (w) : (rd1 (valOf VB) b c).share w = fullShare := (rd1 (valOf VB) b c).share_full (fun _ => rfl) w

set_option backward.isDefEq.respectTransparency.types false in
/-- The windows' arrays held at the valuation are the pipeline's arrays at the entry contents. -/
theorem arrays_held (c : Dev nD) :
    ((rdats VB b 0 c).arrays (rdats VB b 0 c).A : sProp 𝕄) = StableHlo.held (c : Thread nD τ) arrs (VB c) := by
  rw [RDat.arrays_eq (pcfgs (F := F)) adm (rdats VB b) 0 c launch1.arr_whole (share_full VB b c)]
  unfold StableHlo.held arrs Pipeline.arrRefs
  rw [bigSep_map, show Finset.univ.image (Pipeline.arrRef spec1) = Finset.univ.map ⟨Pipeline.arrRef spec1, launch1.win.arr_inj⟩ from
    (Finset.map_eq_image ⟨Pipeline.arrRef spec1, launch1.win.arr_inj⟩ Finset.univ).symm, bigSep_map]
  rfl

theorem scr_in (c : Dev nD) (A : sProp 𝕄) :
    iprop(BI.emp ∗ A ∗ (Pipeline.scopedRest (Ix := HIx 1) (Name := ℕ) (U := UU) (Lvl := ℕ) (Val := Elt F) spec1 c : sProp 𝕄)) ⊢ Φ1 (valOf VB) c 0 := by
  rw [scopedRest1_eq]
  unfold Φ1
  simp only [owns_whole]
  iintro ⟨-, -, ⟨%f0, H0⟩, ⟨%f1, H1⟩, %f2, H2⟩
  iexists f0, f1, f2
  isplitr; · ipureintro; exact fun h => absurd rfl h
  isplitl [H0]; · iexact H0
  isplitl [H1]; · iexact H1
  iexact H2

theorem scr_out (c : Dev nD) : Φ1 (valOf VB) c cfg1.N ⊢
    iprop(BI.emp ∗ BI.emp ∗ (Pipeline.scopedRest (Ix := HIx 1) (Name := ℕ) (U := UU) (Lvl := ℕ) (Val := Elt F) spec1 c : sProp 𝕄)) := by
  rw [scopedRest1_eq]
  unfold Φ1
  simp only [owns_whole]
  iintro ⟨%f0, %f1, %f2, -, H0, H1, H2⟩
  isplitr; · iempintro
  isplitr; · iempintro
  isplitl [H0]; · iexists f0; iexact H0
  isplitl [H1]; · iexists f1; iexact H1
  iexists f2; iexact H2

set_option backward.isDefEq.respectTransparency.types false in
/-- The call, from the arrays held at the valuation and the core owing nothing, its recorded waits at levels at most
    `b`; `R` bypasses it. -/
def reg (R : Dev nD → sProp 𝕄) : RDat.RegionSeg (pcfgs (F := F)) adm (rdats VB b) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation (valOf VB) b c
  hwaits := RDat.hwaits_of_owed_zero (pcfgs (F := F)) adm (rdats VB b) none _ _ 0 fun _ _ => rfl
  pre c := iprop(StableHlo.held (c : Thread nD τ) arrs (VB c) ∗ R c ∗ ∃ W, ⌜(K (F := F)).WBelow (c : Thread nD τ) W b⌝ ∗ owes (c : Thread nD τ) (0 : CellTallies nD τ sig (HIx 1)) W)
  post c := iprop((rdats VB b 0 c).arraysAt cfg1.N ∗ R c ∗ ∃ W, ⌜(K (F := F)).WBelow (c : Thread nD τ) W b⌝ ∗ owes (c : Thread nD τ) (0 : CellTallies nD τ sig (HIx 1)) W)
  X _ := BI.emp
  Y _ := BI.emp
  Z := R
  hentry c := by
    rw [Pipeline.ownSems0_none, ← arrays_held VB b c, Pipeline.prefHeld_of_none _ rfl]
    iintro ⟨⟨Ha, HR, %W, %hW, HO⟩, -, -⟩
    imodintro
    isplitl [Ha]; · iexact Ha
    isplitr; · iempintro
    isplitl [HO]
    · unfold RDat.owesAt Pipeline.owesWithin
      iexists W; isplitr; · ipureintro; exact fun p hp => Or.inl (hW p hp)
      iexact HO
    isplitr; · iempintro
    iexact HR
  hin c := scr_in VB c _
  hout c := by
    rw [Pipeline.ownSems0_none]
    exact scr_out VB c
  hexit c := by
    iintro ⟨Ha, HO, -, HR⟩
    imodintro
    isplitl [Ha]; · iexact Ha
    isplitl [HR]; · iexact HR
    unfold RDat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

end Cert.Proof.Run

end
-- ==== Proof.Gather.lean ====
/-
  The gather kernel on one SparseCore's sequencer: one step per issued row copy and per wait, over a state that
  counts the copies issued and the units consumed, and carries the values the landed rows will hold.
-/
module

public import proofs.«01_k».proof.Proof.Setup

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "tabM" => (Memref.whole Cert.KernelIdeal.main_arg3_scs : Memref Cert.KernelIdeal.sig Kind.scScalar Space.hbm Cert.KernelIdeal.S100000x64 EltTy.f32)
local notation "idxM" => (Memref.whole Cert.KernelIdeal.main_v3_scs : Memref Cert.KernelIdeal.sig Kind.scScalar Space.hbm Cert.KernelIdeal.S896 EltTy.i32)
local notation "outM" => (Memref.whole Cert.KernelIdeal.main_v4_scs : Memref Cert.KernelIdeal.sig Kind.scScalar Space.hbm Cert.KernelIdeal.S800x64 EltTy.f32)
local notation "smM" => (Memref.whole Cert.KernelIdeal.cc0_scratch0 : Memref Cert.KernelIdeal.sig Kind.scScalar Space.smem Cert.KernelIdeal.S896 EltTy.i32)

def coordsS (c : Fin (grid0.bound 0)) : grid0.Coords := fun | 0 => c | ⟨_ + 1, h⟩ => absurd h (Nat.not_lt.2 (Nat.le_add_left _ _))

/-- The sequencer that runs the kernel at coordinate `c`. -/
abbrev thr (d : Dev nD) (c : Fin (grid0.bound 0)) : Thread nD τ := S d (c.castLE hcore0)

/-- Position `p` of the index array, and entry `(r, j)` of the table. -/
def ix896 (p : ℕ) (hp : p < 896) : S896.Idx := fun | 0 => ⟨p, hp⟩ | ⟨_ + 1, h⟩ => absurd h (Nat.not_lt.2 (Nat.le_add_left _ _))
def ixTab (r : ℕ) (hr : r < 100000) (j : Fin 64) : S100000x64.Idx := fun | 0 => ⟨r, hr⟩ | 1 => j | ⟨_ + 2, h⟩ => absurd h (Nat.not_lt.2 (Nat.le_add_left _ _))

/-- The first 800 positions of the index array name rows of the table. -/
def InRange (fi : S896.Idx → BitVec 32) : Prop := ∀ p (hp : p < 800), (fi (ix896 p (by omega))).toNat < 100000

/-- The gathered rows: row `r` is the table's row named by position `r` of the index array. -/
def gath (fi : S896.Idx → BitVec 32) (tab : S100000x64.Idx → Elt F .f32) (h : InRange fi) : S800x64.Idx → Elt F .f32 :=
  fun y => tab (ixTab (fi (ix896 (y 0).val ((y 0).isLt.trans (by decide)))).toNat (h _ (y 0).isLt) (y 1))

/-- Row `r` of the output, and the rows of core `c`'s half from its `k`-th on. -/
def rowSet (r : ℕ) : Finset S800x64.Idx := Finset.univ.filter fun y => (y 0).val = r
def rowsFrom (c k : ℕ) : Finset S800x64.Idx := Finset.univ.filter fun y => 400 * c + k ≤ (y 0).val ∧ (y 0).val < 400 * c + 400

theorem rowSet_subset {c k : ℕ} (hk : k < 400) : rowSet (400 * c + k) ⊆ rowsFrom c k := by
  intro y hy; simp only [rowSet, rowsFrom, Finset.mem_filter, Finset.mem_univ, true_and] at hy ⊢; omega
theorem rowsFrom_sdiff {c k : ℕ} : rowsFrom c k \ rowSet (400 * c + k) = rowsFrom c (k + 1) := by
  ext y; simp only [rowSet, rowsFrom, Finset.mem_filter, Finset.mem_univ, true_and, Finset.mem_sdiff]; omega

theorem emb_ix896 (p : ℕ) (hp : p < 896) (inb) (x : S1.Idx) : (Rect.unit (s := S896) ![p] S1.size inb).emb x = ix896 p hp := by
  funext a
  match a with
  | 0 =>
    apply Fin.ext
    have hx : (x 0).val = 0 := by have := (x 0).isLt; simp at this; omega
    rw [Rect.emb_apply]
    show p + 1 * (x 0).val = p
    omega

/-- Entry `j` of a one-row block. -/
def ixRow (j : Fin 64) : S1x64.Idx := fun | 0 => ⟨0, Nat.one_pos⟩ | 1 => j | ⟨_ + 2, h⟩ => absurd h (Nat.not_lt.2 (Nat.le_add_left _ _))

theorem emb_tab (r : ℕ) (hr : r < 100000) (inb) (j : Fin 64) : (Rect.unit (s := S100000x64) ![r, 0] S1x64.size inb).emb (ixRow j) = ixTab r hr j := by
  funext a
  match a with
  | 0 => apply Fin.ext; rw [Rect.emb_apply]; show r + 1 * 0 = r; omega
  | 1 => apply Fin.ext; rw [Rect.emb_apply]; show 0 + 1 * j.val = j.val; omega

theorem emb_out (r : ℕ) (inb) (y : S800x64.Idx) (hy : (y 0).val = r) : (Rect.unit (s := S800x64) ![r, 0] S1x64.size inb).emb (ixRow (y 1)) = y := by
  funext a
  match a with
  | 0 => apply Fin.ext; rw [Rect.emb_apply]; show r + 1 * 0 = (y 0).val; omega
  | 1 => apply Fin.ext; rw [Rect.emb_apply]; show 0 + 1 * (y 1).val = (y 1).val; omega

/-- What one row copy credits. -/
abbrev Nrow : ℕ := Ref.dmaCredit Cert.KernelIdeal.main_v4_scs S1x64 .f32

/-- The row copy's destination, read where the copy wrote: the gathered row. -/
theorem gath_row (fi : S896.Idx → BitVec 32) (tab : S100000x64.Idx → Elt F .f32) (h : InRange fi) (f0 : S800x64.Idx → Elt F .f32)
    (r : ℕ) (hr : r < 800) (v : BitVec 32) (hv : v = fi (ix896 r (by omega)))
    (inbB : ∀ a, (![r, 0] : Fin 2 → ℕ) a + S1x64.size a ≤ S800x64.size a) (inbC : ∀ a, (![v.toNat, 0] : Fin 2 → ℕ) a + S1x64.size a ≤ S100000x64.size a)
    (y : S800x64.Idx) (hy : (y 0).val = r) :
    ((View.whole Cert.KernelIdeal.main_v4_scs).slice (Rect.unit (s := S800x64) ![r, 0] S1x64.size inbB)).write (Elt F) f0
      (((View.whole Cert.KernelIdeal.main_arg3_scs).slice (Rect.unit (s := S100000x64) ![v.toNat, 0] S1x64.size inbC)).read (Elt F) tab) Finset.univ y = gath fi tab h y := by
  subst hv
  have e : ((View.whole Cert.KernelIdeal.main_v4_scs).slice (Rect.unit (s := S800x64) ![r, 0] S1x64.size inbB)).emb (ixRow (y 1)) = y := emb_out r inbB y hy
  conv_lhs => rw [← e]
  rw [View.write_emb_of_mem _ _ (Finset.mem_univ _), View.read_apply]
  show tab ((Rect.unit (s := S100000x64) ![(fi (ix896 r _)).toNat, 0] S1x64.size inbC).emb (ixRow (y 1))) = gath fi tab h y
  refine (congrArg tab (emb_tab _ (h r hr) inbC (y 1))).trans ?_
  unfold gath
  subst hy
  rfl

section Body

variable (d : Dev nD) (c : Fin (grid0.bound 0))
variable (fi : S896.Idx → BitVec 32) (tab : S100000x64.Idx → Elt F .f32) (h : InRange fi) (f0 : S800x64.Idx → Elt F .f32)
variable (O : CellTallies nD τ sig (HIx 1)) (W : Waits sig (HIx 1))

/-- What copy `k` delivers: its row of the output, gathered. -/
def deliv (k : Fin 400) : sProp 𝕄 :=
  (outM).view.loc (thr d c) ↦[rowSet (400 * c.val + k.val)]{fullShare} gath fi tab h

instance deliv_storable (k : Fin 400) : Storable (upEmb : UEmb _ 𝕄) (deliv d c fi tab h k) := by unfold deliv; infer_instance

/-- The kernel's state with `k` copies issued and `u` rows waited for. -/
def St (k u : ℕ) : sProp 𝕄 :=
  iprop(Transfers.MayWaits (thr d c) (none : HIx 1) O
    ∗ Transfers.Batch EC (thr d c) (.dma cc0_scratch2.sem) (none : HIx 1) Nrow (deliv d c fi tab h) k (Nrow * u)
    ∗ ((outM).view.loc (thr d c) ↦[rowsFrom c.val k]{fullShare} f0)
    ∗ (∃ q, (tabM).view.loc (thr d c) ↦{q} tab)
    ∗ ((smM).view.loc (thr d c) ↦{fullShare} fi)
    ∗ ∃ W', ⌜∀ p ∈ W', p ∈ W ∨ p.2 = none⌝ ∗ owes (thr d c) O W')

variable [FloatOps F]
variable {α : Type}

local notation "WP" => wp frame (wpE (defs₀ (F := F)) 𝒱₀ (thr d c) none) Set.univ

/-- A word of the index array read from scalar memory. -/
theorem load_step (k u p : ℕ) (hp : p < 896) (off : Fin 1 → ℕ) (hoff : off = ![p]) (inb) (h1) (hpk)
    (Kk : Elt F .i32 → Prog (TpuEff nD τ sig (Elt F) Λ₀ (thr d c).2) α) (Q : α → sProp 𝕄) :
    St d c fi tab h f0 O W k u ⊢ iprop((St d c fi tab h f0 O W k u -∗ WP (Kk (fi (ix896 p hp))) (fun a => Q a))
      -∗ WP (smemLoad (smM) (Rect.unit (s := S896) off S1.size inb) h1 hpk >>= Kk) (fun a => Q a)) := by
  subst hoff
  unfold St
  iintro ⟨Hmw, HB, Ho, Ht, Hs, HO⟩ Hk
  have hv : ((smM).access (Rect.unit (s := S896) ![p] S1.size inb)).read (Elt F) fi (Shape.Idx.first (h1.symm ▸ Nat.one_pos)) = fi (ix896 p hp) := by
    rw [View.read_apply]
    refine congrArg fi ?_
    exact emb_ix896 p hp inb _
  iapply (wp_smemLoadElt_named 𝒱₀ (thr d c) none Set.univ (m := smM) (r := Rect.unit (s := S896) ![p] S1.size inb)
    (hw := View.loads_smem_one hpk h1) (x := Shape.Idx.first (h1.symm ▸ Nat.one_pos)) (S := Finset.univ) (q := fullShare) (f := fi) (Finset.subset_univ _) (k := fun v => (Prog.ret v) >>= Kk)) $$ Hs
  iintro Hs
  iapply (wand_of_eq (fi (ix896 p hp)) hv.symm)
  iapply Hk
  isplitl [Hmw]; · iexact Hmw
  isplitl [HB]; · iexact HB
  isplitl [Ho]; · iexact Ho
  isplitl [Ht]; · iexact Ht
  isplitl [Hs]; · iexact Hs
  iexact HO

/-- A side condition that holds. -/
theorem assume_step {P : Prop} {dP : Decidable P} (hP : P) (Kk : PLift P → Prog (TpuEff nD τ sig (Elt F) Λ₀ (thr d c).2) α) {Q : α → sProp 𝕄} :
    (WP (Kk ⟨hP⟩) Q) ⊢ WP (Prog.lift (TpuEff.assume P dP) >>= Kk) Q := by
  exact wp_assume 𝒱₀ (thr d c) none Set.univ (k := fun x => Prog.ret x >>= Kk) hP

/-- One row copy issued. -/
theorem fire_step (k u : ℕ) (hk : k < 400) (hu : u ≤ k) (v : BitVec 32) (hv : v = fi (ix896 (400 * c.val + k) (by have := c.isLt; simp at this; omega)))
    (offB offC : Fin 2 → ℕ) (hB : offB = ![400 * c.val + k, 0]) (hC : offC = ![v.toNat, 0]) (inbB) (inbC) (sB) (sC) (w1) (w2) (hs)
    (Kk : PUnit → Prog (TpuEff nD τ sig (Elt F) Λ₀ (thr d c).2) α) (Q : α → sProp 𝕄) :
    St d c fi tab h f0 O W k u ⊢ iprop((St d c fi tab h f0 O W (k + 1) u -∗ WP (Kk ⟨⟩) (fun a => Q a))
      -∗ WP (Prog.lift (.enqueueDma ((tabM).slice (Rect.unit (s := S100000x64) offC S1x64.size inbC) sC)
          (.here ((outM).slice (Rect.unit (s := S800x64) offB S1x64.size inbB) sB)) (.dma cc0_scratch2.sem) w1 w2 hs) >>= Kk) (fun a => Q a)) := by
  subst hB hC
  unfold St
  iintro ⟨Hmw, HB, Ho, ⟨%q, Ht⟩, Hs, HO⟩ Hk
  ihave Ht' := (pointsTo_share (PosShare.mem_left_op_right q)).1 $$ Ht
  icases Ht' with ⟨Htl, Htr⟩
  ihave Htl' := (pointsTo_split_subset (I := ((tabM).slice (Rect.unit (s := S100000x64) ![v.toNat, 0] S1x64.size inbC) sC).view.set) (Finset.subset_univ _)).1 $$ Htl
  icases Htl' with ⟨Hrow, -⟩
  ihave Ho' := (pointsTo_split_subset (rowSet_subset (c := c.val) hk)).1 $$ Ho
  icases Ho' with ⟨Hd, Ho⟩
  rw [rowsFrom_sdiff]
  have hSd : ((outM).slice (Rect.unit (s := S800x64) ![400 * c.val + k, 0] S1x64.size inbB) sB).view.set ⊆ rowSet (400 * c.val + k) := by
    intro y hy
    rw [show ((outM).slice (Rect.unit (s := S800x64) ![400 * c.val + k, 0] S1x64.size inbB) sB).view.set
      = (Rect.unit (s := S800x64) ![400 * c.val + k, 0] S1x64.size inbB).set from View.set_slice_whole _ _, Rect.mem_set_unit] at hy
    have h0 : 400 * c.val + k ≤ (y 0).val ∧ (y 0).val < 400 * c.val + k + 1 := hy 0
    simp only [rowSet, Finset.mem_filter, Finset.mem_univ, true_and]
    omega
  have hD : iprop(((outM).view.loc (thr d c) ↦[rowSet (400 * c.val + k)]{fullShare} (((outM).slice (Rect.unit (s := S800x64) ![400 * c.val + k, 0] S1x64.size inbB) sB).view.write (Elt F) f0
        (((tabM).slice (Rect.unit (s := S100000x64) ![v.toNat, 0] S1x64.size inbC) sC).view.read (Elt F) tab) Finset.univ))
      ∗ ((tabM).view.loc (thr d c) ↦[((tabM).slice (Rect.unit (s := S100000x64) ![v.toNat, 0] S1x64.size inbC) sC).view.set]{q.left} tab)) ⊢ (deliv d c fi tab h ⟨k, hk⟩ : sProp 𝕄) := by
    iintro ⟨H, -⟩
    unfold deliv
    iapply (Entails.of_eq (pointsTo_congr (g := gath fi tab h) ?hc)) $$ H
    intro y hy
    have hy0 : (y 0).val = 400 * c.val + k := (Finset.mem_filter.mp hy).2
    exact gath_row fi tab h f0 _ (by have := c.isLt; simp at this; omega) v hv inbB inbC y hy0
  iapply (Transfers.wp_dmaBatch EC 𝒱₀ (thr d c) none
    (src := (tabM).slice (Rect.unit (s := S100000x64) ![v.toNat, 0] S1x64.size inbC) sC) (via := .same)
    (dst := (outM).slice (Rect.unit (s := S800x64) ![400 * c.val + k, 0] S1x64.size inbB) sB) (q := q.left) (fs := tab) (fd := f0)
    (none : HIx 1) Nrow rfl (Sd := rowSet (400 * c.val + k)) hSd hk (show Nrow * u ≤ k * Nrow from (Nat.mul_le_mul_left Nrow hu).trans (Nat.mul_comm _ _).le) hD (k := fun x => Prog.ret x >>= Kk)) $$ [Hrow Hd HB]
  · isplitl [Hrow]; · iexact Hrow
    isplitl [Hd]; · iexact Hd
    iexact HB
  iintro HB
  iapply Hk
  isplitl [Hmw]; · iexact Hmw
  isplitl [HB]; · iexact HB
  isplitl [Ho]; · iexact Ho
  isplitl [Htr]; · iexists _; iexact Htr
  isplitl [Hs]; · iexact Hs
  iexact HO

/-- One wait for a row's worth of units. -/
theorem wait_step (k u : ℕ) (hu : u < k) (offB offC : Fin 2 → ℕ) (inbB) (inbC) (sB) (sC) (w1) (w2)
    (Kk : PUnit → Prog (TpuEff nD τ sig (Elt F) Λ₀ (thr d c).2) α) (Q : α → sProp 𝕄) :
    St d c fi tab h f0 O W k u ⊢ iprop((St d c fi tab h f0 O W k (u + 1) -∗ WP (Kk ⟨⟩) (fun a => Q a))
      -∗ WP (Prog.lift (.waitDma2 cc0_scratch2.sem ((tabM).slice (Rect.unit (s := S100000x64) offC S1x64.size inbC) sC)
          ((outM).slice (Rect.unit (s := S800x64) offB S1x64.size inbB) sB) w1 w2) >>= Kk) (fun a => Q a)) := by
  unfold St
  iintro ⟨#Hmw, HB, Ho, Ht, Hs, %W', %hW', HO⟩ Hk
  ihave Hm := (Transfers.MayWaits.elim (SemLoc.dma cc0_scratch2.sem)) $$ Hmw
  iapply (Transfers.wp_waitBatchMulO EC 𝒱₀ (thr d c) none (none : HIx 1) (N := Nrow) 1 (Nat.one_mul _).symm
    (show Nrow * u + 1 * Nrow ≤ Nrow * k by rw [Nat.one_mul]; exact Nat.mul_le_mul_left Nrow hu) (k := fun x => Prog.ret x >>= Kk)) $$ [HB HO Hm]
  · isplitl [HB]; · iexact HB
    isplitl [HO]; · iexact HO
    iexact Hm
  rw [Nat.one_mul]
  iintro ⟨HB, HO⟩
  iapply Hk
  isplitr; · iexact Hmw
  isplitl [HB]; · iexact HB
  isplitl [Ho]; · iexact Ho
  isplitl [Ht]; · iexact Ht
  isplitl [Hs]; · iexact Hs
  iexists _; isplitr
  rotate_left; · iexact HO
  ipureintro; intro p hp
  rcases Finset.mem_insert.mp hp with hp | hp
  · exact .inr (hp ▸ rfl)
  · exact hW' p hp

end Body

end Cert.Proof.Run

end
-- ==== Proof.GatherBody.lean ====
/-
  The gather kernel's parts, one lemma per printed part: which copies it issues and which waits it makes,
  on the state of `Gather.lean`.
-/
module

public import proofs.«01_k».proof.Proof.Gather

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "tabM" => (Memref.whole Cert.KernelIdeal.main_arg3_scs : Memref Cert.KernelIdeal.sig Kind.scScalar Space.hbm Cert.KernelIdeal.S100000x64 EltTy.f32)
local notation "idxM" => (Memref.whole Cert.KernelIdeal.main_v3_scs : Memref Cert.KernelIdeal.sig Kind.scScalar Space.hbm Cert.KernelIdeal.S896 EltTy.i32)
local notation "outM" => (Memref.whole Cert.KernelIdeal.main_v4_scs : Memref Cert.KernelIdeal.sig Kind.scScalar Space.hbm Cert.KernelIdeal.S800x64 EltTy.f32)
local notation "smM" => (Memref.whole Cert.KernelIdeal.cc0_scratch0 : Memref Cert.KernelIdeal.sig Kind.scScalar Space.smem Cert.KernelIdeal.S896 EltTy.i32)

/-- Three offset maps of one copy: where its index word lies, its row of the output, its row of the table. -/
theorem chk_of {v : BitVec 32} (hv : v.toNat < 100000) : ∀ a, (![v.toNat, 0] : Fin 2 → ℕ) a + S1x64.size a ≤ S100000x64.size a := by
  intro a
  match a with
  | 0 => exact hv
  | 1 => exact Nat.le_refl 64

theorem offL0 : ∀ c, k0_off1 (coordsS c) = ![400 * c.val + 0] := by decide +kernel
theorem offO0 : ∀ c, k0_off2 (coordsS c) = ![400 * c.val + 0, 0] := by decide +kernel
theorem offL1 : ∀ c, k0_off4 (coordsS c) = ![400 * c.val + 1] := by decide +kernel
theorem offO1 : ∀ c, k0_off5 (coordsS c) = ![400 * c.val + 1, 0] := by decide +kernel
theorem offL2 : ∀ c, k0_off7 (coordsS c) = ![400 * c.val + 2] := by decide +kernel
theorem offO2 : ∀ c, k0_off8 (coordsS c) = ![400 * c.val + 2, 0] := by decide +kernel
theorem offL3 : ∀ c, k0_off10 (coordsS c) = ![400 * c.val + 3] := by decide +kernel
theorem offO3 : ∀ c, k0_off11 (coordsS c) = ![400 * c.val + 3, 0] := by decide +kernel
theorem offL4 : ∀ c, k0_off13 (coordsS c) = ![400 * c.val + 4] := by decide +kernel
theorem offO4 : ∀ c, k0_off14 (coordsS c) = ![400 * c.val + 4, 0] := by decide +kernel
theorem offL5 : ∀ c, k0_off16 (coordsS c) = ![400 * c.val + 5] := by decide +kernel
theorem offO5 : ∀ c, k0_off17 (coordsS c) = ![400 * c.val + 5, 0] := by decide +kernel
theorem offL6 : ∀ c, k0_off19 (coordsS c) = ![400 * c.val + 6] := by decide +kernel
theorem offO6 : ∀ c, k0_off20 (coordsS c) = ![400 * c.val + 6, 0] := by decide +kernel
theorem offL7 : ∀ c, k0_off22 (coordsS c) = ![400 * c.val + 7] := by decide +kernel
theorem offO7 : ∀ c, k0_off23 (coordsS c) = ![400 * c.val + 7, 0] := by decide +kernel
theorem offL8 : ∀ c, k0_off25 (coordsS c) = ![400 * c.val + 8] := by decide +kernel
theorem offO8 : ∀ c, k0_off26 (coordsS c) = ![400 * c.val + 8, 0] := by decide +kernel
theorem offL9 : ∀ c, k0_off28 (coordsS c) = ![400 * c.val + 9] := by decide +kernel
theorem offO9 : ∀ c, k0_off29 (coordsS c) = ![400 * c.val + 9, 0] := by decide +kernel
theorem offL10 : ∀ c, k0_off31 (coordsS c) = ![400 * c.val + 10] := by decide +kernel
theorem offO10 : ∀ c, k0_off32 (coordsS c) = ![400 * c.val + 10, 0] := by decide +kernel
theorem offL11 : ∀ c, k0_off34 (coordsS c) = ![400 * c.val + 11] := by decide +kernel
theorem offO11 : ∀ c, k0_off35 (coordsS c) = ![400 * c.val + 11, 0] := by decide +kernel
theorem offL12 : ∀ c, k0_off37 (coordsS c) = ![400 * c.val + 12] := by decide +kernel
theorem offO12 : ∀ c, k0_off38 (coordsS c) = ![400 * c.val + 12, 0] := by decide +kernel
theorem offL13 : ∀ c, k0_off40 (coordsS c) = ![400 * c.val + 13] := by decide +kernel
theorem offO13 : ∀ c, k0_off41 (coordsS c) = ![400 * c.val + 13, 0] := by decide +kernel
theorem offL14 : ∀ c, k0_off43 (coordsS c) = ![400 * c.val + 14] := by decide +kernel
theorem offO14 : ∀ c, k0_off44 (coordsS c) = ![400 * c.val + 14, 0] := by decide +kernel
theorem offL15 : ∀ c, k0_off46 (coordsS c) = ![400 * c.val + 15] := by decide +kernel
theorem offO15 : ∀ c, k0_off47 (coordsS c) = ![400 * c.val + 15, 0] := by decide +kernel
theorem offL16 : ∀ c, k0_off49 (coordsS c) = ![400 * c.val + 16] := by decide +kernel
theorem offO16 : ∀ c, k0_off50 (coordsS c) = ![400 * c.val + 16, 0] := by decide +kernel
theorem offL17 : ∀ c, k0_off52 (coordsS c) = ![400 * c.val + 17] := by decide +kernel
theorem offO17 : ∀ c, k0_off53 (coordsS c) = ![400 * c.val + 17, 0] := by decide +kernel
theorem offL18 : ∀ c, k0_off55 (coordsS c) = ![400 * c.val + 18] := by decide +kernel
theorem offO18 : ∀ c, k0_off56 (coordsS c) = ![400 * c.val + 18, 0] := by decide +kernel
theorem offL19 : ∀ c, k0_off58 (coordsS c) = ![400 * c.val + 19] := by decide +kernel
theorem offO19 : ∀ c, k0_off59 (coordsS c) = ![400 * c.val + 19, 0] := by decide +kernel
theorem offL20 : ∀ c, k0_off61 (coordsS c) = ![400 * c.val + 20] := by decide +kernel
theorem offO20 : ∀ c, k0_off62 (coordsS c) = ![400 * c.val + 20, 0] := by decide +kernel
theorem offL21 : ∀ c, k0_off64 (coordsS c) = ![400 * c.val + 21] := by decide +kernel
theorem offO21 : ∀ c, k0_off65 (coordsS c) = ![400 * c.val + 21, 0] := by decide +kernel
theorem offL22 : ∀ c, k0_off67 (coordsS c) = ![400 * c.val + 22] := by decide +kernel
theorem offO22 : ∀ c, k0_off68 (coordsS c) = ![400 * c.val + 22, 0] := by decide +kernel
theorem offL23 : ∀ c, k0_off70 (coordsS c) = ![400 * c.val + 23] := by decide +kernel
theorem offO23 : ∀ c, k0_off71 (coordsS c) = ![400 * c.val + 23, 0] := by decide +kernel
theorem offL24 : ∀ c, k0_off73 (coordsS c) = ![400 * c.val + 24] := by decide +kernel
theorem offO24 : ∀ c, k0_off74 (coordsS c) = ![400 * c.val + 24, 0] := by decide +kernel
theorem offL25 : ∀ c, k0_off76 (coordsS c) = ![400 * c.val + 25] := by decide +kernel
theorem offO25 : ∀ c, k0_off77 (coordsS c) = ![400 * c.val + 25, 0] := by decide +kernel
theorem offL26 : ∀ c, k0_off79 (coordsS c) = ![400 * c.val + 26] := by decide +kernel
theorem offO26 : ∀ c, k0_off80 (coordsS c) = ![400 * c.val + 26, 0] := by decide +kernel
theorem offL27 : ∀ c, k0_off82 (coordsS c) = ![400 * c.val + 27] := by decide +kernel
theorem offO27 : ∀ c, k0_off83 (coordsS c) = ![400 * c.val + 27, 0] := by decide +kernel
theorem offL28 : ∀ c, k0_off85 (coordsS c) = ![400 * c.val + 28] := by decide +kernel
theorem offO28 : ∀ c, k0_off86 (coordsS c) = ![400 * c.val + 28, 0] := by decide +kernel
theorem offL29 : ∀ c, k0_off88 (coordsS c) = ![400 * c.val + 29] := by decide +kernel
theorem offO29 : ∀ c, k0_off89 (coordsS c) = ![400 * c.val + 29, 0] := by decide +kernel
theorem offL30 : ∀ c, k0_off91 (coordsS c) = ![400 * c.val + 30] := by decide +kernel
theorem offO30 : ∀ c, k0_off92 (coordsS c) = ![400 * c.val + 30, 0] := by decide +kernel
theorem offL31 : ∀ c, k0_off94 (coordsS c) = ![400 * c.val + 31] := by decide +kernel
theorem offO31 : ∀ c, k0_off95 (coordsS c) = ![400 * c.val + 31, 0] := by decide +kernel
theorem offLt0 : ∀ c t, k0_off97 (coordsS c) t = ![400 * c.val + (32 + 16 * t.val + 0)] := by decide +kernel
theorem offOt0 : ∀ c t, k0_off98 (coordsS c) t = ![400 * c.val + (32 + 16 * t.val + 0), 0] := by decide +kernel
theorem offLt1 : ∀ c t, k0_off100 (coordsS c) t = ![400 * c.val + (32 + 16 * t.val + 1)] := by decide +kernel
theorem offOt1 : ∀ c t, k0_off101 (coordsS c) t = ![400 * c.val + (32 + 16 * t.val + 1), 0] := by decide +kernel
theorem offLt2 : ∀ c t, k0_off103 (coordsS c) t = ![400 * c.val + (32 + 16 * t.val + 2)] := by decide +kernel
theorem offOt2 : ∀ c t, k0_off104 (coordsS c) t = ![400 * c.val + (32 + 16 * t.val + 2), 0] := by decide +kernel
theorem offLt3 : ∀ c t, k0_off106 (coordsS c) t = ![400 * c.val + (32 + 16 * t.val + 3)] := by decide +kernel
theorem offOt3 : ∀ c t, k0_off107 (coordsS c) t = ![400 * c.val + (32 + 16 * t.val + 3), 0] := by decide +kernel
theorem offLt4 : ∀ c t, k0_off109 (coordsS c) t = ![400 * c.val + (32 + 16 * t.val + 4)] := by decide +kernel
theorem offOt4 : ∀ c t, k0_off110 (coordsS c) t = ![400 * c.val + (32 + 16 * t.val + 4), 0] := by decide +kernel
theorem offLt5 : ∀ c t, k0_off112 (coordsS c) t = ![400 * c.val + (32 + 16 * t.val + 5)] := by decide +kernel
theorem offOt5 : ∀ c t, k0_off113 (coordsS c) t = ![400 * c.val + (32 + 16 * t.val + 5), 0] := by decide +kernel
theorem offLt6 : ∀ c t, k0_off115 (coordsS c) t = ![400 * c.val + (32 + 16 * t.val + 6)] := by decide +kernel
theorem offOt6 : ∀ c t, k0_off116 (coordsS c) t = ![400 * c.val + (32 + 16 * t.val + 6), 0] := by decide +kernel
theorem offLt7 : ∀ c t, k0_off118 (coordsS c) t = ![400 * c.val + (32 + 16 * t.val + 7)] := by decide +kernel
theorem offOt7 : ∀ c t, k0_off119 (coordsS c) t = ![400 * c.val + (32 + 16 * t.val + 7), 0] := by decide +kernel
theorem offLt8 : ∀ c t, k0_off121 (coordsS c) t = ![400 * c.val + (32 + 16 * t.val + 8)] := by decide +kernel
theorem offOt8 : ∀ c t, k0_off122 (coordsS c) t = ![400 * c.val + (32 + 16 * t.val + 8), 0] := by decide +kernel
theorem offLt9 : ∀ c t, k0_off124 (coordsS c) t = ![400 * c.val + (32 + 16 * t.val + 9)] := by decide +kernel
theorem offOt9 : ∀ c t, k0_off125 (coordsS c) t = ![400 * c.val + (32 + 16 * t.val + 9), 0] := by decide +kernel
theorem offLt10 : ∀ c t, k0_off127 (coordsS c) t = ![400 * c.val + (32 + 16 * t.val + 10)] := by decide +kernel
theorem offOt10 : ∀ c t, k0_off128 (coordsS c) t = ![400 * c.val + (32 + 16 * t.val + 10), 0] := by decide +kernel
theorem offLt11 : ∀ c t, k0_off130 (coordsS c) t = ![400 * c.val + (32 + 16 * t.val + 11)] := by decide +kernel
theorem offOt11 : ∀ c t, k0_off131 (coordsS c) t = ![400 * c.val + (32 + 16 * t.val + 11), 0] := by decide +kernel
theorem offLt12 : ∀ c t, k0_off133 (coordsS c) t = ![400 * c.val + (32 + 16 * t.val + 12)] := by decide +kernel
theorem offOt12 : ∀ c t, k0_off134 (coordsS c) t = ![400 * c.val + (32 + 16 * t.val + 12), 0] := by decide +kernel
theorem offLt13 : ∀ c t, k0_off136 (coordsS c) t = ![400 * c.val + (32 + 16 * t.val + 13)] := by decide +kernel
theorem offOt13 : ∀ c t, k0_off137 (coordsS c) t = ![400 * c.val + (32 + 16 * t.val + 13), 0] := by decide +kernel
theorem offLt14 : ∀ c t, k0_off139 (coordsS c) t = ![400 * c.val + (32 + 16 * t.val + 14)] := by decide +kernel
theorem offOt14 : ∀ c t, k0_off140 (coordsS c) t = ![400 * c.val + (32 + 16 * t.val + 14), 0] := by decide +kernel
theorem offLt15 : ∀ c t, k0_off142 (coordsS c) t = ![400 * c.val + (32 + 16 * t.val + 15)] := by decide +kernel
theorem offOt15 : ∀ c t, k0_off143 (coordsS c) t = ![400 * c.val + (32 + 16 * t.val + 15), 0] := by decide +kernel

section Parts

variable (d : Dev nD) (c : Fin (grid0.bound 0))
variable (fi : S896.Idx → BitVec 32) (tab : S100000x64.Idx → Elt F .f32) (h : InRange fi) (f0 : S800x64.Idx → Elt F .f32)
variable (O : CellTallies nD τ sig (HIx 1)) (W : Waits sig (HIx 1))
variable [FloatOps F]

local notation "WP" => wp frame (wpE (defs₀ (F := F)) 𝒱₀ (thr d c) none) Set.univ

/-- The index word of copy `k`. -/
abbrev word (c : Fin (grid0.bound 0)) (fi : S896.Idx → BitVec 32) (k : ℕ) (hk : k < 400) : BitVec 32 := fi (ix896 (400 * c.val + k) (by have := c.isLt; simp at this; omega))

theorem word_lt {c : Fin (grid0.bound 0)} {fi : S896.Idx → BitVec 32} (h : InRange fi) (k : ℕ) (hk : k < 400) : (word c fi k hk).toNat < 100000 :=
  h _ (by have := c.isLt; simp at this; omega)

theorem t23 (t : Fin k0_t1_loop.trips) : t.val < 23 := t.isLt

theorem part1_run (t : Fin k0_t1_loop.trips) (v0 : BitVec 32) (c0_i32_175 : BitVec 32) (c1_i32_176 : BitVec 32) (Q : (Σ' (v387 : BitVec 32) (v415 : Elt F .i32), k0_chk36 v415) → sProp 𝕄) :
    St d c fi tab h f0 O W (32 + 16 * t.val + 0) (16 * t.val + 0) ⊢ iprop((∀ r, ⌜r.2.1 = word c fi (32 + 16 * t.val + 3) (by have := t23 t; omega)⌝ -∗ St d c fi tab h f0 O W (32 + 16 * t.val + 3) (16 * t.val + 0) -∗ Q r)
      -∗ WP (k0_part1 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 c0_i32_175 c1_i32_176 t) Q) := by
  rw [k0_part1_eq_skeleton]
  unfold k0_part1_skel
  iintro HS Hk
  iapply (load_step d c fi tab h f0 O W (32 + 16 * t.val + 0) (16 * t.val + 0) (400 * c.val + (32 + 16 * t.val + 0)) (by have := c.isLt; simp at this; have := t23 t; omega) _ (offLt0 c t)) $$ HS; iintro HS
  iapply (assume_step d c (chk_of (word_lt h (32 + 16 * t.val + 0) (by have := t23 t; omega))))
  iapply (fire_step d c fi tab h f0 O W (32 + 16 * t.val + 0) (16 * t.val + 0) (by have := t23 t; omega) (by omega) _ rfl _ _ (offOt0 c t) rfl) $$ HS; iintro HS
  iapply (load_step d c fi tab h f0 O W (32 + 16 * t.val + 1) (16 * t.val + 0) (400 * c.val + (32 + 16 * t.val + 1)) (by have := c.isLt; simp at this; have := t23 t; omega) _ (offLt1 c t)) $$ HS; iintro HS
  iapply (assume_step d c (chk_of (word_lt h (32 + 16 * t.val + 1) (by have := t23 t; omega))))
  iapply (fire_step d c fi tab h f0 O W (32 + 16 * t.val + 1) (16 * t.val + 0) (by have := t23 t; omega) (by omega) _ rfl _ _ (offOt1 c t) rfl) $$ HS; iintro HS
  iapply (load_step d c fi tab h f0 O W (32 + 16 * t.val + 2) (16 * t.val + 0) (400 * c.val + (32 + 16 * t.val + 2)) (by have := c.isLt; simp at this; have := t23 t; omega) _ (offLt2 c t)) $$ HS; iintro HS
  iapply (assume_step d c (chk_of (word_lt h (32 + 16 * t.val + 2) (by have := t23 t; omega))))
  iapply (fire_step d c fi tab h f0 O W (32 + 16 * t.val + 2) (16 * t.val + 0) (by have := t23 t; omega) (by omega) _ rfl _ _ (offOt2 c t) rfl) $$ HS; iintro HS
  iapply (load_step d c fi tab h f0 O W (32 + 16 * t.val + 3) (16 * t.val + 0) (400 * c.val + (32 + 16 * t.val + 3)) (by have := c.isLt; simp at this; have := t23 t; omega) _ (offLt3 c t)) $$ HS; iintro HS
  iapply (assume_step d c (chk_of (word_lt h (32 + 16 * t.val + 3) (by have := t23 t; omega))))
  iapply (le_wp_ret _ _)
  ispecialize Hk $$ %_
  iapply Hk
  · ipureintro; rfl
  · iexact HS

theorem part2_run (t : Fin k0_t1_loop.trips) (v0 : BitVec 32) (v387 : BitVec 32) (v415 : Elt F .i32) (k0_hw36 : k0_chk36 v415) (hv : v415 = word c fi (32 + 16 * t.val + 3) (by have := t23 t; omega)) (Q : (BitVec 32) → sProp 𝕄) :
    St d c fi tab h f0 O W (32 + 16 * t.val + 3) (16 * t.val + 0) ⊢ iprop((∀ r, ⌜True⌝ -∗ St d c fi tab h f0 O W (32 + 16 * t.val + 8) (16 * t.val + 0) -∗ Q r)
      -∗ WP (k0_part2 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 t v387 v415 k0_hw36) Q) := by
  rw [k0_part2_eq_skeleton]
  unfold k0_part2_skel
  iintro HS Hk
  iapply (fire_step d c fi tab h f0 O W (32 + 16 * t.val + 3) (16 * t.val + 0) (by have := t23 t; omega) (by omega) _ hv _ _ (offOt3 c t) rfl) $$ HS; iintro HS
  iapply (load_step d c fi tab h f0 O W (32 + 16 * t.val + 4) (16 * t.val + 0) (400 * c.val + (32 + 16 * t.val + 4)) (by have := c.isLt; simp at this; have := t23 t; omega) _ (offLt4 c t)) $$ HS; iintro HS
  iapply (assume_step d c (chk_of (word_lt h (32 + 16 * t.val + 4) (by have := t23 t; omega))))
  iapply (fire_step d c fi tab h f0 O W (32 + 16 * t.val + 4) (16 * t.val + 0) (by have := t23 t; omega) (by omega) _ rfl _ _ (offOt4 c t) rfl) $$ HS; iintro HS
  iapply (load_step d c fi tab h f0 O W (32 + 16 * t.val + 5) (16 * t.val + 0) (400 * c.val + (32 + 16 * t.val + 5)) (by have := c.isLt; simp at this; have := t23 t; omega) _ (offLt5 c t)) $$ HS; iintro HS
  iapply (assume_step d c (chk_of (word_lt h (32 + 16 * t.val + 5) (by have := t23 t; omega))))
  iapply (fire_step d c fi tab h f0 O W (32 + 16 * t.val + 5) (16 * t.val + 0) (by have := t23 t; omega) (by omega) _ rfl _ _ (offOt5 c t) rfl) $$ HS; iintro HS
  iapply (load_step d c fi tab h f0 O W (32 + 16 * t.val + 6) (16 * t.val + 0) (400 * c.val + (32 + 16 * t.val + 6)) (by have := c.isLt; simp at this; have := t23 t; omega) _ (offLt6 c t)) $$ HS; iintro HS
  iapply (assume_step d c (chk_of (word_lt h (32 + 16 * t.val + 6) (by have := t23 t; omega))))
  iapply (fire_step d c fi tab h f0 O W (32 + 16 * t.val + 6) (16 * t.val + 0) (by have := t23 t; omega) (by omega) _ rfl _ _ (offOt6 c t) rfl) $$ HS; iintro HS
  iapply (load_step d c fi tab h f0 O W (32 + 16 * t.val + 7) (16 * t.val + 0) (400 * c.val + (32 + 16 * t.val + 7)) (by have := c.isLt; simp at this; have := t23 t; omega) _ (offLt7 c t)) $$ HS; iintro HS
  iapply (assume_step d c (chk_of (word_lt h (32 + 16 * t.val + 7) (by have := t23 t; omega))))
  iapply (fire_step d c fi tab h f0 O W (32 + 16 * t.val + 7) (16 * t.val + 0) (by have := t23 t; omega) (by omega) _ rfl _ _ (offOt7 c t) rfl) $$ HS; iintro HS
  iapply (le_wp_ret _ _)
  ispecialize Hk $$ %_
  iapply Hk
  · ipureintro; trivial
  · iexact HS

theorem part3_run (t : Fin k0_t1_loop.trips) (v0 : BitVec 32) (v387 : BitVec 32) (v453 : BitVec 32) (Q : (Σ' (v487 : Elt F .i32) (k0_hw45 : k0_chk45 v487), BitVec 32) → sProp 𝕄) :
    St d c fi tab h f0 O W (32 + 16 * t.val + 8) (16 * t.val + 0) ⊢ iprop((∀ r, ⌜r.1 = word c fi (32 + 16 * t.val + 12) (by have := t23 t; omega)⌝ -∗ St d c fi tab h f0 O W (32 + 16 * t.val + 12) (16 * t.val + 0) -∗ Q r)
      -∗ WP (k0_part3 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 t v387 v453) Q) := by
  rw [k0_part3_eq_skeleton]
  unfold k0_part3_skel
  iintro HS Hk
  iapply (load_step d c fi tab h f0 O W (32 + 16 * t.val + 8) (16 * t.val + 0) (400 * c.val + (32 + 16 * t.val + 8)) (by have := c.isLt; simp at this; have := t23 t; omega) _ (offLt8 c t)) $$ HS; iintro HS
  iapply (assume_step d c (chk_of (word_lt h (32 + 16 * t.val + 8) (by have := t23 t; omega))))
  iapply (fire_step d c fi tab h f0 O W (32 + 16 * t.val + 8) (16 * t.val + 0) (by have := t23 t; omega) (by omega) _ rfl _ _ (offOt8 c t) rfl) $$ HS; iintro HS
  iapply (load_step d c fi tab h f0 O W (32 + 16 * t.val + 9) (16 * t.val + 0) (400 * c.val + (32 + 16 * t.val + 9)) (by have := c.isLt; simp at this; have := t23 t; omega) _ (offLt9 c t)) $$ HS; iintro HS
  iapply (assume_step d c (chk_of (word_lt h (32 + 16 * t.val + 9) (by have := t23 t; omega))))
  iapply (fire_step d c fi tab h f0 O W (32 + 16 * t.val + 9) (16 * t.val + 0) (by have := t23 t; omega) (by omega) _ rfl _ _ (offOt9 c t) rfl) $$ HS; iintro HS
  iapply (load_step d c fi tab h f0 O W (32 + 16 * t.val + 10) (16 * t.val + 0) (400 * c.val + (32 + 16 * t.val + 10)) (by have := c.isLt; simp at this; have := t23 t; omega) _ (offLt10 c t)) $$ HS; iintro HS
  iapply (assume_step d c (chk_of (word_lt h (32 + 16 * t.val + 10) (by have := t23 t; omega))))
  iapply (fire_step d c fi tab h f0 O W (32 + 16 * t.val + 10) (16 * t.val + 0) (by have := t23 t; omega) (by omega) _ rfl _ _ (offOt10 c t) rfl) $$ HS; iintro HS
  iapply (load_step d c fi tab h f0 O W (32 + 16 * t.val + 11) (16 * t.val + 0) (400 * c.val + (32 + 16 * t.val + 11)) (by have := c.isLt; simp at this; have := t23 t; omega) _ (offLt11 c t)) $$ HS; iintro HS
  iapply (assume_step d c (chk_of (word_lt h (32 + 16 * t.val + 11) (by have := t23 t; omega))))
  iapply (fire_step d c fi tab h f0 O W (32 + 16 * t.val + 11) (16 * t.val + 0) (by have := t23 t; omega) (by omega) _ rfl _ _ (offOt11 c t) rfl) $$ HS; iintro HS
  iapply (load_step d c fi tab h f0 O W (32 + 16 * t.val + 12) (16 * t.val + 0) (400 * c.val + (32 + 16 * t.val + 12)) (by have := c.isLt; simp at this; have := t23 t; omega) _ (offLt12 c t)) $$ HS; iintro HS
  iapply (assume_step d c (chk_of (word_lt h (32 + 16 * t.val + 12) (by have := t23 t; omega))))
  iapply (le_wp_ret _ _)
  ispecialize Hk $$ %_
  iapply Hk
  · ipureintro; rfl
  · iexact HS

theorem part4_run (t : Fin k0_t1_loop.trips) (v0 : BitVec 32) (v387 : BitVec 32) (v487 : Elt F .i32) (k0_hw45 : k0_chk45 v487) (v488 : BitVec 32) (hv : v487 = word c fi (32 + 16 * t.val + 12) (by have := t23 t; omega)) (Q : (BitVec 32) → sProp 𝕄) :
    St d c fi tab h f0 O W (32 + 16 * t.val + 12) (16 * t.val + 0) ⊢ iprop((∀ r, ⌜True⌝ -∗ St d c fi tab h f0 O W (32 + 16 * t.val + 16) (16 * t.val + 1) -∗ Q r)
      -∗ WP (k0_part4 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 t v387 v487 k0_hw45 v488) Q) := by
  rw [k0_part4_eq_skeleton]
  unfold k0_part4_skel
  iintro HS Hk
  iapply (fire_step d c fi tab h f0 O W (32 + 16 * t.val + 12) (16 * t.val + 0) (by have := t23 t; omega) (by omega) _ hv _ _ (offOt12 c t) rfl) $$ HS; iintro HS
  iapply (load_step d c fi tab h f0 O W (32 + 16 * t.val + 13) (16 * t.val + 0) (400 * c.val + (32 + 16 * t.val + 13)) (by have := c.isLt; simp at this; have := t23 t; omega) _ (offLt13 c t)) $$ HS; iintro HS
  iapply (assume_step d c (chk_of (word_lt h (32 + 16 * t.val + 13) (by have := t23 t; omega))))
  iapply (fire_step d c fi tab h f0 O W (32 + 16 * t.val + 13) (16 * t.val + 0) (by have := t23 t; omega) (by omega) _ rfl _ _ (offOt13 c t) rfl) $$ HS; iintro HS
  iapply (load_step d c fi tab h f0 O W (32 + 16 * t.val + 14) (16 * t.val + 0) (400 * c.val + (32 + 16 * t.val + 14)) (by have := c.isLt; simp at this; have := t23 t; omega) _ (offLt14 c t)) $$ HS; iintro HS
  iapply (assume_step d c (chk_of (word_lt h (32 + 16 * t.val + 14) (by have := t23 t; omega))))
  iapply (fire_step d c fi tab h f0 O W (32 + 16 * t.val + 14) (16 * t.val + 0) (by have := t23 t; omega) (by omega) _ rfl _ _ (offOt14 c t) rfl) $$ HS; iintro HS
  iapply (load_step d c fi tab h f0 O W (32 + 16 * t.val + 15) (16 * t.val + 0) (400 * c.val + (32 + 16 * t.val + 15)) (by have := c.isLt; simp at this; have := t23 t; omega) _ (offLt15 c t)) $$ HS; iintro HS
  iapply (assume_step d c (chk_of (word_lt h (32 + 16 * t.val + 15) (by have := t23 t; omega))))
  iapply (fire_step d c fi tab h f0 O W (32 + 16 * t.val + 15) (16 * t.val + 0) (by have := t23 t; omega) (by omega) _ rfl _ _ (offOt15 c t) rfl) $$ HS; iintro HS
  iapply (wait_step d c fi tab h f0 O W (32 + 16 * t.val + 16) (16 * t.val + 0) (by omega)) $$ HS; iintro HS
  iapply (le_wp_ret _ _)
  ispecialize Hk $$ %_
  iapply Hk
  · ipureintro; trivial
  · iexact HS

theorem part5_run (t : Fin k0_t1_loop.trips) (v0 : BitVec 32) (v516 : BitVec 32) (Q : (PUnit) → sProp 𝕄) :
    St d c fi tab h f0 O W (32 + 16 * t.val + 16) (16 * t.val + 1) ⊢ iprop((∀ r, ⌜True⌝ -∗ St d c fi tab h f0 O W (32 + 16 * t.val + 16) (16 * t.val + 7) -∗ Q r)
      -∗ WP (k0_part5 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 t v516) Q) := by
  rw [k0_part5_eq_skeleton]
  unfold k0_part5_skel
  iintro HS Hk
  iapply (wait_step d c fi tab h f0 O W (32 + 16 * t.val + 16) (16 * t.val + 1) (by omega)) $$ HS; iintro HS
  iapply (wait_step d c fi tab h f0 O W (32 + 16 * t.val + 16) (16 * t.val + 2) (by omega)) $$ HS; iintro HS
  iapply (wait_step d c fi tab h f0 O W (32 + 16 * t.val + 16) (16 * t.val + 3) (by omega)) $$ HS; iintro HS
  iapply (wait_step d c fi tab h f0 O W (32 + 16 * t.val + 16) (16 * t.val + 4) (by omega)) $$ HS; iintro HS
  iapply (wait_step d c fi tab h f0 O W (32 + 16 * t.val + 16) (16 * t.val + 5) (by omega)) $$ HS; iintro HS
  iapply (wait_step d c fi tab h f0 O W (32 + 16 * t.val + 16) (16 * t.val + 6) (by omega)) $$ HS; iintro HS
  iapply (le_wp_ret _ _)
  ispecialize Hk $$ %_
  iapply Hk
  · ipureintro; trivial
  · iexact HS

theorem part6_run (t : Fin k0_t1_loop.trips) (v0 : BitVec 32) (v516 : BitVec 32) (Q : (PUnit) → sProp 𝕄) :
    St d c fi tab h f0 O W (32 + 16 * t.val + 16) (16 * t.val + 7) ⊢ iprop((∀ r, ⌜True⌝ -∗ St d c fi tab h f0 O W (32 + 16 * t.val + 16) (16 * t.val + 14) -∗ Q r)
      -∗ WP (k0_part6 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 t v516) Q) := by
  rw [k0_part6_eq_skeleton]
  unfold k0_part6_skel
  iintro HS Hk
  iapply (wait_step d c fi tab h f0 O W (32 + 16 * t.val + 16) (16 * t.val + 7) (by omega)) $$ HS; iintro HS
  iapply (wait_step d c fi tab h f0 O W (32 + 16 * t.val + 16) (16 * t.val + 8) (by omega)) $$ HS; iintro HS
  iapply (wait_step d c fi tab h f0 O W (32 + 16 * t.val + 16) (16 * t.val + 9) (by omega)) $$ HS; iintro HS
  iapply (wait_step d c fi tab h f0 O W (32 + 16 * t.val + 16) (16 * t.val + 10) (by omega)) $$ HS; iintro HS
  iapply (wait_step d c fi tab h f0 O W (32 + 16 * t.val + 16) (16 * t.val + 11) (by omega)) $$ HS; iintro HS
  iapply (wait_step d c fi tab h f0 O W (32 + 16 * t.val + 16) (16 * t.val + 12) (by omega)) $$ HS; iintro HS
  iapply (wait_step d c fi tab h f0 O W (32 + 16 * t.val + 16) (16 * t.val + 13) (by omega)) $$ HS; iintro HS
  iapply (le_wp_ret _ _)
  ispecialize Hk $$ %_
  iapply Hk
  · ipureintro; trivial
  · iexact HS

theorem part8_run (v0 : BitVec 32) (v28 : Elt F .i32) (k0_hw4 : k0_chk4 v28) (hv : v28 = word c fi 3 (by omega)) (Q : (Σ' (v57 : BitVec 32), BitVec 32) → sProp 𝕄) :
    St d c fi tab h f0 O W 3 0 ⊢ iprop((∀ r, ⌜True⌝ -∗ St d c fi tab h f0 O W 7 0 -∗ Q r)
      -∗ WP (k0_part8 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v28 k0_hw4) Q) := by
  rw [k0_part8_eq_skeleton]
  unfold k0_part8_skel
  iintro HS Hk
  iapply (fire_step d c fi tab h f0 O W 3 0 (by decide) (by decide) _ hv _ _ (offO3 c) rfl) $$ HS; iintro HS
  iapply (load_step d c fi tab h f0 O W 4 0 (400 * c.val + 4) (by have := c.isLt; simp at this; omega) _ (offL4 c)) $$ HS; iintro HS
  iapply (assume_step d c (chk_of (word_lt h 4 (by decide))))
  iapply (fire_step d c fi tab h f0 O W 4 0 (by decide) (by decide) _ rfl _ _ (offO4 c) rfl) $$ HS; iintro HS
  iapply (load_step d c fi tab h f0 O W 5 0 (400 * c.val + 5) (by have := c.isLt; simp at this; omega) _ (offL5 c)) $$ HS; iintro HS
  iapply (assume_step d c (chk_of (word_lt h 5 (by decide))))
  iapply (fire_step d c fi tab h f0 O W 5 0 (by decide) (by decide) _ rfl _ _ (offO5 c) rfl) $$ HS; iintro HS
  iapply (load_step d c fi tab h f0 O W 6 0 (400 * c.val + 6) (by have := c.isLt; simp at this; omega) _ (offL6 c)) $$ HS; iintro HS
  iapply (assume_step d c (chk_of (word_lt h 6 (by decide))))
  iapply (fire_step d c fi tab h f0 O W 6 0 (by decide) (by decide) _ rfl _ _ (offO6 c) rfl) $$ HS; iintro HS
  iapply (le_wp_ret _ _)
  ispecialize Hk $$ %_
  iapply Hk
  · ipureintro; trivial
  · iexact HS

theorem part9_run (v0 : BitVec 32) (v57 : BitVec 32) (c7_i32 : BitVec 32) (Q : (Σ' (v84 : Elt F .i32), k0_chk11 v84) → sProp 𝕄) :
    St d c fi tab h f0 O W 7 0 ⊢ iprop((∀ r, ⌜r.1 = word c fi 10 (by decide)⌝ -∗ St d c fi tab h f0 O W 10 0 -∗ Q r)
      -∗ WP (k0_part9 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v57 c7_i32) Q) := by
  rw [k0_part9_eq_skeleton]
  unfold k0_part9_skel
  iintro HS Hk
  iapply (load_step d c fi tab h f0 O W 7 0 (400 * c.val + 7) (by have := c.isLt; simp at this; omega) _ (offL7 c)) $$ HS; iintro HS
  iapply (assume_step d c (chk_of (word_lt h 7 (by decide))))
  iapply (fire_step d c fi tab h f0 O W 7 0 (by decide) (by decide) _ rfl _ _ (offO7 c) rfl) $$ HS; iintro HS
  iapply (load_step d c fi tab h f0 O W 8 0 (400 * c.val + 8) (by have := c.isLt; simp at this; omega) _ (offL8 c)) $$ HS; iintro HS
  iapply (assume_step d c (chk_of (word_lt h 8 (by decide))))
  iapply (fire_step d c fi tab h f0 O W 8 0 (by decide) (by decide) _ rfl _ _ (offO8 c) rfl) $$ HS; iintro HS
  iapply (load_step d c fi tab h f0 O W 9 0 (400 * c.val + 9) (by have := c.isLt; simp at this; omega) _ (offL9 c)) $$ HS; iintro HS
  iapply (assume_step d c (chk_of (word_lt h 9 (by decide))))
  iapply (fire_step d c fi tab h f0 O W 9 0 (by decide) (by decide) _ rfl _ _ (offO9 c) rfl) $$ HS; iintro HS
  iapply (load_step d c fi tab h f0 O W 10 0 (400 * c.val + 10) (by have := c.isLt; simp at this; omega) _ (offL10 c)) $$ HS; iintro HS
  iapply (assume_step d c (chk_of (word_lt h 10 (by decide))))
  iapply (le_wp_ret _ _)
  ispecialize Hk $$ %_
  iapply Hk
  · ipureintro; rfl
  · iexact HS

theorem part10_run (v0 : BitVec 32) (v84 : Elt F .i32) (k0_hw11 : k0_chk11 v84) (hv : v84 = word c fi 10 (by omega)) (Q : (Σ' (v116 : Elt F .i32), k0_chk15 v116) → sProp 𝕄) :
    St d c fi tab h f0 O W 10 0 ⊢ iprop((∀ r, ⌜r.1 = word c fi 14 (by decide)⌝ -∗ St d c fi tab h f0 O W 14 0 -∗ Q r)
      -∗ WP (k0_part10 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v84 k0_hw11) Q) := by
  rw [k0_part10_eq_skeleton]
  unfold k0_part10_skel
  iintro HS Hk
  iapply (fire_step d c fi tab h f0 O W 10 0 (by decide) (by decide) _ hv _ _ (offO10 c) rfl) $$ HS; iintro HS
  iapply (load_step d c fi tab h f0 O W 11 0 (400 * c.val + 11) (by have := c.isLt; simp at this; omega) _ (offL11 c)) $$ HS; iintro HS
  iapply (assume_step d c (chk_of (word_lt h 11 (by decide))))
  iapply (fire_step d c fi tab h f0 O W 11 0 (by decide) (by decide) _ rfl _ _ (offO11 c) rfl) $$ HS; iintro HS
  iapply (load_step d c fi tab h f0 O W 12 0 (400 * c.val + 12) (by have := c.isLt; simp at this; omega) _ (offL12 c)) $$ HS; iintro HS
  iapply (assume_step d c (chk_of (word_lt h 12 (by decide))))
  iapply (fire_step d c fi tab h f0 O W 12 0 (by decide) (by decide) _ rfl _ _ (offO12 c) rfl) $$ HS; iintro HS
  iapply (load_step d c fi tab h f0 O W 13 0 (400 * c.val + 13) (by have := c.isLt; simp at this; omega) _ (offL13 c)) $$ HS; iintro HS
  iapply (assume_step d c (chk_of (word_lt h 13 (by decide))))
  iapply (fire_step d c fi tab h f0 O W 13 0 (by decide) (by decide) _ rfl _ _ (offO13 c) rfl) $$ HS; iintro HS
  iapply (load_step d c fi tab h f0 O W 14 0 (400 * c.val + 14) (by have := c.isLt; simp at this; omega) _ (offL14 c)) $$ HS; iintro HS
  iapply (assume_step d c (chk_of (word_lt h 14 (by decide))))
  iapply (le_wp_ret _ _)
  ispecialize Hk $$ %_
  iapply Hk
  · ipureintro; rfl
  · iexact HS

theorem part11_run (v0 : BitVec 32) (v116 : Elt F .i32) (k0_hw15 : k0_chk15 v116) (hv : v116 = word c fi 14 (by omega)) (Q : (Σ' (v148 : Elt F .i32), k0_chk19 v148) → sProp 𝕄) :
    St d c fi tab h f0 O W 14 0 ⊢ iprop((∀ r, ⌜r.1 = word c fi 18 (by decide)⌝ -∗ St d c fi tab h f0 O W 18 0 -∗ Q r)
      -∗ WP (k0_part11 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v116 k0_hw15) Q) := by
  rw [k0_part11_eq_skeleton]
  unfold k0_part11_skel
  iintro HS Hk
  iapply (fire_step d c fi tab h f0 O W 14 0 (by decide) (by decide) _ hv _ _ (offO14 c) rfl) $$ HS; iintro HS
  iapply (load_step d c fi tab h f0 O W 15 0 (400 * c.val + 15) (by have := c.isLt; simp at this; omega) _ (offL15 c)) $$ HS; iintro HS
  iapply (assume_step d c (chk_of (word_lt h 15 (by decide))))
  iapply (fire_step d c fi tab h f0 O W 15 0 (by decide) (by decide) _ rfl _ _ (offO15 c) rfl) $$ HS; iintro HS
  iapply (load_step d c fi tab h f0 O W 16 0 (400 * c.val + 16) (by have := c.isLt; simp at this; omega) _ (offL16 c)) $$ HS; iintro HS
  iapply (assume_step d c (chk_of (word_lt h 16 (by decide))))
  iapply (fire_step d c fi tab h f0 O W 16 0 (by decide) (by decide) _ rfl _ _ (offO16 c) rfl) $$ HS; iintro HS
  iapply (load_step d c fi tab h f0 O W 17 0 (400 * c.val + 17) (by have := c.isLt; simp at this; omega) _ (offL17 c)) $$ HS; iintro HS
  iapply (assume_step d c (chk_of (word_lt h 17 (by decide))))
  iapply (fire_step d c fi tab h f0 O W 17 0 (by decide) (by decide) _ rfl _ _ (offO17 c) rfl) $$ HS; iintro HS
  iapply (load_step d c fi tab h f0 O W 18 0 (400 * c.val + 18) (by have := c.isLt; simp at this; omega) _ (offL18 c)) $$ HS; iintro HS
  iapply (assume_step d c (chk_of (word_lt h 18 (by decide))))
  iapply (le_wp_ret _ _)
  ispecialize Hk $$ %_
  iapply Hk
  · ipureintro; rfl
  · iexact HS

theorem part12_run (v0 : BitVec 32) (v148 : Elt F .i32) (k0_hw19 : k0_chk19 v148) (hv : v148 = word c fi 18 (by omega)) (Q : (Σ' (v177 : BitVec 32), BitVec 32) → sProp 𝕄) :
    St d c fi tab h f0 O W 18 0 ⊢ iprop((∀ r, ⌜True⌝ -∗ St d c fi tab h f0 O W 22 0 -∗ Q r)
      -∗ WP (k0_part12 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v148 k0_hw19) Q) := by
  rw [k0_part12_eq_skeleton]
  unfold k0_part12_skel
  iintro HS Hk
  iapply (fire_step d c fi tab h f0 O W 18 0 (by decide) (by decide) _ hv _ _ (offO18 c) rfl) $$ HS; iintro HS
  iapply (load_step d c fi tab h f0 O W 19 0 (400 * c.val + 19) (by have := c.isLt; simp at this; omega) _ (offL19 c)) $$ HS; iintro HS
  iapply (assume_step d c (chk_of (word_lt h 19 (by decide))))
  iapply (fire_step d c fi tab h f0 O W 19 0 (by decide) (by decide) _ rfl _ _ (offO19 c) rfl) $$ HS; iintro HS
  iapply (load_step d c fi tab h f0 O W 20 0 (400 * c.val + 20) (by have := c.isLt; simp at this; omega) _ (offL20 c)) $$ HS; iintro HS
  iapply (assume_step d c (chk_of (word_lt h 20 (by decide))))
  iapply (fire_step d c fi tab h f0 O W 20 0 (by decide) (by decide) _ rfl _ _ (offO20 c) rfl) $$ HS; iintro HS
  iapply (load_step d c fi tab h f0 O W 21 0 (400 * c.val + 21) (by have := c.isLt; simp at this; omega) _ (offL21 c)) $$ HS; iintro HS
  iapply (assume_step d c (chk_of (word_lt h 21 (by decide))))
  iapply (fire_step d c fi tab h f0 O W 21 0 (by decide) (by decide) _ rfl _ _ (offO21 c) rfl) $$ HS; iintro HS
  iapply (le_wp_ret _ _)
  ispecialize Hk $$ %_
  iapply Hk
  · ipureintro; trivial
  · iexact HS

theorem part13_run (v0 : BitVec 32) (v177 : BitVec 32) (c6_i32_116 : BitVec 32) (Q : (Σ' (v204 : Elt F .i32), k0_chk26 v204) → sProp 𝕄) :
    St d c fi tab h f0 O W 22 0 ⊢ iprop((∀ r, ⌜r.1 = word c fi 25 (by decide)⌝ -∗ St d c fi tab h f0 O W 25 0 -∗ Q r)
      -∗ WP (k0_part13 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v177 c6_i32_116) Q) := by
  rw [k0_part13_eq_skeleton]
  unfold k0_part13_skel
  iintro HS Hk
  iapply (load_step d c fi tab h f0 O W 22 0 (400 * c.val + 22) (by have := c.isLt; simp at this; omega) _ (offL22 c)) $$ HS; iintro HS
  iapply (assume_step d c (chk_of (word_lt h 22 (by decide))))
  iapply (fire_step d c fi tab h f0 O W 22 0 (by decide) (by decide) _ rfl _ _ (offO22 c) rfl) $$ HS; iintro HS
  iapply (load_step d c fi tab h f0 O W 23 0 (400 * c.val + 23) (by have := c.isLt; simp at this; omega) _ (offL23 c)) $$ HS; iintro HS
  iapply (assume_step d c (chk_of (word_lt h 23 (by decide))))
  iapply (fire_step d c fi tab h f0 O W 23 0 (by decide) (by decide) _ rfl _ _ (offO23 c) rfl) $$ HS; iintro HS
  iapply (load_step d c fi tab h f0 O W 24 0 (400 * c.val + 24) (by have := c.isLt; simp at this; omega) _ (offL24 c)) $$ HS; iintro HS
  iapply (assume_step d c (chk_of (word_lt h 24 (by decide))))
  iapply (fire_step d c fi tab h f0 O W 24 0 (by decide) (by decide) _ rfl _ _ (offO24 c) rfl) $$ HS; iintro HS
  iapply (load_step d c fi tab h f0 O W 25 0 (400 * c.val + 25) (by have := c.isLt; simp at this; omega) _ (offL25 c)) $$ HS; iintro HS
  iapply (assume_step d c (chk_of (word_lt h 25 (by decide))))
  iapply (le_wp_ret _ _)
  ispecialize Hk $$ %_
  iapply Hk
  · ipureintro; rfl
  · iexact HS

theorem part14_run (v0 : BitVec 32) (v204 : Elt F .i32) (k0_hw26 : k0_chk26 v204) (hv : v204 = word c fi 25 (by omega)) (Q : (Σ' (v236 : Elt F .i32), k0_chk30 v236) → sProp 𝕄) :
    St d c fi tab h f0 O W 25 0 ⊢ iprop((∀ r, ⌜r.1 = word c fi 29 (by decide)⌝ -∗ St d c fi tab h f0 O W 29 0 -∗ Q r)
      -∗ WP (k0_part14 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v204 k0_hw26) Q) := by
  rw [k0_part14_eq_skeleton]
  unfold k0_part14_skel
  iintro HS Hk
  iapply (fire_step d c fi tab h f0 O W 25 0 (by decide) (by decide) _ hv _ _ (offO25 c) rfl) $$ HS; iintro HS
  iapply (load_step d c fi tab h f0 O W 26 0 (400 * c.val + 26) (by have := c.isLt; simp at this; omega) _ (offL26 c)) $$ HS; iintro HS
  iapply (assume_step d c (chk_of (word_lt h 26 (by decide))))
  iapply (fire_step d c fi tab h f0 O W 26 0 (by decide) (by decide) _ rfl _ _ (offO26 c) rfl) $$ HS; iintro HS
  iapply (load_step d c fi tab h f0 O W 27 0 (400 * c.val + 27) (by have := c.isLt; simp at this; omega) _ (offL27 c)) $$ HS; iintro HS
  iapply (assume_step d c (chk_of (word_lt h 27 (by decide))))
  iapply (fire_step d c fi tab h f0 O W 27 0 (by decide) (by decide) _ rfl _ _ (offO27 c) rfl) $$ HS; iintro HS
  iapply (load_step d c fi tab h f0 O W 28 0 (400 * c.val + 28) (by have := c.isLt; simp at this; omega) _ (offL28 c)) $$ HS; iintro HS
  iapply (assume_step d c (chk_of (word_lt h 28 (by decide))))
  iapply (fire_step d c fi tab h f0 O W 28 0 (by decide) (by decide) _ rfl _ _ (offO28 c) rfl) $$ HS; iintro HS
  iapply (load_step d c fi tab h f0 O W 29 0 (400 * c.val + 29) (by have := c.isLt; simp at this; omega) _ (offL29 c)) $$ HS; iintro HS
  iapply (assume_step d c (chk_of (word_lt h 29 (by decide))))
  iapply (le_wp_ret _ _)
  ispecialize Hk $$ %_
  iapply Hk
  · ipureintro; rfl
  · iexact HS

theorem part16_run (v0 : BitVec 32) (Q : (PUnit) → sProp 𝕄) :
    St d c fi tab h f0 O W 400 369 ⊢ iprop((∀ r, ⌜True⌝ -∗ St d c fi tab h f0 O W 400 375 -∗ Q r)
      -∗ WP (k0_part16 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0) Q) := by
  rw [k0_part16_eq_skeleton]
  unfold k0_part16_skel
  iintro HS Hk
  iapply (wait_step d c fi tab h f0 O W 400 369 (by decide)) $$ HS; iintro HS
  iapply (wait_step d c fi tab h f0 O W 400 370 (by decide)) $$ HS; iintro HS
  iapply (wait_step d c fi tab h f0 O W 400 371 (by decide)) $$ HS; iintro HS
  iapply (wait_step d c fi tab h f0 O W 400 372 (by decide)) $$ HS; iintro HS
  iapply (wait_step d c fi tab h f0 O W 400 373 (by decide)) $$ HS; iintro HS
  iapply (wait_step d c fi tab h f0 O W 400 374 (by decide)) $$ HS; iintro HS
  iapply (le_wp_ret _ _)
  ispecialize Hk $$ %_
  iapply Hk
  · ipureintro; trivial
  · iexact HS

theorem part17_run (v0 : BitVec 32) (Q : (PUnit) → sProp 𝕄) :
    St d c fi tab h f0 O W 400 375 ⊢ iprop((∀ r, ⌜True⌝ -∗ St d c fi tab h f0 O W 400 381 -∗ Q r)
      -∗ WP (k0_part17 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0) Q) := by
  rw [k0_part17_eq_skeleton]
  unfold k0_part17_skel
  iintro HS Hk
  iapply (wait_step d c fi tab h f0 O W 400 375 (by decide)) $$ HS; iintro HS
  iapply (wait_step d c fi tab h f0 O W 400 376 (by decide)) $$ HS; iintro HS
  iapply (wait_step d c fi tab h f0 O W 400 377 (by decide)) $$ HS; iintro HS
  iapply (wait_step d c fi tab h f0 O W 400 378 (by decide)) $$ HS; iintro HS
  iapply (wait_step d c fi tab h f0 O W 400 379 (by decide)) $$ HS; iintro HS
  iapply (wait_step d c fi tab h f0 O W 400 380 (by decide)) $$ HS; iintro HS
  iapply (le_wp_ret _ _)
  ispecialize Hk $$ %_
  iapply Hk
  · ipureintro; trivial
  · iexact HS

theorem part18_run (v0 : BitVec 32) (Q : (PUnit) → sProp 𝕄) :
    St d c fi tab h f0 O W 400 381 ⊢ iprop((∀ r, ⌜True⌝ -∗ St d c fi tab h f0 O W 400 387 -∗ Q r)
      -∗ WP (k0_part18 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0) Q) := by
  rw [k0_part18_eq_skeleton]
  unfold k0_part18_skel
  iintro HS Hk
  iapply (wait_step d c fi tab h f0 O W 400 381 (by decide)) $$ HS; iintro HS
  iapply (wait_step d c fi tab h f0 O W 400 382 (by decide)) $$ HS; iintro HS
  iapply (wait_step d c fi tab h f0 O W 400 383 (by decide)) $$ HS; iintro HS
  iapply (wait_step d c fi tab h f0 O W 400 384 (by decide)) $$ HS; iintro HS
  iapply (wait_step d c fi tab h f0 O W 400 385 (by decide)) $$ HS; iintro HS
  iapply (wait_step d c fi tab h f0 O W 400 386 (by decide)) $$ HS; iintro HS
  iapply (le_wp_ret _ _)
  ispecialize Hk $$ %_
  iapply Hk
  · ipureintro; trivial
  · iexact HS

theorem part19_run (v0 : BitVec 32) (Q : (PUnit) → sProp 𝕄) :
    St d c fi tab h f0 O W 400 387 ⊢ iprop((∀ r, ⌜True⌝ -∗ St d c fi tab h f0 O W 400 393 -∗ Q r)
      -∗ WP (k0_part19 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0) Q) := by
  rw [k0_part19_eq_skeleton]
  unfold k0_part19_skel
  iintro HS Hk
  iapply (wait_step d c fi tab h f0 O W 400 387 (by decide)) $$ HS; iintro HS
  iapply (wait_step d c fi tab h f0 O W 400 388 (by decide)) $$ HS; iintro HS
  iapply (wait_step d c fi tab h f0 O W 400 389 (by decide)) $$ HS; iintro HS
  iapply (wait_step d c fi tab h f0 O W 400 390 (by decide)) $$ HS; iintro HS
  iapply (wait_step d c fi tab h f0 O W 400 391 (by decide)) $$ HS; iintro HS
  iapply (wait_step d c fi tab h f0 O W 400 392 (by decide)) $$ HS; iintro HS
  iapply (le_wp_ret _ _)
  ispecialize Hk $$ %_
  iapply Hk
  · ipureintro; trivial
  · iexact HS

theorem part20_run (v0 : BitVec 32) (Q : (PUnit) → sProp 𝕄) :
    St d c fi tab h f0 O W 400 393 ⊢ iprop((∀ r, ⌜True⌝ -∗ St d c fi tab h f0 O W 400 399 -∗ Q r)
      -∗ WP (k0_part20 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0) Q) := by
  rw [k0_part20_eq_skeleton]
  unfold k0_part20_skel
  iintro HS Hk
  iapply (wait_step d c fi tab h f0 O W 400 393 (by decide)) $$ HS; iintro HS
  iapply (wait_step d c fi tab h f0 O W 400 394 (by decide)) $$ HS; iintro HS
  iapply (wait_step d c fi tab h f0 O W 400 395 (by decide)) $$ HS; iintro HS
  iapply (wait_step d c fi tab h f0 O W 400 396 (by decide)) $$ HS; iintro HS
  iapply (wait_step d c fi tab h f0 O W 400 397 (by decide)) $$ HS; iintro HS
  iapply (wait_step d c fi tab h f0 O W 400 398 (by decide)) $$ HS; iintro HS
  iapply (le_wp_ret _ _)
  ispecialize Hk $$ %_
  iapply Hk
  · ipureintro; trivial
  · iexact HS

end Parts

end Cert.Proof.Run

end
-- ==== Proof.GatherRun.lean ====
/-
  The gather kernel run whole on one sequencer: the index array fetched, the first copies, the window of
  copies kept in flight, the tail of waits.
-/
module

public import proofs.«01_k».proof.Proof.GatherBody

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "tabM" => (Memref.whole Cert.KernelIdeal.main_arg3_scs : Memref Cert.KernelIdeal.sig Kind.scScalar Space.hbm Cert.KernelIdeal.S100000x64 EltTy.f32)
local notation "idxM" => (Memref.whole Cert.KernelIdeal.main_v3_scs : Memref Cert.KernelIdeal.sig Kind.scScalar Space.hbm Cert.KernelIdeal.S896 EltTy.i32)
local notation "outM" => (Memref.whole Cert.KernelIdeal.main_v4_scs : Memref Cert.KernelIdeal.sig Kind.scScalar Space.hbm Cert.KernelIdeal.S800x64 EltTy.f32)
local notation "smM" => (Memref.whole Cert.KernelIdeal.cc0_scratch0 : Memref Cert.KernelIdeal.sig Kind.scScalar Space.smem Cert.KernelIdeal.S896 EltTy.i32)

section Parts

variable (d : Dev nD) (c : Fin (grid0.bound 0))
variable (fi : S896.Idx → BitVec 32) (tab : S100000x64.Idx → Elt F .f32) (h : InRange fi) (f0 : S800x64.Idx → Elt F .f32)
variable (O : CellTallies nD τ sig (HIx 1)) (W : Waits sig (HIx 1))
variable [FloatOps F]

local notation "WP" => wp frame (wpE (defs₀ (F := F)) 𝒱₀ (thr d c) none) Set.univ

theorem bind_step {α β : Type} (p : Prog (TpuEff nD τ sig (Elt F) Λ₀ (thr d c).2) α) (k : α → Prog (TpuEff nD τ sig (Elt F) Λ₀ (thr d c).2) β) (Q : β → sProp 𝕄) :
    (WP p (fun a => WP (k a) Q)) ⊢ WP (p >>= k) Q := by
  rw [wp_bind]

theorem fupd_wp' {α : Type} (p : Prog (TpuEff nD τ sig (Elt F) Λ₀ (thr d c).2) α) (Q : α → sProp 𝕄) :
    (iprop(|={Set.univ}=> WP p (fun a => Q a)) : sProp 𝕄) ⊢ WP p (fun a => Q a) := by
  iintro H
  imod H
  iexact H

/-- The index array copied into scalar memory, the copy waited for at once. -/
theorem copy_step {α : Type} (q : PosShare TreeShare) (fs : S896.Idx → BitVec 32) (hs) (w1) (w2) (w3) (w4)
    (Kk : PUnit → Prog (TpuEff nD τ sig (Elt F) Λ₀ (thr d c).2) α) (Q : α → sProp 𝕄) :
    iprop(Transfers.MayWaits (thr d c) (none : HIx 1) O ∗ ((idxM).view.loc (thr d c) ↦{q} fi) ∗ ((smM).view.loc (thr d c) ↦{fullShare} fs)
        ∗ semVal (thr d c, SemLoc.dma Cert.KernelIdeal.cc0_scoped0.sem) 0 ∗ owes (thr d c) O W)
      ⊢ iprop((iprop(Transfers.MayWaits (thr d c) (none : HIx 1) O ∗ ((idxM).view.loc (thr d c) ↦{q} fi) ∗ ((smM).view.loc (thr d c) ↦{fullShare} fi)
          ∗ semVal (thr d c, SemLoc.dma Cert.KernelIdeal.cc0_scoped0.sem) 0 ∗ ∃ W', ⌜∀ p ∈ W', p ∈ W ∨ p.2 = none⌝ ∗ owes (thr d c) O W')
            -∗ WP (Kk ⟨⟩) (fun a => Q a))
        -∗ WP (Prog.lift (.enqueueDma (idxM) (.here (smM)) (.dma Cert.KernelIdeal.cc0_scoped0.sem) w1 w2 hs) >>= fun _ =>
          Prog.lift (.waitDma2 Cert.KernelIdeal.cc0_scoped0.sem (idxM) (smM) w3 w4) >>= Kk) (fun a => Q a)) := by
  iintro ⟨#Hmw, Hi, Hs, Hsem, HO⟩ Hk
  sl_exec
  iapply Hk
  isplitr; · iexact Hmw
  isplitl [Hi]; · iexact Hi
  isplitl [Hs]
  · iapply (Entails.of_eq (pointsTo_congr (g := fi) ?hc)) $$ Hs
    intro y _
    exact congrFun (View.write_whole_univ (Val := Elt F) _ _ _) y
  isplitl [Hsem]; · iexact Hsem
  iexists _; isplitr
  rotate_left; · iexact HO
  ipureintro; intro p hp
  rcases Finset.mem_insert.mp hp with hp | hp
  · exact .inr (hp ▸ rfl)
  · exact .inl hp

theorem part7_run (q qi : PosShare TreeShare) (fs : S896.Idx → BitVec 32) (Q : (Σ' (v0 : BitVec 32) (v28 : Elt F .i32), k0_chk4 v28) → sProp 𝕄) :
    iprop(Transfers.MayWaits (thr d c) (none : HIx 1) O ∗ ((idxM).view.loc (thr d c) ↦{qi} fi) ∗ ((smM).view.loc (thr d c) ↦{fullShare} fs)
        ∗ ((tabM).view.loc (thr d c) ↦{q} tab) ∗ ((outM).view.loc (thr d c) ↦[rowsFrom c.val 0]{fullShare} f0)
        ∗ semVal (thr d c, SemLoc.dma Cert.KernelIdeal.cc0_scoped0.sem) 0 ∗ semVal (thr d c, SemLoc.dma Cert.KernelIdeal.cc0_scratch2.sem) 0 ∗ owes (thr d c) O W)
      ⊢ iprop((∀ r, ⌜r.2.1 = word c fi 3 (by decide)⌝ -∗ semVal (thr d c, SemLoc.dma Cert.KernelIdeal.cc0_scoped0.sem) 0 -∗ St d c fi tab h f0 O W 3 0 -∗ Q r)
      -∗ WP (k0_part7 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0) Q) := by
  rw [k0_part7_eq_skeleton]
  unfold k0_part7_skel
  iintro ⟨Hmw, Hi, Hs, Ht, Ho, Hs0, Hs2, HO⟩ Hk
  iapply (copy_step d c fi O W qi fs) $$ [Hmw Hi Hs Hs0 HO]
  · isplitl [Hmw]; · iexact Hmw
    isplitl [Hi]; · iexact Hi
    isplitl [Hs]; · iexact Hs
    isplitl [Hs0]; · iexact Hs0
    iexact HO
  iintro ⟨Hmw, -, Hs, Hs0, HO⟩
  iapply (fupd_wp' d c _ _)
  imod (Transfers.batch_alloc' EC (thr d c) (sm := SemLoc.dma Cert.KernelIdeal.cc0_scratch2.sem) (none : HIx 1) Nrow (deliv d c fi tab h) (E := Set.univ)) $$ Hs2 with HB
  imodintro
  ihave HS : (St d c fi tab h f0 O W 0 0 : sProp 𝕄) $$ [Hmw HB Ho Ht Hs HO]
  · unfold St
    isplitl [Hmw]; · iexact Hmw
    isplitl [HB]; · iexact HB
    isplitl [Ho]; · iexact Ho
    isplitl [Ht]; · iexists _; iexact Ht
    isplitl [Hs]; · iexact Hs
    iexact HO
  iapply (load_step d c fi tab h f0 O W 0 0 (400 * c.val + 0) (by have := c.isLt; simp at this; omega) _ (offL0 c)) $$ HS; iintro HS
  iapply (assume_step d c (chk_of (word_lt h 0 (by decide))))
  iapply (fire_step d c fi tab h f0 O W 0 0 (by decide) (by decide) _ rfl _ _ (offO0 c) rfl) $$ HS; iintro HS
  iapply (load_step d c fi tab h f0 O W 1 0 (400 * c.val + 1) (by have := c.isLt; simp at this; omega) _ (offL1 c)) $$ HS; iintro HS
  iapply (assume_step d c (chk_of (word_lt h 1 (by decide))))
  iapply (fire_step d c fi tab h f0 O W 1 0 (by decide) (by decide) _ rfl _ _ (offO1 c) rfl) $$ HS; iintro HS
  iapply (load_step d c fi tab h f0 O W 2 0 (400 * c.val + 2) (by have := c.isLt; simp at this; omega) _ (offL2 c)) $$ HS; iintro HS
  iapply (assume_step d c (chk_of (word_lt h 2 (by decide))))
  iapply (fire_step d c fi tab h f0 O W 2 0 (by decide) (by decide) _ rfl _ _ (offO2 c) rfl) $$ HS; iintro HS
  iapply (load_step d c fi tab h f0 O W 3 0 (400 * c.val + 3) (by have := c.isLt; simp at this; omega) _ (offL3 c)) $$ HS; iintro HS
  iapply (assume_step d c (chk_of (word_lt h 3 (by decide))))
  iapply (le_wp_ret _ _)
  ispecialize Hk $$ %_
  iapply Hk $$ [] [Hs0]
  · ipureintro; rfl
  · iexact Hs0
  · iexact HS

/-- One trip of the window: sixteen more copies issued, sixteen waited for. -/
theorem trip_run (t : Fin k0_t1_loop.trips) (v0 : BitVec 32) (v236 : Elt F .i32) (k0_hw30 : k0_chk30 v236) :
    St d c fi tab h f0 O W (32 + 16 * t.val) (16 * t.val)
      ⊢ WP (k0_t1_body (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v236 k0_hw30 t ⟨⟩) (fun _ => St d c fi tab h f0 O W (32 + 16 * (t.val + 1)) (16 * (t.val + 1))) := by
  unfold k0_t1_body
  iintro HS
  iapply (bind_step d c _ _ _)
  iapply (part1_run d c fi tab h f0 O W t) $$ HS
  iintro %r1 %e1 HS
  obtain ⟨a1, b1, c1⟩ := r1
  dsimp only at e1 ⊢
  iapply (bind_step d c _ _ _)
  iapply (part2_run d c fi tab h f0 O W t _ _ _ _ e1) $$ HS
  iintro %r2 - HS
  iapply (bind_step d c _ _ _)
  iapply (part3_run d c fi tab h f0 O W t) $$ HS
  iintro %r3 %e3 HS
  obtain ⟨a3, b3, c3⟩ := r3
  dsimp only at e3 ⊢
  iapply (bind_step d c _ _ _)
  iapply (part4_run d c fi tab h f0 O W t _ _ _ _ _ e3) $$ HS
  iintro %r4 - HS
  iapply (bind_step d c _ _ _)
  iapply (part5_run d c fi tab h f0 O W t) $$ HS
  iintro %r5 - HS
  iapply (bind_step d c _ _ _)
  iapply (part6_run d c fi tab h f0 O W t) $$ HS
  iintro %r6 - HS
  iapply (wait_step d c fi tab h f0 O W (32 + 16 * t.val + 16) (16 * t.val + 14) (by omega)) $$ HS; iintro HS
  iapply (wait_step d c fi tab h f0 O W (32 + 16 * t.val + 16) (16 * t.val + 15) (by omega)) $$ HS; iintro HS
  iapply (le_wp_ret _ _)
  rw [show 32 + 16 * (t.val + 1) = 32 + 16 * t.val + 16 by omega, show 16 * (t.val + 1) = 16 * t.val + 15 + 1 by omega]
  iexact HS

theorem part15_run (v0 : BitVec 32) (v236 : Elt F .i32) (k0_hw30 : k0_chk30 v236) (hv : v236 = word c fi 29 (by omega)) (Q : (PUnit) → sProp 𝕄) :
    St d c fi tab h f0 O W 29 0 ⊢ iprop((∀ r, ⌜True⌝ -∗ St d c fi tab h f0 O W 400 369 -∗ Q r)
      -∗ WP (k0_part15 (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0 v0 v236 k0_hw30) Q) := by
  rw [k0_part15_eq_skeleton]
  unfold k0_part15_skel
  iintro HS Hk
  iapply (fire_step d c fi tab h f0 O W 29 0 (by decide) (by decide) _ hv _ _ (offO29 c) rfl) $$ HS; iintro HS
  iapply (load_step d c fi tab h f0 O W 30 0 (400 * c.val + 30) (by have := c.isLt; simp at this; omega) _ (offL30 c)) $$ HS; iintro HS
  iapply (assume_step d c (chk_of (word_lt h 30 (by decide))))
  iapply (fire_step d c fi tab h f0 O W 30 0 (by decide) (by decide) _ rfl _ _ (offO30 c) rfl) $$ HS; iintro HS
  iapply (load_step d c fi tab h f0 O W 31 0 (400 * c.val + 31) (by have := c.isLt; simp at this; omega) _ (offL31 c)) $$ HS; iintro HS
  iapply (assume_step d c (chk_of (word_lt h 31 (by decide))))
  iapply (fire_step d c fi tab h f0 O W 31 0 (by decide) (by decide) _ rfl _ _ (offO31 c) rfl) $$ HS; iintro HS
  iapply (bind_step d c _ _ _)
  iapply (Scf.wp_for (I := fun n _ => St d c fi tab h f0 O W (32 + 16 * n) (16 * n)) (hbody := fun t _ => trip_run d c fi tab h f0 O W t v0 v236 k0_hw30))
  isplitl [HS]; · iexact HS
  iintro %_ HS
  ihave HS := (Entails.of_eq (congrArg₂ (St d c fi tab h f0 O W) (show 32 + 16 * k0_t1_loop.trips = 400 by decide) (show 16 * k0_t1_loop.trips = 368 by decide))) $$ HS
  iapply (wait_step d c fi tab h f0 O W 400 368 (by decide)) $$ HS; iintro HS
  iapply (le_wp_ret _ _)
  ispecialize Hk $$ %_
  iapply Hk
  · ipureintro; trivial
  · iexact HS

/-- The kernel's moves: from the index array, the table and the core's half of the output to every copy issued and waited for. -/
theorem moves_run (q qi : PosShare TreeShare) (fs : S896.Idx → BitVec 32) (Q : PUnit → sProp 𝕄) :
    iprop(Transfers.MayWaits (thr d c) (none : HIx 1) O ∗ ((idxM).view.loc (thr d c) ↦{qi} fi) ∗ ((smM).view.loc (thr d c) ↦{fullShare} fs)
        ∗ ((tabM).view.loc (thr d c) ↦{q} tab) ∗ ((outM).view.loc (thr d c) ↦[rowsFrom c.val 0]{fullShare} f0)
        ∗ semVal (thr d c, SemLoc.dma Cert.KernelIdeal.cc0_scoped0.sem) 0 ∗ semVal (thr d c, SemLoc.dma Cert.KernelIdeal.cc0_scratch2.sem) 0 ∗ owes (thr d c) O W)
      ⊢ iprop((iprop(semVal (thr d c, SemLoc.dma Cert.KernelIdeal.cc0_scoped0.sem) 0 ∗ St d c fi tab h f0 O W 400 400) -∗ |={Set.univ}=> Q ⟨⟩)
      -∗ WP (cc0_gather_kernel (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0) Q) := by
  rw [cc0_gather_kernel_eq_skeleton]
  unfold cc0_gather_kernel_skel
  iintro HP Hk
  iapply (bind_step d c _ _ _)
  iapply (part7_run d c fi tab h f0 O W q qi fs) $$ HP
  iintro %r7 %e7 Hs0 HS
  obtain ⟨a7, b7, c7⟩ := r7
  dsimp only at e7 ⊢
  iapply (bind_step d c _ _ _)
  iapply (part8_run d c fi tab h f0 O W _ _ _ e7) $$ HS
  iintro %r8 - HS
  obtain ⟨a8, b8⟩ := r8
  dsimp only
  iapply (bind_step d c _ _ _)
  iapply (part9_run d c fi tab h f0 O W) $$ HS
  iintro %r9 %e9 HS
  obtain ⟨a9, b9⟩ := r9
  dsimp only at e9 ⊢
  iapply (bind_step d c _ _ _)
  iapply (part10_run d c fi tab h f0 O W _ _ _ e9) $$ HS
  iintro %r10 %e10 HS
  obtain ⟨a10, b10⟩ := r10
  dsimp only at e10 ⊢
  iapply (bind_step d c _ _ _)
  iapply (part11_run d c fi tab h f0 O W _ _ _ e10) $$ HS
  iintro %r11 %e11 HS
  obtain ⟨a11, b11⟩ := r11
  dsimp only at e11 ⊢
  iapply (bind_step d c _ _ _)
  iapply (part12_run d c fi tab h f0 O W _ _ _ e11) $$ HS
  iintro %r12 - HS
  obtain ⟨a12, b12⟩ := r12
  dsimp only
  iapply (bind_step d c _ _ _)
  iapply (part13_run d c fi tab h f0 O W) $$ HS
  iintro %r13 %e13 HS
  obtain ⟨a13, b13⟩ := r13
  dsimp only at e13 ⊢
  iapply (bind_step d c _ _ _)
  iapply (part14_run d c fi tab h f0 O W _ _ _ e13) $$ HS
  iintro %r14 %e14 HS
  obtain ⟨a14, b14⟩ := r14
  dsimp only at e14 ⊢
  iapply (bind_step d c _ _ _)
  iapply (part15_run d c fi tab h f0 O W _ _ _ e14) $$ HS
  iintro %r15 - HS
  iapply (bind_step d c _ _ _)
  iapply (part16_run d c fi tab h f0 O W) $$ HS
  iintro %r16 - HS
  iapply (bind_step d c _ _ _)
  iapply (part17_run d c fi tab h f0 O W) $$ HS
  iintro %r17 - HS
  iapply (bind_step d c _ _ _)
  iapply (part18_run d c fi tab h f0 O W) $$ HS
  iintro %r18 - HS
  iapply (bind_step d c _ _ _)
  iapply (part19_run d c fi tab h f0 O W) $$ HS
  iintro %r19 - HS
  iapply (bind_step d c _ _ _)
  iapply (part20_run d c fi tab h f0 O W) $$ HS
  iintro %r20 - HS
  iapply (wait_step d c fi tab h f0 O W 400 399 (by decide)) $$ HS; iintro HS
  iapply (Entails.of_eq (wp_ret _ _ _ _ _).symm)
  iapply Hk
  isplitl [Hs0]; · iexact Hs0
  iexact HS

end Parts

end Cert.Proof.Run

end
-- ==== Proof.GatherCall.lean ====
/-
  The gather call: what each SparseCore is handed and takes back, and that its sequencer's kernel does it.
-/
module

public import proofs.«01_k».proof.Proof.GatherRun

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

local notation "tabM" => (Memref.whole Cert.KernelIdeal.main_arg3_scs : Memref Cert.KernelIdeal.sig Kind.scScalar Space.hbm Cert.KernelIdeal.S100000x64 EltTy.f32)
local notation "idxM" => (Memref.whole Cert.KernelIdeal.main_v3_scs : Memref Cert.KernelIdeal.sig Kind.scScalar Space.hbm Cert.KernelIdeal.S896 EltTy.i32)
local notation "outM" => (Memref.whole Cert.KernelIdeal.main_v4_scs : Memref Cert.KernelIdeal.sig Kind.scScalar Space.hbm Cert.KernelIdeal.S800x64 EltTy.f32)
local notation "smM" => (Memref.whole Cert.KernelIdeal.cc0_scratch0 : Memref Cert.KernelIdeal.sig Kind.scScalar Space.smem Cert.KernelIdeal.S896 EltTy.i32)

/-! ## A sequencer's own cells and buffers -/

section Own

variable (d : Dev nD) (c : Fin τ.nSC)

abbrev cellA : GSem nD τ sig := (S d c, .dma Cert.KernelIdeal.cc0_scratch2.sem)
abbrev cellB : GSem nD τ sig := (S d c, .dma Cert.KernelIdeal.cc0_scoped0.sem)

theorem ownSems0_S : (ownSems0 (S d c) : sProp 𝕄)
    = iprop(semVal (cellA d c) 0 ∗ semVal (cellB d c) 0 ∗ bigSep (((ownCells (S d c)).erase (cellA d c)).erase (cellB d c)) fun g => semVal g 0) := by
  unfold SparseCore.Cfg.ownSems0
  rw [SparseCore.bigSep_erase' ((mem_ownCells (g := cellA d c)).mpr ⟨rfl, by show (SemLoc.dma Cert.KernelIdeal.cc0_scratch2.sem : SemLoc sig).isScoped .scScalar = true; decide⟩),
    SparseCore.bigSep_erase' (i := cellB d c) (Finset.mem_erase.mpr ⟨fun e => absurd (congrArg Prod.snd e) (show (SemLoc.dma Cert.KernelIdeal.cc0_scoped0.sem : SemLoc sig) ≠ .dma Cert.KernelIdeal.cc0_scratch2.sem by decide),
      (mem_ownCells (g := cellB d c)).mpr ⟨rfl, by show (SemLoc.dma Cert.KernelIdeal.cc0_scoped0.sem : SemLoc sig).isScoped .scScalar = true; decide⟩⟩)]

theorem ownBufs_S : (ownBufs (S d c) : sProp 𝕄)
    = iprop((∃ f, (S d c).loc Cert.KernelIdeal.cc0_scratch0 ↦{fullShare} f)
      ∗ bigSep ((ownRefs (τ := τ) (.scScalar c)).erase ((Proc.scScalar c).devRef Cert.KernelIdeal.cc0_scratch0)) fun b => iprop(∃ f, ((d, b) : Loc nD τ sig) ↦{fullShare} f)) := by
  unfold SparseCore.Cfg.ownBufs
  exact SparseCore.bigSep_erase' (SparseCore.Cfg.mem_ownRefs_of_owner (p := Proc.scScalar c) (b := (Proc.scScalar c).devRef Cert.KernelIdeal.cc0_scratch0) rfl)

end Own

/-! ## The arrays of the call, as the TensorCore names them -/

abbrev idxLoc (d : Dev nD) : Loc nD τ sig := (SparseCore.T d : Thread nD τ).loc Cert.KernelIdeal.main_v3
abbrev tabLoc (d : Dev nD) : Loc nD τ sig := (SparseCore.T d : Thread nD τ).loc Cert.KernelIdeal.main_arg3
abbrev outLoc (d : Dev nD) : Loc nD τ sig := (SparseCore.T d : Thread nD τ).loc Cert.KernelIdeal.main_v4

theorem pts_idx (d : Dev nD) (c : Fin (grid0.bound 0)) (q : PosShare TreeShare) (f : S896.Idx → BitVec 32) :
    ((idxM).view.loc (thr d c) ↦{q} f : sProp 𝕄) = (idxLoc d ↦{q} f) := by simp only [Memref.view_whole, View.set_whole]
theorem pts_tab (d : Dev nD) (c : Fin (grid0.bound 0)) (q : PosShare TreeShare) (f : S100000x64.Idx → Elt F .f32) :
    ((tabM).view.loc (thr d c) ↦{q} f : sProp 𝕄) = (tabLoc d ↦{q} f) := by simp only [Memref.view_whole, View.set_whole]
theorem pts_out (d : Dev nD) (c : Fin (grid0.bound 0)) (I : Finset S800x64.Idx) (f : S800x64.Idx → Elt F .f32) :
    ((outM).view.loc (thr d c) ↦[I]{fullShare} f : sProp 𝕄) = (outLoc d ↦[I]{fullShare} f) := by simp only [Memref.view_whole, View.set_whole]
theorem pts_sm (d : Dev nD) (c : Fin (grid0.bound 0)) (f : S896.Idx → BitVec 32) :
    ((smM).view.loc (thr d c) ↦{fullShare} f : sProp 𝕄) = ((S d (c.castLE hcore0)).loc Cert.KernelIdeal.cc0_scratch0 ↦{fullShare} f) := by simp only [Memref.view_whole, View.set_whole]

/-- The rows of core `c`'s half, row by row. -/
theorem rows_union (c : ℕ) : (Finset.univ : Finset (Fin 400)).biUnion (fun k => rowSet (400 * c + k.val)) = rowsFrom c 0 := by
  ext y
  simp only [rowSet, rowsFrom, Finset.mem_biUnion, Finset.mem_filter, Finset.mem_univ, true_and]
  constructor
  · rintro ⟨k, hk⟩; have := k.isLt; omega
  · intro hy; exact ⟨⟨(y 0).val - 400 * c, by omega⟩, by simp only; omega⟩

theorem rows_disjoint (c : ℕ) (k k' : Fin 400) (h : k ≠ k') : Disjoint (rowSet (400 * c + k.val)) (rowSet (400 * c + k'.val)) := by
  rw [Finset.disjoint_left]
  intro y hy hy'
  simp only [rowSet, Finset.mem_filter, Finset.mem_univ, true_and] at hy hy'
  exact h (Fin.ext (by omega))

/-- What core `c` is handed of the shared read-only arrays: a quarter-sized share each, the TensorCore keeping the rest. -/
def shareOf (c : ℕ) : PosShare TreeShare := if c = 0 then (fullShare : PosShare TreeShare).left else (fullShare : PosShare TreeShare).right.left

section Body

variable (d : Dev nD)
variable (fi : S896.Idx → BitVec 32) (tab : S100000x64.Idx → Elt F .f32) (h : InRange fi) (f0 : S800x64.Idx → Elt F .f32)

/-- What the call hands SparseCore `c`: reads of the index array and the table, and its half of the output's rows. -/
def handed (c : ℕ) : sProp 𝕄 := iprop((idxLoc d ↦{shareOf c} fi) ∗ (tabLoc d ↦{shareOf c} tab) ∗ outLoc d ↦[rowsFrom c 0]{fullShare} f0)
/-- What it takes back: the half, gathered. -/
def returned (c : ℕ) : sProp 𝕄 := iprop(outLoc d ↦[rowsFrom c 0]{fullShare} gath fi tab h)

instance handed_storable (c : ℕ) : Storable (upEmb : UEmb _ 𝕄) (handed d fi tab f0 c) := by unfold handed; infer_instance
instance returned_storable (c : ℕ) : Storable (upEmb : UEmb _ 𝕄) (returned d fi tab h c) := by unfold returned; infer_instance

variable [FloatOps F]

/-- The kernel on one sequencer. -/
theorem body_run (c : Fin (grid0.bound 0)) (O : CellTallies nD τ sig (HIx 1)) (W : Waits sig (HIx 1)) (hO : ∀ g, O g none = 0) :
    iprop(levAts (K (F := F)).L (K (F := F)).lev ∗ emp ∗ handed d fi tab f0 c.val
        ∗ scopedBufs (thr d c) ∗ scopedSems0 (thr d c) ∗ owes (thr d c) O W)
      ⊢ wp frame (wpE (defs₀ (F := F)) 𝒱₀ (thr d c) none) Set.univ
          (cc0_gather_kernel (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0)
          fun _ => iprop(returned d fi tab h c.val ∗ scopedBufs (thr d c) ∗ scopedSems0 (thr d c) ∗ ∃ W', ⌜∀ p ∈ W', p ∈ W ∨ p.2 = none⌝ ∗ owes (thr d c) O W') := by
  unfold handed returned
  iintro ⟨#Hlv, -, ⟨Hi, Ht, Ho⟩, Hsb, Hss, HO⟩
  ihave Hss' := (SparseCore.Cfg.scopedSems0_S_elim (Val := Elt F) d (c.castLE hcore0)) $$ Hss
  icases Hss' with ⟨Hown, Hsubs⟩
  ihave Hown' := (Entails.of_eq (ownSems0_S (F := F) d (c.castLE hcore0))) $$ Hown
  icases Hown' with ⟨HsA, HsB, Hrest⟩
  ihave Hsb' := (SparseCore.Cfg.scopedBufs_S_elim (K := K (F := F)) (facts (F := F)) d (c.castLE hcore0)) $$ Hsb
  icases Hsb' with ⟨Hbuf, Hbsubs⟩
  ihave Hbuf' := (Entails.of_eq (ownBufs_S (F := F) d (c.castLE hcore0))) $$ Hbuf
  icases Hbuf' with ⟨⟨%fs, Hsm⟩, Hbrest⟩
  ihave Hmw := ((K (F := F)).mayWaits_none (thr := thr d c) hO) $$ Hlv
  iapply (moves_run d c fi tab h f0 O W (shareOf c.val) (shareOf c.val) fs) $$ [Hmw Hi Hsm Ht Ho HsA HsB HO]
  · isplitl [Hmw]; · iexact Hmw
    isplitl [Hi]; · iapply (Entails.of_eq (pts_idx (F := F) d c _ _).symm); iexact Hi
    isplitl [Hsm]; · iapply (Entails.of_eq (pts_sm (F := F) d c _).symm); iexact Hsm
    isplitl [Ht]; · iapply (Entails.of_eq (pts_tab (F := F) d c _ _).symm); iexact Ht
    isplitl [Ho]; · iapply (Entails.of_eq (pts_out (F := F) d c _ _).symm); iexact Ho
    isplitl [HsB]; · iexact HsB
    isplitl [HsA]; · iexact HsA
    iexact HO
  iintro ⟨HsB, HS⟩
  unfold St
  icases HS with ⟨-, HB, -, -, Hsm, HO⟩
  imod (Transfers.batch_collect' EC (thr d c) (sm := SemLoc.dma Cert.KernelIdeal.cc0_scratch2.sem) (ι := (none : HIx 1)) (N := Nrow) (n := 400) (by decide) (D := deliv d c fi tab h)) $$ HB with ⟨HD, HsA⟩
  imodintro
  isplitl [HD]
  · iapply (Entails.of_eq (pts_out (F := F) d c _ _))
    rw [← rows_union c.val, pointsTo_biUnion Finset.univ _ fun t _ t' _ hn => rows_disjoint c.val t t' hn]
    iexact HD
  isplitl [Hsm Hbrest Hbsubs]
  · iapply (SparseCore.Cfg.scopedBufs_S_intro (K := K (F := F)) (facts (F := F)) d (c.castLE hcore0))
    isplitl [Hsm Hbrest]
    · rw [ownBufs_S]
      isplitl [Hsm]
      · iexists _; iapply (Entails.of_eq (pts_sm (F := F) d c _)); iexact Hsm
      · iexact Hbrest
    · iexact Hbsubs
  isplitl [HsA HsB Hrest Hsubs]
  · iapply (SparseCore.Cfg.scopedSems0_S_intro (Val := Elt F) d _)
    isplitl [HsA HsB Hrest]
    · rw [ownSems0_S]
      isplitl [HsA]; · iexact HsA
      isplitl [HsB]; · iexact HsB
      iexact Hrest
    · iexact Hsubs
  iexact HO

end Body

/-! ## The call's payloads and the launch theorem's obligation -/

section Obl

variable (fi : Dev nD → S896.Idx → BitVec 32) (tab : Dev nD → S100000x64.Idx → Elt F .f32) (h : ∀ d, InRange (fi d)) (f0 : Dev nD → S800x64.Idx → Elt F .f32)

def P : (K (F := F)).Pay (nD := nD) (Val := Elt F) (Name := ℕ) (U := UU) where
  st := fun _ d c => handed d (fi d) (tab d) (f0 d) c.val
  dn := fun _ d c => returned d (fi d) (tab d) (h d) c.val
  go := fun _ _ _ _ => iprop(emp)
  td := fun _ _ _ _ => iprop(emp)
  x := fun _ _ => iprop(emp)

instance P_storable : (P (F := F) fi tab h f0).IsStorable where
  st _ d c := by unfold P; infer_instance
  dn _ d c := by unfold P; infer_instance
  go _ _ _ _ := by unfold P; infer_instance
  td _ _ _ _ := by unfold P; infer_instance

variable [FloatOps F]

theorem defs₀_scalar (c : Fin τ.nSC) :
    defs₀ (F := F) (.scScalar c) 0 ()
      = SparseCore.onCore hcore0 (fun c => cc0_gather_kernel (coordsS c) (tabM) (Memref.isWhole_whole _) (idxM) (Memref.isWhole_whole _) (outM) (Memref.isWhole_whole _) (smM) (Memref.isWhole_whole _) Cert.KernelIdeal.cc0_scratch1 Cert.KernelIdeal.cc0_scratch2 Cert.KernelIdeal.cc0_scoped0) ⟨⟩ c := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each sequencer's kernel does what the call promises. -/
theorem scalarObl : (K (F := F)).ScalarObl (D (F := F)) 𝒱 (P (F := F) fi tab h f0) v₀ 0 := by
  intro d c O W hO _ _
  simp only [show (P (F := F) fi tab h f0).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ handed d (fi d) (tab d) (f0 d) c.val ∗ _) ⊢ wp _ _ _ _ (fun _ => iprop(returned d (fi d) (tab d) (h d) c.val ∗ _))
  exact (body_run d (fi d) (tab d) (h d) (f0 d) ⟨c.val, hc⟩ O W hO).trans (wp_mono frame _ _ fun _ => obl_post)

end Obl

end Cert.Proof.Run

end
-- ==== Proof.Main.lean ====
/-
  @main on a TensorCore: the host operations before and after the SparseCore call, the buffers' contents after each,
  and the run: the call handed its shares of the arrays, the second pallas_call run as a region, what the buffers
  hold at the end.
-/
module

public import proofs.«01_k».proof.Proof.Seg
public import proofs.«01_k».proof.Proof.GatherCall

@[expose] public section

set_option maxRecDepth 16384

noncomputable section

namespace Cert.Proof.Run

open Cert.KernelIdeal Cert.KernelIdeal.Gen

open Idealize.ShloMosaic Idealize.ShloMosaic.TcCoe
open Idealize.ShloMosaic.StableHlo (held seq after)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 1) (Elt F) ℕ UU ℕ

/-- The host operations before the SparseCore call. -/
def opsA : List (HloOp τ sig (Elt F)) :=
  [StableHlo.unary main_arg0 main_v0 ((transpose S50x16 [1, 0] · transposes_S16x50_S50x16_1_0) : (⟨S16x50, .i32⟩ : BufTy).Contents (Elt F) → (⟨S50x16, .i32⟩ : BufTy).Contents (Elt F)),
   StableHlo.reshape main_v0 main_v1 (rfl : (.i32 : EltTy) = .i32) shapeCasts_S50x16_S800,
   StableHlo.nullary main_c (constantI S_ 32 0#32),
   StableHlo.unary main_c main_v2 (broadcastInDim S96 ![] bcast_S_S96 : (⟨S_, .i32⟩ : BufTy).Contents (Elt F) → (⟨S96, .i32⟩ : BufTy).Contents (Elt F)),
   StableHlo.binary main_v1 main_v2 main_v3 ((fun a b => concatenate S896 0 [⟨S800, a⟩, ⟨S96, b⟩] concatenates_S800_S96_S896_d0) : (⟨S800, .i32⟩ : BufTy).Contents (Elt F) → (⟨S96, .i32⟩ : BufTy).Contents (Elt F) → (⟨S896, .i32⟩ : BufTy).Contents (Elt F))]

/-- The host operations between the two calls. -/
def opsB : List (HloOp τ sig (Elt F)) :=
  [StableHlo.binary main_arg6 main_arg7 main_v5 (addf : (⟨S1024, .f32⟩ : BufTy).Contents (Elt F) → (⟨S1024, .f32⟩ : BufTy).Contents (Elt F) → (⟨S1024, .f32⟩ : BufTy).Contents (Elt F)),
   StableHlo.reshape main_v5 main_v6 (rfl : (.f32 : EltTy) = .f32) shapeCasts_S1024_S1x1024,
   StableHlo.binary main_arg10 main_arg11 main_v7 (addf : (⟨S1024, .f32⟩ : BufTy).Contents (Elt F) → (⟨S1024, .f32⟩ : BufTy).Contents (Elt F) → (⟨S1024, .f32⟩ : BufTy).Contents (Elt F)),
   StableHlo.reshape main_v7 main_v8 (rfl : (.f32 : EltTy) = .f32) shapeCasts_S1024_S1x1024,
   StableHlo.unary main_arg4 main_v9 ((transpose S64x1024 [1, 0] · transposes_S1024x64_S64x1024_1_0) : (⟨S1024x64, .f32⟩ : BufTy).Contents (Elt F) → (⟨S64x1024, .f32⟩ : BufTy).Contents (Elt F)),
   StableHlo.unary main_v9 main_v10 ((truncf .bf16 · bitsLt_bf16_f32) : (⟨S64x1024, .f32⟩ : BufTy).Contents (Elt F) → (⟨S64x1024, .bf16⟩ : BufTy).Contents (Elt F)),
   StableHlo.unary main_v10 main_v11 ((extf .f32 · bitsLt_bf16_f32) : (⟨S64x1024, .bf16⟩ : BufTy).Contents (Elt F) → (⟨S64x1024, .f32⟩ : BufTy).Contents (Elt F)),
   StableHlo.binary main_v9 main_v11 main_v12 (subf : (⟨S64x1024, .f32⟩ : BufTy).Contents (Elt F) → (⟨S64x1024, .f32⟩ : BufTy).Contents (Elt F) → (⟨S64x1024, .f32⟩ : BufTy).Contents (Elt F)),
   StableHlo.unary main_v12 main_v13 ((truncf .bf16 · bitsLt_bf16_f32) : (⟨S64x1024, .f32⟩ : BufTy).Contents (Elt F) → (⟨S64x1024, .bf16⟩ : BufTy).Contents (Elt F)),
   StableHlo.unary main_arg5 main_v14 ((transpose S256x1024 [1, 0] · transposes_S1024x256_S256x1024_1_0) : (⟨S1024x256, .f32⟩ : BufTy).Contents (Elt F) → (⟨S256x1024, .f32⟩ : BufTy).Contents (Elt F)),
   StableHlo.unary main_v14 main_v15 ((truncf .bf16 · bitsLt_bf16_f32) : (⟨S256x1024, .f32⟩ : BufTy).Contents (Elt F) → (⟨S256x1024, .bf16⟩ : BufTy).Contents (Elt F)),
   StableHlo.unary main_v15 main_v16 ((extf .f32 · bitsLt_bf16_f32) : (⟨S256x1024, .bf16⟩ : BufTy).Contents (Elt F) → (⟨S256x1024, .f32⟩ : BufTy).Contents (Elt F)),
   StableHlo.binary main_v14 main_v16 main_v17 (subf : (⟨S256x1024, .f32⟩ : BufTy).Contents (Elt F) → (⟨S256x1024, .f32⟩ : BufTy).Contents (Elt F) → (⟨S256x1024, .f32⟩ : BufTy).Contents (Elt F)),
   StableHlo.unary main_v17 main_v18 ((truncf .bf16 · bitsLt_bf16_f32) : (⟨S256x1024, .f32⟩ : BufTy).Contents (Elt F) → (⟨S256x1024, .bf16⟩ : BufTy).Contents (Elt F)),
   StableHlo.unary main_arg8 main_v19 ((transpose S256x1024 [1, 0] · transposes_S1024x256_S256x1024_1_0) : (⟨S1024x256, .f32⟩ : BufTy).Contents (Elt F) → (⟨S256x1024, .f32⟩ : BufTy).Contents (Elt F)),
   StableHlo.unary main_v19 main_v20 ((truncf .bf16 · bitsLt_bf16_f32) : (⟨S256x1024, .f32⟩ : BufTy).Contents (Elt F) → (⟨S256x1024, .bf16⟩ : BufTy).Contents (Elt F)),
   StableHlo.unary main_v20 main_v21 ((extf .f32 · bitsLt_bf16_f32) : (⟨S256x1024, .bf16⟩ : BufTy).Contents (Elt F) → (⟨S256x1024, .f32⟩ : BufTy).Contents (Elt F)),
   StableHlo.binary main_v19 main_v21 main_v22 (subf : (⟨S256x1024, .f32⟩ : BufTy).Contents (Elt F) → (⟨S256x1024, .f32⟩ : BufTy).Contents (Elt F) → (⟨S256x1024, .f32⟩ : BufTy).Contents (Elt F)),
   StableHlo.unary main_v22 main_v23 ((truncf .bf16 · bitsLt_bf16_f32) : (⟨S256x1024, .f32⟩ : BufTy).Contents (Elt F) → (⟨S256x1024, .bf16⟩ : BufTy).Contents (Elt F)),
   StableHlo.unary main_arg9 main_v24 ((transpose S256x1024 [1, 0] · transposes_S1024x256_S256x1024_1_0) : (⟨S1024x256, .f32⟩ : BufTy).Contents (Elt F) → (⟨S256x1024, .f32⟩ : BufTy).Contents (Elt F)),
   StableHlo.unary main_v24 main_v25 ((truncf .bf16 · bitsLt_bf16_f32) : (⟨S256x1024, .f32⟩ : BufTy).Contents (Elt F) → (⟨S256x1024, .bf16⟩ : BufTy).Contents (Elt F)),
   StableHlo.unary main_v25 main_v26 ((extf .f32 · bitsLt_bf16_f32) : (⟨S256x1024, .bf16⟩ : BufTy).Contents (Elt F) → (⟨S256x1024, .f32⟩ : BufTy).Contents (Elt F)),
   StableHlo.binary main_v24 main_v26 main_v27 (subf : (⟨S256x1024, .f32⟩ : BufTy).Contents (Elt F) → (⟨S256x1024, .f32⟩ : BufTy).Contents (Elt F) → (⟨S256x1024, .f32⟩ : BufTy).Contents (Elt F)),
   StableHlo.unary main_v27 main_v28 ((truncf .bf16 · bitsLt_bf16_f32) : (⟨S256x1024, .f32⟩ : BufTy).Contents (Elt F) → (⟨S256x1024, .bf16⟩ : BufTy).Contents (Elt F)),
   StableHlo.reshape main_arg13 main_v29 (rfl : (.f32 : EltTy) = .f32) shapeCasts_S100000_S1x100000]

theorem main_eq (d : Dev nD) : main (F := F) d = (seq opsA >>= fun _ => (sc (F := F)).run d 0 >>= fun _ => seq opsB >>= fun _ =>
    Prog.lift (.customCall (SparseCore.inner (Pipeline.entry 0)) ()) >>= fun _ => pure ⟨⟩) := by
  rw [StableHlo.seq_bind_seqK]
  simp only [StableHlo.seq_bind_seqK]
  rfl

theorem freshA : ∀ op ∈ opsA (F := F), op.fresh = ∅ := by
  intro op h; simp only [opsA, List.mem_cons, List.not_mem_nil, or_false] at h
  rcases h with rfl | rfl | rfl | rfl | rfl <;> rfl

theorem freshB : ∀ op ∈ opsB (F := F), op.fresh = ∅ := by
  intro op h; simp only [opsB, List.mem_cons, List.not_mem_nil, or_false] at h
  rcases h with h | h | h | h | h | h | h | h | h | h | h | h | h | h | h | h | h | h | h | h | h | h | h | h | h <;> (subst h; rfl)

/-- A TensorCore reference as a device buffer; the device's unscoped buffers, and those the TensorCore keeps whole
    during the SparseCore call and after it. -/
abbrev rf (r : Ref sig .tc) : DevRef τ sig := Proc.devRef .tc r
abbrev U : Finset (DevRef τ sig) := Pipeline.ucRefs τ sig
abbrev T3 : Finset (DevRef τ sig) := {rf main_v3, rf main_arg3, rf main_v4}
abbrev U2 : Finset (DevRef τ sig) := U \ {rf main_v3, rf main_arg3}

theorem mem_U (r : Ref sig .tc) (h : r.isScoped = false) : rf r ∈ U :=
  Finset.mem_filter.mpr ⟨StableHlo.devRef_mem_tcRefs r, fun h' => Bool.false_ne_true (h.symm.trans h')⟩

theorem mem_U2 (r : Ref sig .tc) (h : r.isScoped = false) (h3 : r ≠ main_v3) (ha : r ≠ main_arg3) : rf r ∈ U2 := by
  rw [Finset.mem_sdiff]
  refine ⟨mem_U r h, fun h' => ?_⟩
  rw [Finset.mem_insert, Finset.mem_singleton] at h'
  rcases h' with h' | h'
  · exact h3 (Proc.devRef_injective _ h')
  · exact ha (Proc.devRef_injective _ h')

theorem sub1 {Z : Finset (DevRef τ sig)} {y : Ref sig .tc} (hy : rf y ∈ Z) : ({rf y} : Finset (DevRef τ sig)) ⊆ Z :=
  Finset.singleton_subset_iff.2 hy
theorem sub2 {Z : Finset (DevRef τ sig)} {y x : Ref sig .tc} (hy : rf y ∈ Z) (hx : rf x ∈ Z) : ({rf y, rf x} : Finset (DevRef τ sig)) ⊆ Z :=
  Finset.insert_subset hy (sub1 hx)
theorem sub3 {Z : Finset (DevRef τ sig)} {y a b : Ref sig .tc} (hy : rf y ∈ Z) (ha : rf a ∈ Z) (hb : rf b ∈ Z) :
    ({rf y, rf a, rf b} : Finset (DevRef τ sig)) ⊆ Z :=
  Finset.insert_subset hy (sub2 ha hb)

theorem bufsA : ∀ op ∈ opsA (F := F), op.bufs ⊆ U := by
  intro op h; simp only [opsA, List.mem_cons, List.not_mem_nil, or_false] at h
  rcases h with h | h | h | h | h
  · subst h; exact sub2 (mem_U main_arg0 rfl) (mem_U main_v0 rfl)
  · subst h; exact sub2 (mem_U main_v0 rfl) (mem_U main_v1 rfl)
  · subst h; exact sub1 (mem_U main_c rfl)
  · subst h; exact sub2 (mem_U main_c rfl) (mem_U main_v2 rfl)
  · subst h; exact sub3 (mem_U main_v1 rfl) (mem_U main_v2 rfl) (mem_U main_v3 rfl)

theorem bufsB : ∀ op ∈ opsB (F := F), op.bufs ⊆ U2 := by
  intro op h; simp only [opsB, List.mem_cons, List.not_mem_nil, or_false] at h
  rcases h with h | h | h | h | h | h | h | h | h | h | h | h | h | h | h | h | h | h | h | h | h | h | h | h | h
  · subst h; exact sub3 (mem_U2 main_arg6 rfl (by decide) (by decide)) (mem_U2 main_arg7 rfl (by decide) (by decide)) (mem_U2 main_v5 rfl (by decide) (by decide))
  · subst h; exact sub2 (mem_U2 main_v5 rfl (by decide) (by decide)) (mem_U2 main_v6 rfl (by decide) (by decide))
  · subst h; exact sub3 (mem_U2 main_arg10 rfl (by decide) (by decide)) (mem_U2 main_arg11 rfl (by decide) (by decide)) (mem_U2 main_v7 rfl (by decide) (by decide))
  · subst h; exact sub2 (mem_U2 main_v7 rfl (by decide) (by decide)) (mem_U2 main_v8 rfl (by decide) (by decide))
  · subst h; exact sub2 (mem_U2 main_arg4 rfl (by decide) (by decide)) (mem_U2 main_v9 rfl (by decide) (by decide))
  · subst h; exact sub2 (mem_U2 main_v9 rfl (by decide) (by decide)) (mem_U2 main_v10 rfl (by decide) (by decide))
  · subst h; exact sub2 (mem_U2 main_v10 rfl (by decide) (by decide)) (mem_U2 main_v11 rfl (by decide) (by decide))
  · subst h; exact sub3 (mem_U2 main_v9 rfl (by decide) (by decide)) (mem_U2 main_v11 rfl (by decide) (by decide)) (mem_U2 main_v12 rfl (by decide) (by decide))
  · subst h; exact sub2 (mem_U2 main_v12 rfl (by decide) (by decide)) (mem_U2 main_v13 rfl (by decide) (by decide))
  · subst h; exact sub2 (mem_U2 main_arg5 rfl (by decide) (by decide)) (mem_U2 main_v14 rfl (by decide) (by decide))
  · subst h; exact sub2 (mem_U2 main_v14 rfl (by decide) (by decide)) (mem_U2 main_v15 rfl (by decide) (by decide))
  · subst h; exact sub2 (mem_U2 main_v15 rfl (by decide) (by decide)) (mem_U2 main_v16 rfl (by decide) (by decide))
  · subst h; exact sub3 (mem_U2 main_v14 rfl (by decide) (by decide)) (mem_U2 main_v16 rfl (by decide) (by decide)) (mem_U2 main_v17 rfl (by decide) (by decide))
  · subst h; exact sub2 (mem_U2 main_v17 rfl (by decide) (by decide)) (mem_U2 main_v18 rfl (by decide) (by decide))
  · subst h; exact sub2 (mem_U2 main_arg8 rfl (by decide) (by decide)) (mem_U2 main_v19 rfl (by decide) (by decide))
  · subst h; exact sub2 (mem_U2 main_v19 rfl (by decide) (by decide)) (mem_U2 main_v20 rfl (by decide) (by decide))
  · subst h; exact sub2 (mem_U2 main_v20 rfl (by decide) (by decide)) (mem_U2 main_v21 rfl (by decide) (by decide))
  · subst h; exact sub3 (mem_U2 main_v19 rfl (by decide) (by decide)) (mem_U2 main_v21 rfl (by decide) (by decide)) (mem_U2 main_v22 rfl (by decide) (by decide))
  · subst h; exact sub2 (mem_U2 main_v22 rfl (by decide) (by decide)) (mem_U2 main_v23 rfl (by decide) (by decide))
  · subst h; exact sub2 (mem_U2 main_arg9 rfl (by decide) (by decide)) (mem_U2 main_v24 rfl (by decide) (by decide))
  · subst h; exact sub2 (mem_U2 main_v24 rfl (by decide) (by decide)) (mem_U2 main_v25 rfl (by decide) (by decide))
  · subst h; exact sub2 (mem_U2 main_v25 rfl (by decide) (by decide)) (mem_U2 main_v26 rfl (by decide) (by decide))
  · subst h; exact sub3 (mem_U2 main_v24 rfl (by decide) (by decide)) (mem_U2 main_v26 rfl (by decide) (by decide)) (mem_U2 main_v27 rfl (by decide) (by decide))
  · subst h; exact sub2 (mem_U2 main_v27 rfl (by decide) (by decide)) (mem_U2 main_v28 rfl (by decide) (by decide))
  · subst h; exact sub2 (mem_U2 main_arg13 rfl (by decide) (by decide)) (mem_U2 main_v29 rfl (by decide) (by decide))

/-- What the line writes. -/
abbrev WA : List (Ref sig .tc) := [main_v0, main_v1, main_c, main_v2, main_v3]

theorem writesA : (opsA (F := F)).Forall fun op => op.writes ⊆ (WA.map (Proc.devRef (τ := τ) .tc)).toFinset :=
  StableHlo.forall_writes_sub_of_map rfl

/-- What the line writes. -/
abbrev WB : List (Ref sig .tc) := [main_v5, main_v6, main_v7, main_v8, main_v9, main_v10, main_v11, main_v12, main_v13, main_v14, main_v15, main_v16, main_v17, main_v18, main_v19, main_v20, main_v21, main_v22, main_v23, main_v24, main_v25, main_v26, main_v27, main_v28, main_v29]

theorem writesB : (opsB (F := F)).Forall fun op => op.writes ⊆ (WB.map (Proc.devRef (τ := τ) .tc)).toFinset :=
  StableHlo.forall_writes_sub_of_map rfl

end Cert.Proof.Run

end
-- ==== Proof.Launch.lean ====
/-
  The run of the whole program: the contents along @main, the SparseCore call dealt its shares, the second call as a
  region, and what the memory holds at the end.
-/
module

public import proofs.«01_k».proof.Proof.Main

@[expose] public section

set_option maxRecDepth 16384

noncomputable section

namespace Cert.Proof.Run

open Cert.KernelIdeal Cert.KernelIdeal.Gen

open Idealize.ShloMosaic Idealize.ShloMosaic.TcCoe
open Idealize.ShloMosaic.StableHlo (held seq after)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F]

local notation "𝕄" => MT nD τ sig (HIx 1) (Elt F) ℕ UU ℕ

/-! ## The buffers' contents along @main -/

section Vals

variable (m : (ℓ : Loc nD τ sig) → Buf (Elt F) ℓ)

/-- At launch; at the SparseCore call; the index list and the table the call reads. -/
def V0 (d : Dev nD) : Valuation τ sig (Elt F) := fun b => m (d, b)
def VA (d : Dev nD) : Valuation τ sig (Elt F) := after opsA (V0 m d)
def fiA (d : Dev nD) : S896.Idx → BitVec 32 := VA m d (rf main_v3)
def tabA (d : Dev nD) : S100000x64.Idx → Elt F .f32 := VA m d (rf main_arg3)
def f0A (d : Dev nD) : S800x64.Idx → Elt F .f32 := VA m d (rf main_v4)

variable (hr : ∀ d, InRange (fiA m d))

/-- After the SparseCore call; at the second call. -/
def VC (d : Dev nD) : Valuation τ sig (Elt F) := Function.update (VA m d) (rf main_v4) (gath (fiA m d) (tabA m d) (hr d))
def VB (d : Dev nD) : Valuation τ sig (Elt F) := after opsB (VC m hr d)

theorem VC_v4 (d : Dev nD) : VC m hr d (rf main_v4) = gath (fiA m d) (tabA m d) (hr d) := Function.update_self _ _ _
theorem VC_ne (d : Dev nD) {b : DevRef τ sig} (h : b ≠ rf main_v4) : VC m hr d b = VA m d b := Function.update_of_ne h _ _

abbrev PP : (K (F := F)).Pay (nD := nD) (Val := Elt F) (Name := ℕ) (U := UU) := P (fiA m) (tabA m) hr (f0A m)

/-! ## What the call takes and gives -/

theorem held_T3 (d : Dev nD) (W : Valuation τ sig (Elt F)) :
    (held (T d) T3 W : sProp 𝕄) = iprop((idxLoc d ↦{fullShare} W (rf main_v3)) ∗ (tabLoc d ↦{fullShare} W (rf main_arg3)) ∗ outLoc d ↦{fullShare} W (rf main_v4)) := by
  unfold held T3
  rw [SparseCore.bigSep_insert' (by decide), SparseCore.bigSep_insert' (by decide), bigSep_singleton]

theorem held_v4 (d : Dev nD) (W : Valuation τ sig (Elt F)) :
    (held (T d) {rf main_v4} W : sProp 𝕄) = (outLoc d ↦{fullShare} W (rf main_v4)) := by
  unfold held; rw [bigSep_singleton]

theorem rows_halves : rowsFrom 0 0 ∪ rowsFrom 1 0 = (Finset.univ : Finset S800x64.Idx) := by
  ext y
  have : (y 0).val < 800 := (y 0).isLt
  simp only [rowsFrom, Finset.mem_union, Finset.mem_filter, Finset.mem_univ, true_and, iff_true]
  omega

theorem halves_disjoint : Disjoint (rowsFrom 0 0) (rowsFrom 1 0) := by
  rw [Finset.disjoint_left]
  intro y h h'
  simp only [rowsFrom, Finset.mem_filter, Finset.mem_univ, true_and] at h h'
  omega

theorem out_halves (d : Dev nD) (f : S800x64.Idx → Elt F .f32) :
    (outLoc d ↦{fullShare} f : sProp 𝕄) ⊣⊢ iprop((outLoc d ↦[rowsFrom 0 0]{fullShare} f) ∗ outLoc d ↦[rowsFrom 1 0]{fullShare} f) := by
  have h := pointsTo_union (Ix := HIx 1) (Val := Elt F) (Name := ℕ) (U := UU) (Lvl := ℕ) (ℓ := outLoc d) (q := fullShare) (f := f) halves_disjoint
  rwa [rows_halves] at h

theorem st0_eq (d : Dev nD) : (bigSep Finset.univ fun c : Fin ((K (F := F)).nCore 0) => (PP m hr).st 0 d c)
    = iprop(handed d (fiA m d) (tabA m d) (f0A m d) 0 ∗ handed d (fiA m d) (tabA m d) (f0A m d) 1) := by
  show (bigSep (Finset.univ : Finset (Fin 2)) fun c => handed d (fiA m d) (tabA m d) (f0A m d) c.val) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (PP m hr).dn 0 d c)
    = iprop(returned d (fiA m d) (tabA m d) (hr d) 0 ∗ returned d (fiA m d) (tabA m d) (hr d) 1) := by
  show (bigSep (Finset.univ : Finset (Fin 2)) fun c => returned d (fiA m d) (tabA m d) (hr d) c.val) = _
  rw [show (Finset.univ : Finset (Fin 2)) = {0, 1} by decide, SparseCore.bigSep_insert' (by decide), bigSep_singleton]
  rfl

/-- The three arrays of the call: a share of the two read ones and half the output's rows to each SparseCore; a share
    of the table kept. -/
theorem call_split (d : Dev nD) :
    (held (T d) T3 (VA m d) : sProp 𝕄)
      ⊢ iprop((handed d (fiA m d) (tabA m d) (f0A m d) 0 ∗ handed d (fiA m d) (tabA m d) (f0A m d) 1) ∗ tabLoc d ↦{fullShare.right.right} tabA m d) := by
  rw [held_T3]
  unfold handed shareOf
  rw [if_pos rfl, if_neg (show ¬ (1 : ℕ) = 0 by decide)]
  rw [show VA m d (rf main_v3) = fiA m d from rfl, show VA m d (rf main_arg3) = tabA m d from rfl, show VA m d (rf main_v4) = f0A m d from rfl]
  iintro ⟨Hi, Ht, Ho⟩
  ihave Hi' := (pointsTo_share (PosShare.mem_left_op_right fullShare)).1 $$ Hi
  icases Hi' with ⟨Hi0, Hi⟩
  ihave Hi' := (pointsTo_share (PosShare.mem_left_op_right fullShare.right)).1 $$ Hi
  icases Hi' with ⟨Hi1, -⟩
  ihave Ht' := (pointsTo_share (PosShare.mem_left_op_right fullShare)).1 $$ Ht
  icases Ht' with ⟨Ht0, Ht⟩
  ihave Ht' := (pointsTo_share (PosShare.mem_left_op_right fullShare.right)).1 $$ Ht
  icases Ht' with ⟨Ht1, Ht2⟩
  ihave Ho' := (out_halves d (f0A m d)).1 $$ Ho
  icases Ho' with ⟨Ho0, Ho1⟩
  isplitr [Ht2]
  · isplitl [Hi0 Ht0 Ho0]
    · isplitl [Hi0]; · iexact Hi0
      isplitl [Ht0]; · iexact Ht0
      iexact Ho0
    · isplitl [Hi1]; · iexact Hi1
      isplitl [Ht1]; · iexact Ht1
      iexact Ho1
  · iexact Ht2

/-- The halves come back gathered: the output whole. -/
theorem call_join (d : Dev nD) :
    iprop(returned d (fiA m d) (tabA m d) (hr d) 0 ∗ returned d (fiA m d) (tabA m d) (hr d) 1) ⊢ (held (T d) {rf main_v4} (VC m hr d) : sProp 𝕄) := by
  rw [held_v4, VC_v4]
  exact (out_halves d _).2

theorem T3_sub : T3 ⊆ U := by
  intro b hb
  simp only [T3, Finset.mem_insert, Finset.mem_singleton] at hb
  rcases hb with rfl | rfl | rfl
  · exact mem_U main_v3 rfl
  · exact mem_U main_arg3 rfl
  · exact mem_U main_v4 rfl

theorem v4_sub : ({rf main_v4} : Finset (DevRef τ sig)) ⊆ U2 := sub1 (mem_U2 main_v4 rfl (by decide) (by decide))

theorem rest_eq : U2 \ {rf main_v4} = U \ T3 := by
  ext b; simp only [U2, T3, Finset.mem_sdiff, Finset.mem_insert, Finset.mem_singleton]; tauto

theorem held_A (d : Dev nD) : (held (T d) U (after opsA (V0 m d)) : sProp 𝕄) = iprop(held (T d) T3 (VA m d) ∗ held (T d) (U \ T3) (VA m d)) :=
  StableHlo.held_sub_split _ T3_sub _

theorem held_C (d : Dev nD) : (held (T d) U2 (VC m hr d) : sProp 𝕄) = iprop(held (T d) {rf main_v4} (VC m hr d) ∗ held (T d) (U \ T3) (VA m d)) := by
  rw [StableHlo.held_sub_split _ v4_sub, rest_eq, StableHlo.held_congr _ (V := VC m hr d) (V' := VA m d) (S := U \ T3)]
  intro b hb
  refine VC_ne m hr d ?_
  rintro rfl
  exact (Finset.mem_sdiff.mp hb).2 (by simp [T3])

/-- The second call's arrays, and the rest of what is whole. -/
abbrev Rest : Finset (DevRef τ sig) := U2 \ arrs

theorem arrs_sub : arrs ⊆ U2 := by
  intro b hb
  obtain ⟨r, hr', rfl⟩ := Finset.mem_map.mp hb
  obtain ⟨w, -, rfl⟩ := Finset.mem_image.mp hr'
  fin_cases w <;> exact mem_U2 _ rfl (by decide) (by decide)

theorem held_B (d : Dev nD) : (held (T d) U2 (after opsB (VC m hr d)) : sProp 𝕄) = iprop(held (T d) arrs (VB m hr d) ∗ held (T d) Rest (VB m hr d)) :=
  StableHlo.held_sub_split _ arrs_sub _

/-! ## The launch's ghost state -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the launch deals the second call on each device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := BI.bigSep_emp_const s

theorem deal_ghost :
    iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
      ⊢ bigSep Finset.univ (G (F := F)) := by
  simp only [show (Finset.univ : Finset (Fin 1)) = {0} by decide, bigSep_singleton]
  exact .rfl

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (PP m hr).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · iapply (deal_ghost (F := F))
    isplitl [Hg] <;> iassumption
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on a TensorCore -/

variable (ρ : Dev nD → PrngReg)

/-- The level below which the TensorCore's recorded waits lie once the SparseCore call is done. -/
abbrev b1 : ℕ := 8

/-- What @main leaves on a device: the second call's arrays at contents its write-backs may leave, the rest of the
    buffers at their contents, a share of the table unchanged. -/
abbrev FIN (d : Dev nD) : sProp 𝕄 :=
  iprop((rdats (VB m hr) b1 0 d).arraysAt cfg1.N ∗ held (T d) Rest (VB m hr d) ∗ tabLoc d ↦{fullShare.right.right} tabA m d)

theorem unscoped_held (d : Dev nD) : (unscopedBufs d (fun b => m ((SparseCore.T d : Thread nD τ).loc b)) : sProp 𝕄) = held (T d) U (V0 m d) :=
  Pipeline.unscopedBufs_held d (V0 m d)

theorem reg_pre (VB : Dev nD → Valuation τ sig (Elt F)) (b : ℕ) (R : Dev nD → sProp 𝕄) (c : Dev nD) : (reg VB b R).pre c
    = iprop(held (T c) arrs (VB c) ∗ R c ∗ ∃ W, ⌜(K (F := F)).WBelow (T c) W b⌝ ∗ owes (T c) (0 : CellTallies nD τ sig (HIx 1)) W) := rfl
theorem reg_post (VB : Dev nD → Valuation τ sig (Elt F)) (b : ℕ) (R : Dev nD → sProp 𝕄) (c : Dev nD) : (reg VB b R).post c
    = iprop((rdats VB b 0 c).arraysAt cfg1.N ∗ R c ∗ ∃ W, ⌜(K (F := F)).WBelow (T c) W b⌝ ∗ owes (T c) (0 : CellTallies nD τ sig (HIx 1)) W) := rfl

theorem bindS (d : Dev nD) {α β : Type} (p : Prog (TpuEff nD τ sig (Elt F) (SparseCore.Sig (ΛP (F := F)) 1) .tc) α)
    (k : α → Prog (TpuEff nD τ sig (Elt F) (SparseCore.Sig (ΛP (F := F)) 1) .tc) β) (Q : β → sProp 𝕄) :
    (wp frame (wpE ((K (F := F)).defs (D (F := F))) 𝒱 (SparseCore.T d) none) Set.univ p (fun a => wp frame (wpE ((K (F := F)).defs (D (F := F))) 𝒱 (SparseCore.T d) none) Set.univ (k a) Q))
      ⊢ wp frame (wpE ((K (F := F)).defs (D (F := F))) 𝒱 (SparseCore.T d) none) Set.univ (p >>= k) Q := by
  rw [wp_bind]

theorem hmain (κ : GSem nD τ sig → ℕ) (d : Dev nD) [∀ e, Nonempty (Elt F e)] :
    iprop((K (F := F)).ctx EH (PP m hr) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m hr d ∗ (K (F := F)).tcEnd d) := by
  unfold SparseCore.Cfg.tcRes SparseCore.Cfg.tcEnd
  rw [unscoped_held, main_eq]
  iintro ⟨#Hctx, Hst, ⟨Hb, Hheld, Hts, -⟩, HG⟩
  ihave #Hlv := (SparseCore.Cfg.ctx_levAts κ) $$ Hctx
  -- the host operations before the call
  iapply (StableHlo.wp_seq 𝒱 none Set.univ d U _ opsA bufsA freshA (V0 m d)) $$ [Hb Hheld]
  · isplitl [Hb] <;> iassumption
  iintro ⟨Hb, Hheld⟩
  ihave Hh := (Entails.of_eq (held_A (F := F) m d)) $$ Hheld
  icases Hh with ⟨H3, Hrest⟩
  ihave H3' := (call_split m d) $$ H3
  icases H3' with ⟨Hst0, Htab⟩
  -- the SparseCore call
  iapply (bindS d _ _ _)
  iapply ((K (F := F)).wp_run (D (F := F)) 𝒱 (EH := EH) (P := PP m hr) κ d 0) $$ [Hst Hst0 Hb Hrest Hts HG Htab]
  isplitr; · iexact Hctx
  isplitl [Hst]; · iexact Hst
  isplitl [Hst0]
  · rw [st0_eq]; iexact Hst0
  iintro ⟨Hst, Hdn⟩
  ihave Hdn' := (Entails.of_eq (dn0_eq m hr d)) $$ Hdn
  ihave Hv4 := (call_join m hr d) $$ Hdn'
  -- the host operations after it
  iapply (StableHlo.wp_seq 𝒱 none Set.univ d U2 _ opsB bufsB freshB (VC m hr d)) $$ [Hb Hv4 Hrest]
  · isplitl [Hb]; · iexact Hb
    rw [held_C]
    isplitl [Hv4] <;> iassumption
  iintro ⟨Hb, Hheld⟩
  ihave Hh := (Entails.of_eq (held_B (F := F) m hr d)) $$ Hheld
  icases Hh with ⟨Harr, Hrest⟩
  -- the second call, a region over its windows' arrays
  ihave Hst := (Entails.of_eq (show (K (F := F)).tcSt EH d ((0 : Fin 1).val + 1) = (K (F := F)).tcSt EH d 1 from rfl)) $$ Hst
  unfold SparseCore.Cfg.tcSt
  icases Hst with ⟨⟨%W, %hW, HO⟩, Hst⟩
  rw [(K (F := F)).Otc_end d (le_refl 1)]
  icases HG with ⟨HG, HT⟩
  iapply (bindS d _ _ _)
  iapply ((K (F := F)).wp_liftProg (D (F := F)) 𝒱 (SparseCore.T d) Set.univ none (Prog.lift (.customCall (Pipeline.entry 0) ())) _)
  iapply (RDat.RegionSeg.wp (pcfgs (F := F)) adm (rdats (VB m hr) b1) none phinj EP defs₀ 𝒱₀ (K (F := F)).L (K (F := F)).lev
    (reg (VB m hr) b1 fun _ => iprop(emp)) d none (fun _ h => nomatch h) _ _)
  isplitl [Hrest Hts Htab Hst]
  · iintro ⟨Hb, Hpost⟩
    iapply (le_wp_ret _ _)
    ihave Hpost' := (Entails.of_eq (reg_post (VB m hr) b1 (fun _ => iprop(emp)) d)) $$ Hpost
    icases Hpost' with ⟨Harr, -, %W', %hW', HO⟩
    iapply (le_wp_ret _ _)
    isplitl [HO Hst]
    · isplitl [HO]
      · iexists W'; isplitr; · ipureintro; exact hW'
        iexact HO
      · iexact Hst
    isplitr [Hb Hts]
    · isplitl [Harr]; · iexact Harr
      isplitl [Hrest]; · iexact Hrest
      iexact Htab
    isplitl [Hb] <;> iassumption
  isplitl [Hb]; · iexact Hb
  isplitl [Harr HO]
  · rw [reg_pre]
    isplitl [Harr]; · iexact Harr
    isplitr; · iempintro
    iexists W; isplitr; · ipureintro; exact hW
    iexact HO
  isplitr; · iexact Hlv
  isplitl [HG] <;> iassumption

/-! ## What the memory holds at the end -/

/-- Every window's array holds contents its write-backs may leave; every other buffer what @main's operations left; the
    table what it held. -/
def fq (d : Dev nD) (s' : MemSt nD τ sig (Elt F)) : Prop :=
  (∀ w, (rdats (VB m hr) b1 0 d).ArrAt w cfg1.N (s'.mem ((cfg1.spec w).arr.view.loc (T d : Thread nD τ))))
    ∧ (∀ b ∈ Rest, s'.mem ((d, b) : Loc nD τ sig) = VB m hr d b) ∧ s'.mem (tabLoc d) = tabA m d

theorem hfin (d : Dev nD) [∀ e, Nonempty (Elt F e)] (s' : Phys nD τ sig (Elt F)) : iprop(FIN m hr d ∗ SI s') ⊢ (⌜fq m hr d s'.mem⌝ : sProp 𝕄) := by
  iintro ⟨⟨Harr, Hrest, Htab⟩, HSI⟩
  ihave H := (RDat.arraysAt_read (pcfgs (F := F)) adm (rdats (VB m hr) b1) 0 d launch1.arr_whole cfg1.N s') $$ [Harr HSI]
  · isplitl [Harr]; · iexact Harr
    iexact HSI
  icases H with ⟨%h1, HSI⟩
  unfold held
  ihave H := (pointsTo_read_all Rest (fun b => ((d, b) : Loc nD τ sig)) (VB m hr d) s') $$ [Hrest HSI]
  · isplitl [Hrest]; · iexact Hrest
    iexact HSI
  icases H with ⟨%h2, HSI⟩
  ihave H := (SI_pointsTo_agree (st := s') (ℓ := tabLoc d) (I := Finset.univ) (q := fullShare.right.right) (f := tabA m d)) $$ [HSI Htab]
  · isplitl [HSI] <;> iassumption
  icases H with %h3
  ipureintro
  exact ⟨h1, h2, funext fun i => h3 i (Finset.mem_univ i)⟩

def QC : PUnit × MemSt nD τ sig (Elt F) → Prop := fun r => (∀ d, fq m hr d r.2) ∧ r.2.sem = fun _ => 0

theorem run_main [∀ e, Nonempty (Elt F e)] : θ_run (Cert.KernelIdeal.defs (F := F)) (Cert.KernelIdeal.threads (F := F)) ⟨m, fun _ => 0, ρ⟩ (QC m hr) :=
  SparseCore.Cfg.θ_run_sc_quiescent (K := K (F := F)) (D := D (F := F)) (𝒱 := 𝒱) (EH := EH) (P := PP m hr) (A := ∅) facts v₀
    (fun q _ => match q with | 0 => scalarObl (fiA m) (tabA m) hr (f0A m))
    (fun q hq => match q with | 0 => nomatch hq)
    (fun q hq => match q with | 0 => nomatch hq)
    m ρ main G (FIN m hr) (u₀ (F := F)) (sep_elim_left.trans (hu₀ m hr)) (fun κ d => hmain m hr ρ κ d) (fun d s' => fq m hr d s'.mem) (fun d s' => hfin m hr d s') (QC m hr) (fun _ h hz => ⟨h, hz⟩)

end Vals

end Cert.Proof.Run

end
-- ==== Proof.Frames.lean ====
/-
  What the run leaves, read at the arguments: the token list the SparseCore reads is in range under the
  preconditions, and every argument array ends as it began.
-/
module

public import proofs.«01_k».proof.Proof.Launch
public import proofs.«01_k».proof.Proof.Gen.Pre_tokens_ok
public import proofs.«01_k».proof.Pre_inputs_ok
public import Idealize.ShloMosaic.Lib.ReduceAll
public import Idealize.ShloMosaic.Lib.ValueLayout
public import Idealize.ShloMosaic.Lib.StableHlo.RunClose
public import Idealize.ShloMosaic.Lib.StableHlo.RunRead

@[expose] public section

set_option maxRecDepth 16384

noncomputable section

namespace Cert.Proof.Run

open Cert.KernelIdeal Cert.KernelIdeal.Gen

open Idealize.ShloMosaic Idealize.ShloMosaic.TcCoe
open Idealize.ShloMosaic.StableHlo (after)
open Idealize.ShloMosaic.SparseCore (T)
open Idealize.SL Idealize.SL.Sem
open Idealize.ShloMosaic.Pipeline (RDat)
open Idealize.ShloMosaic.ValueIdx

variable {F : FTy → Type} [FloatOps F]

/-- The facts the preconditions' functions take. -/
instance inputsFacts : Cert.Pre_inputs_ok.Facts where
  bcast_S_S16x50 := by decide
  reducesTo_S16x50_S_d0_1 := by decide
  h_S_ := by decide
  bcast_S_S2x16x256 := by decide
  reducesTo_S2x16x256_S_d0_1_2 := by decide
  bcast_S_S100000x64 := by decide
  reducesTo_S100000x64_S_d0_1 := by decide
  bcast_S_S1024x64 := by decide
  reducesTo_S1024x64_S_d0_1 := by decide
  bcast_S_S1024x256 := by decide
  reducesTo_S1024x256_S_d0_1 := by decide

/-! ## The token list -/

/-- Every token is a row of the table. -/
def TokOk (a : S16x50.Idx → BitVec 32) : Prop := ∀ j, (a j).toNat < 100000

theorem tok_of_words (x : BitVec 32) (h0 : IntOp.cmpi .sge x 0#32 = 1#1) (h1 : IntOp.cmpi .slt x 100000#32 = 1#1) : x.toNat < 100000 := by
  have h0' := IntOp.cmpi_sge.1 h0
  have h1' := IntOp.cmpi_slt.1 h1
  have e0 : (0#32).toInt = 0 := by decide
  have e1 : (100000#32).toInt = 100000 := by decide
  rw [e0] at h0'
  rw [e1] at h1'
  have := BitVec.toInt_eq_toNat_cond x
  split at this <;> omega

instance : Subsingleton (Cert.Pre_tokens_ok.S_).Idx := ⟨fun _ _ => funext fun a => a.elim0⟩
instance : Subsingleton (Cert.Pre_inputs_ok.S_).Idx := ⟨fun _ _ => funext fun a => a.elim0⟩

theorem tokOk_of_tokens {a0 a1 a2 a3 a4 a5 a6 a7 a8 a9 a10 a11 a12 a13}
    (h : Cert.Pre_tokens_ok.fn (F := F) a0 a1 a2 a3 a4 a5 a6 a7 a8 a9 a10 a11 a12 a13 = fun _ => 1#1) : TokOk a0 := by
  intro j
  have h' := congrFun h (Shape.Idx.first Cert.Pre_tokens_ok.Gen.h_S_)
  unfold Cert.Pre_tokens_ok.fn at h'
  have hj := Host.reduce_andi_all _ _ _ _ _ h' j
  obtain ⟨h0, h1⟩ := IntOp.andi_eq_one.1 hj
  exact tok_of_words (a0 j) h0 h1

/-- Both halves of an `and` of conditions that is true. -/
theorem and_of (x y : IVec Cert.Pre_inputs_ok.S_ 1) (j) (h : andi x y j = 1#1) : x j = 1#1 ∧ y j = 1#1 := IntOp.andi_eq_one.1 h

/-- No entry is infinite. -/
def Fin' {s : Shape} (a : FVec F s .f32) : Prop := ∀ j, FloatOps.cmpf .olt (FloatOps.hostAbsf (a j)) (FloatOps.ofBits .f32 0x7F800000#32 : F .f32) = 1#1

theorem inputs_split {a0 a1 a2 a3 a4 a5 a6 a7 a8 a9 a10 a11 a12 a13}
    (h : Cert.Pre_inputs_ok.fn (F := F) a0 a1 a2 a3 a4 a5 a6 a7 a8 a9 a10 a11 a12 a13 = fun _ => 1#1) :
    TokOk a0 ∧ Fin' a1 ∧ Fin' a3 ∧ Fin' a4 ∧ Fin' a5 ∧ Fin' a8 ∧ Fin' a9 := by
  have h' := congrFun h (Shape.Idx.first inputsFacts.h_S_)
  unfold Cert.Pre_inputs_ok.fn Cert.Pre_inputs_ok.fn_part1 Cert.Pre_inputs_ok.fn_part2 at h'
  obtain ⟨h', h9⟩ := and_of _ _ _ h'
  obtain ⟨h', h8⟩ := and_of _ _ _ h'
  obtain ⟨h', h5⟩ := and_of _ _ _ h'
  obtain ⟨h', h4⟩ := and_of _ _ _ h'
  obtain ⟨h', h3⟩ := and_of _ _ _ h'
  obtain ⟨h', h1⟩ := and_of _ _ _ h'
  refine ⟨fun j => ?_, fun j => ?_, fun j => ?_, fun j => ?_, fun j => ?_, fun j => ?_, fun j => ?_⟩
  · obtain ⟨e0, e1⟩ := IntOp.andi_eq_one.1 (Host.reduce_andi_all _ _ _ _ _ h' j)
    exact tok_of_words (a0 j) e0 e1
  · exact Host.reduce_andi_all _ _ _ _ _ h1 j
  · exact Host.reduce_andi_all _ _ _ _ _ h3 j
  · exact Host.reduce_andi_all _ _ _ _ _ h4 j
  · exact Host.reduce_andi_all _ _ _ _ _ h5 j
  · exact Host.reduce_andi_all _ _ _ _ _ h8 j
  · exact Host.reduce_andi_all _ _ _ _ _ h9 j

variable (m : (ℓ : Loc nD τ sig) → Buf (Elt F) ℓ)

/-- The list the SparseCore reads: the tokens transposed, flattened, and padded with zeros. -/
theorem fiA_eq (d : Dev nD) : fiA m d = concatenate S896 0
    [⟨S800, shapeCast S800 (transpose S50x16 [1, 0] (m (d, rf main_arg0)) transposes_S16x50_S50x16_1_0) shapeCasts_S50x16_S800⟩,
     ⟨S96, broadcastInDim S96 ![] bcast_S_S96 (constantI S_ 32 0#32)⟩] concatenates_S800_S96_S896_d0 := by
  unfold fiA VA opsA
  after_results_entrywise []

/-- Position `p` of the list is the token of batch row `p % 16` at time `p / 16`. -/
theorem fiA_at (d : Dev nD) (p : ℕ) (hp : p < 800) :
    fiA m d (ix896 p (by omega)) = m (d, rf main_arg0) (ix2 (⟨p % 16, by omega⟩ : Fin 16) (⟨p / 16, by omega⟩ : Fin 50)) := by
  rw [fiA_eq]
  refine (concatenate_pair_apply_left (s₁ := S800) (s₂ := S96) (0 : Fin S896.rank) _ _ _ _ rfl (ix1 (⟨p, hp⟩ : Fin 800)) (fun b => by
    match b with | ⟨0, _⟩ => rfl)).trans ?_
  rw [shapeCast_apply _ _ _ (ix2 (⟨p / 16, by omega⟩ : Fin 50) (⟨p % 16, by omega⟩ : Fin 16)) (by
    rw [Shape.rowMajor_val_two, Shape.rowMajor_val_one]
    show p / 16 * 16 + p % 16 = p
    omega)]
  exact transpose_ix2_apply _ _ _ _

theorem inRange_of (d : Dev nD) (h : TokOk (m (d, rf main_arg0))) : InRange (fiA m d) := by
  intro p hp
  rw [fiA_at m d p hp]
  exact h _

/-! ## The arguments -/

variable (hr : ∀ d, InRange (fiA m d))

theorem VA_arg (d : Dev nD) (r : Ref sig .tc) (h : r ∉ WA) : VA m d (rf r) = m (d, rf r) :=
  StableHlo.after_of_writes_sub _ _ writesA h

theorem VB_arg (d : Dev nD) (r : Ref sig .tc) (hA : r ∉ WA) (hB : r ∉ WB) (h4 : r ≠ main_v4) : VB m hr d (rf r) = m (d, rf r) := by
  rw [← VA_arg m d r hA, ← VC_ne m hr d (b := rf r) fun e => h4 (Proc.devRef_injective _ e)]
  exact StableHlo.after_of_writes_sub _ _ writesB hB

theorem mem_Rest (r : Ref sig .tc) (h : r.isScoped = false) (h3 : r ≠ main_v3) (ha : r ≠ main_arg3) (hw : ∀ w, Pipeline.arrRef spec1 w ≠ r) : rf r ∈ Rest := by
  refine Finset.mem_sdiff.2 ⟨mem_U2 r h h3 ha, fun h' => ?_⟩
  obtain ⟨r', hr', e⟩ := Finset.mem_map.mp h'
  obtain ⟨w, -, rfl⟩ := Finset.mem_image.mp hr'
  exact hw w (Proc.devRef_injective _ e)

variable {m hr}

theorem arg_rest {d : Dev nD} {s : MemSt nD τ sig (Elt F)} (h : fq m hr d s) (r : Ref sig .tc) (hs : r.isScoped = false) (h3 : r ≠ main_v3) (ha : r ≠ main_arg3)
    (hw : ∀ w, Pipeline.arrRef spec1 w ≠ r) (hA : r ∉ WA) (hB : r ∉ WB) (h4 : r ≠ main_v4) : s.mem (d, rf r) = m (d, rf r) :=
  (h.2.1 _ (mem_Rest r hs h3 ha hw)).trans (VB_arg m hr d r hA hB h4)

theorem arg_win {d : Dev nD} {s : MemSt nD τ sig (Elt F)} (h : fq m hr d s) (w : Fin cfg1.W) (hin : (cfg1.win w).isOut = false)
    (hA : Pipeline.arrRef spec1 w ∉ WA) (hB : Pipeline.arrRef spec1 w ∉ WB) (h4 : Pipeline.arrRef spec1 w ≠ main_v4) :
    s.mem ((cfg1.spec w).arr.view.loc (T d : Thread nD τ)) = m (d, rf (Pipeline.arrRef spec1 w)) := by
  have h' := h.1 w
  rw [RDat.ArrAt_in (rdats (VB m hr) b1 0 d) w hin cfg1.N] at h'
  exact h'.trans (VB_arg m hr d _ hA hB h4)

/-- Every argument array ends as it began. -/
def Kept (m : (ℓ : Loc nD τ sig) → Buf (Elt F) ℓ) (d : Dev nD) (s : MemSt nD τ sig (Elt F)) : Prop :=
    s.mem ((d.tc : Thread nD τ).loc main_arg0) = m ((d.tc : Thread nD τ).loc main_arg0) ∧ s.mem ((d.tc : Thread nD τ).loc main_arg1) = m ((d.tc : Thread nD τ).loc main_arg1) ∧ s.mem ((d.tc : Thread nD τ).loc main_arg2) = m ((d.tc : Thread nD τ).loc main_arg2)
    ∧ s.mem ((d.tc : Thread nD τ).loc main_arg3) = m ((d.tc : Thread nD τ).loc main_arg3) ∧ s.mem ((d.tc : Thread nD τ).loc main_arg4) = m ((d.tc : Thread nD τ).loc main_arg4) ∧ s.mem ((d.tc : Thread nD τ).loc main_arg5) = m ((d.tc : Thread nD τ).loc main_arg5)
    ∧ s.mem ((d.tc : Thread nD τ).loc main_arg6) = m ((d.tc : Thread nD τ).loc main_arg6) ∧ s.mem ((d.tc : Thread nD τ).loc main_arg7) = m ((d.tc : Thread nD τ).loc main_arg7) ∧ s.mem ((d.tc : Thread nD τ).loc main_arg8) = m ((d.tc : Thread nD τ).loc main_arg8)
    ∧ s.mem ((d.tc : Thread nD τ).loc main_arg9) = m ((d.tc : Thread nD τ).loc main_arg9) ∧ s.mem ((d.tc : Thread nD τ).loc main_arg10) = m ((d.tc : Thread nD τ).loc main_arg10) ∧ s.mem ((d.tc : Thread nD τ).loc main_arg11) = m ((d.tc : Thread nD τ).loc main_arg11)
    ∧ s.mem ((d.tc : Thread nD τ).loc main_arg12) = m ((d.tc : Thread nD τ).loc main_arg12) ∧ s.mem ((d.tc : Thread nD τ).loc main_arg13) = m ((d.tc : Thread nD τ).loc main_arg13)

theorem args_kept {d : Dev nD} {s : MemSt nD τ sig (Elt F)} (h : fq m hr d s) : Kept m d s := by
  refine ⟨?_, ?_, ?_, ?_, ?_, ?_, ?_, ?_, ?_, ?_, ?_, ?_, ?_, ?_⟩
  · exact arg_rest h main_arg0 rfl (by decide) (by decide) (by decide) (by decide) (by decide) (by decide)
  · exact arg_win h 11 rfl (by decide) (by decide) (by decide)
  · exact arg_win h 12 rfl (by decide) (by decide) (by decide)
  · exact h.2.2.trans (VA_arg m d main_arg3 (by decide))
  · exact arg_rest h main_arg4 rfl (by decide) (by decide) (by decide) (by decide) (by decide) (by decide)
  · exact arg_rest h main_arg5 rfl (by decide) (by decide) (by decide) (by decide) (by decide) (by decide)
  · exact arg_rest h main_arg6 rfl (by decide) (by decide) (by decide) (by decide) (by decide) (by decide)
  · exact arg_rest h main_arg7 rfl (by decide) (by decide) (by decide) (by decide) (by decide) (by decide)
  · exact arg_rest h main_arg8 rfl (by decide) (by decide) (by decide) (by decide) (by decide) (by decide)
  · exact arg_rest h main_arg9 rfl (by decide) (by decide) (by decide) (by decide) (by decide) (by decide)
  · exact arg_rest h main_arg10 rfl (by decide) (by decide) (by decide) (by decide) (by decide) (by decide)
  · exact arg_rest h main_arg11 rfl (by decide) (by decide) (by decide) (by decide) (by decide) (by decide)
  · exact arg_win h 13 rfl (by decide) (by decide) (by decide)
  · exact arg_rest h main_arg13 rfl (by decide) (by decide) (by decide) (by decide) (by decide) (by decide)

end Cert.Proof.Run

end
-- ==== Proof.Cell.lean ====
/-
  The two layers' recurrence over the extended reals, index by index: what both programs compute.
-/
module

public import proofs.«01_k».proof.Proof.Setup
public import Idealize.ShloMosaic.Lib.MatmulPlain
public import Idealize.ShloMosaic.Lib.ValueLayout
public import Idealize.ShloMosaic.Lib.Pipeline.Value

@[expose] public section

set_option maxRecDepth 16384

noncomputable section

namespace Cert.Proof.Net

open Cert.KernelIdeal
open Idealize.ShloMosaic Idealize.ShloMosaic.ValueIdx
open scoped BigOperators

/-- Neither infinite. -/
def FinE (x : EReal) : Prop := x ≠ ⊤ ∧ x ≠ ⊥

theorem FinE.sub_self {x : EReal} (h : FinE x) : x - x = 0 := EReal.sub_self h.1 h.2

theorem FinE.mul {x y : EReal} (hx : FinE x) (hy : FinE y) : FinE (x * y) := by
  lift x to ℝ using hx
  lift y to ℝ using hy
  rw [← EReal.coe_mul]
  exact ⟨EReal.coe_ne_top _, EReal.coe_ne_bot _⟩

theorem finE_logistic (x : EReal) : FinE (Ideal.logistic x) := by
  induction x using EReal.rec with
  | bot => rw [Ideal.logistic_bot]; exact ⟨EReal.coe_ne_top 0, EReal.coe_ne_bot 0⟩
  | top => rw [Ideal.logistic_top]; exact ⟨EReal.coe_ne_top 1, EReal.coe_ne_bot 1⟩
  | coe r => rw [Ideal.logistic_coe]; exact ⟨EReal.coe_ne_top _, EReal.coe_ne_bot _⟩

theorem finE_tanh (x : EReal) : FinE (Ideal.tanh x) := by
  induction x using EReal.rec with
  | bot => rw [Ideal.tanh_bot]; exact ⟨EReal.coe_ne_top (-1), EReal.coe_ne_bot (-1)⟩
  | top => rw [Ideal.tanh_top]; exact ⟨EReal.coe_ne_top 1, EReal.coe_ne_bot 1⟩
  | coe r => rw [Ideal.tanh_coe]; exact ⟨EReal.coe_ne_top _, EReal.coe_ne_bot _⟩

/-! ## One step -/

/-- The gates' column of unit `j` in part `p` of the four. -/
def gcol (p : Fin 4) (j : Fin 256) : Fin 1024 := ⟨256 * p.val + j.val, by omega⟩

/-- The new cell state of the gates and the old one. -/
def nextC (g : S16x1024.Idx → EReal) (c : S16x256.Idx → EReal) : S16x256.Idx → EReal := fun y =>
  Ideal.logistic (g (ix2 (y 0) (gcol 1 (y 1)))) * c y + Ideal.logistic (g (ix2 (y 0) (gcol 0 (y 1)))) * Ideal.tanh (g (ix2 (y 0) (gcol 2 (y 1))))

/-- The new hidden state. -/
def nextH (g : S16x1024.Idx → EReal) (c : S16x256.Idx → EReal) : S16x256.Idx → EReal := fun y =>
  Ideal.logistic (g (ix2 (y 0) (gcol 3 (y 1)))) * Ideal.tanh (nextC g c y)

theorem finE_nextH (g : S16x1024.Idx → EReal) (c : S16x256.Idx → EReal) (y : S16x256.Idx) : FinE (nextH g c y) := (finE_logistic _).mul (finE_tanh _)

/-- The gates of a step's input and hidden state. -/
def gateSum {K : ℕ} (x : Fin 16 → Fin K → EReal) (Wi : Fin 1024 → Fin K → EReal) (h : S16x256.Idx → EReal) (Wh : Fin 1024 → Fin 256 → EReal) (bi bh : Fin 1024 → EReal) :
    S16x1024.Idx → EReal := fun y =>
  (∑ k, x (y 0) k * Wi (y 1) k) + (∑ k, h (ix2 (y 0) k) * Wh (y 1) k) + bi (y 1) + bh (y 1)

/-! ## The fifty steps of the two layers -/

/-- The inputs, index by index: the embedded token of step `n` and row `r`, the weights, the initial states. -/
structure Inp where
  x : ℕ → Fin 16 → Fin 64 → EReal
  Wi0 : Fin 1024 → Fin 64 → EReal
  Wh0 : Fin 1024 → Fin 256 → EReal
  bi0 : Fin 1024 → EReal
  bh0 : Fin 1024 → EReal
  Wi1 : Fin 1024 → Fin 256 → EReal
  Wh1 : Fin 1024 → Fin 256 → EReal
  bi1 : Fin 1024 → EReal
  bh1 : Fin 1024 → EReal
  h0 : S16x256.Idx → EReal
  c0 : S16x256.Idx → EReal
  h1 : S16x256.Idx → EReal
  c1 : S16x256.Idx → EReal

/-- What the splitting of the products' operands in two needs: the operands are finite. -/
structure Inp.Finite (N : Inp) : Prop where
  x : ∀ n r k, FinE (N.x n r k)
  Wi0 : ∀ j k, FinE (N.Wi0 j k)
  Wh0 : ∀ j k, FinE (N.Wh0 j k)
  Wi1 : ∀ j k, FinE (N.Wi1 j k)
  Wh1 : ∀ j k, FinE (N.Wh1 j k)
  h0 : ∀ y, FinE (N.h0 y)
  h1 : ∀ y, FinE (N.h1 y)

namespace Inp

variable (N : Inp)

/-- Layer 0's (hidden, cell) after `n` steps. -/
def st0 : ℕ → (S16x256.Idx → EReal) × (S16x256.Idx → EReal)
  | 0 => (N.h0, N.c0)
  | n + 1 =>
    (nextH (gateSum (N.x n) N.Wi0 (st0 n).1 N.Wh0 N.bi0 N.bh0) (st0 n).2, nextC (gateSum (N.x n) N.Wi0 (st0 n).1 N.Wh0 N.bi0 N.bh0) (st0 n).2)

/-- Layer 0's gates at step `n`. -/
def gt0 (n : ℕ) : S16x1024.Idx → EReal := gateSum (N.x n) N.Wi0 (N.st0 n).1 N.Wh0 N.bi0 N.bh0

/-- Layer 1's input at step `n`: layer 0's fresh hidden state. -/
def mid (n : ℕ) : Fin 16 → Fin 256 → EReal := fun r k => (N.st0 (n + 1)).1 (ix2 r k)

/-- Layer 1's (hidden, cell) after `n` steps. -/
def st1 : ℕ → (S16x256.Idx → EReal) × (S16x256.Idx → EReal)
  | 0 => (N.h1, N.c1)
  | n + 1 =>
    (nextH (gateSum (N.mid n) N.Wi1 (st1 n).1 N.Wh1 N.bi1 N.bh1) (st1 n).2, nextC (gateSum (N.mid n) N.Wi1 (st1 n).1 N.Wh1 N.bi1 N.bh1) (st1 n).2)

/-- Layer 1's gates at step `n`. -/
def gt1 (n : ℕ) : S16x1024.Idx → EReal := gateSum (N.mid n) N.Wi1 (N.st1 n).1 N.Wh1 N.bi1 N.bh1

theorem st0_succ (n : ℕ) : N.st0 (n + 1) = (nextH (N.gt0 n) (N.st0 n).2, nextC (N.gt0 n) (N.st0 n).2) := rfl
theorem st1_succ (n : ℕ) : N.st1 (n + 1) = (nextH (N.gt1 n) (N.st1 n).2, nextC (N.gt1 n) (N.st1 n).2) := rfl

variable {N}

theorem fin_st0 (hN : N.Finite) : ∀ n y, FinE ((N.st0 n).1 y)
  | 0, y => hN.h0 y
  | n + 1, y => by rw [st0_succ]; exact finE_nextH _ _ y

theorem fin_st1 (hN : N.Finite) : ∀ n y, FinE ((N.st1 n).1 y)
  | 0, y => hN.h1 y
  | n + 1, y => by rw [st1_succ]; exact finE_nextH _ _ y

theorem fin_mid (hN : N.Finite) (n : ℕ) (r k) : FinE (N.mid n r k) := fin_st0 hN (n + 1) _

end Inp

/-! ## The problem's arrays as one such input, and its three results -/

/-- The row of the table a token names. -/
def tokRow (w : BitVec 32) : Fin 100000 := ⟨w.toNat % 100000, Nat.mod_lt _ (by omega)⟩

theorem tokRow_val {w : BitVec 32} (h : w.toNat < 100000) : (tokRow w).val = w.toNat := Nat.mod_eq_of_lt h

/-- The two layers fed with the tokens' rows of the table. -/
def mkInp (tok : S16x50.Idx → BitVec 32) (h c : S2x16x256.Idx → EReal) (emb : S100000x64.Idx → EReal) (wi0 : S1024x64.Idx → EReal)
    (wh0 : S1024x256.Idx → EReal) (bi0 bh0 : S1024.Idx → EReal) (wi1 wh1 : S1024x256.Idx → EReal) (bi1 bh1 : S1024.Idx → EReal) : Inp where
  x n r k := emb (ix2 (tokRow (tok (ix2 r (⟨n % 50, Nat.mod_lt _ (by omega)⟩ : Fin 50)))) k)
  Wi0 j k := wi0 (ix2 j k)
  Wh0 j k := wh0 (ix2 j k)
  bi0 j := bi0 (ix1 j)
  bh0 j := bh0 (ix1 j)
  Wi1 j k := wi1 (ix2 j k)
  Wh1 j k := wh1 (ix2 j k)
  bi1 j := bi1 (ix1 j)
  bh1 j := bh1 (ix1 j)
  h0 y := h (ix3 (0 : Fin 2) (y 0) (y 1))
  c0 y := c (ix3 (0 : Fin 2) (y 0) (y 1))
  h1 y := h (ix3 (1 : Fin 2) (y 0) (y 1))
  c1 y := c (ix3 (1 : Fin 2) (y 0) (y 1))

theorem mkInp_congr {a0 b0 : S16x50.Idx → BitVec 32} {a1 b1 a2 b2 : S2x16x256.Idx → EReal} {a3 b3 : S100000x64.Idx → EReal} {a4 b4 : S1024x64.Idx → EReal}
    {a5 b5 : S1024x256.Idx → EReal} {a6 b6 a7 b7 : S1024.Idx → EReal} {a8 b8 a9 b9 : S1024x256.Idx → EReal} {a10 b10 a11 b11 : S1024.Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9)
    (h10 : a10 = b10) (h11 : a11 = b11) : mkInp a0 a1 a2 a3 a4 a5 a6 a7 a8 a9 a10 a11 = mkInp b0 b1 b2 b3 b4 b5 b6 b7 b8 b9 b10 b11 := by
  subst h0 h1 h2 h3 h4 h5 h6 h7 h8 h9 h10 h11; rfl

/-- The scores: layer 1's hidden states of every batch row and time, against every row of the projection. -/
def scores (N : Inp) (W : S100000x256.Idx → EReal) (b : S100000.Idx → EReal) (p : Fin 800) (v : Fin 100000) : EReal :=
  (∑ k : Fin 256, (N.st1 (p.val % 50 + 1)).1 (ix2 (⟨p.val / 50, by omega⟩ : Fin 16) k) * W (ix2 v k)) + b (ix1 v)

/-- The two layers' final hidden states, -/
def finalH (N : Inp) (y : S2x16x256.Idx) : EReal := if (y 0).val = 0 then (N.st0 50).1 (ix2 (y 1) (y 2)) else (N.st1 50).1 (ix2 (y 1) (y 2))
/-- and their final cell states. -/
def finalC (N : Inp) (y : S2x16x256.Idx) : EReal := if (y 0).val = 0 then (N.st0 50).2 (ix2 (y 1) (y 2)) else (N.st1 50).2 (ix2 (y 1) (y 2))

end Cert.Proof.Net

end
-- ==== Proof.RVal.lean ====
/-
  The reference's loop over the extended reals is the two layers' recurrence.
-/
module

public import proofs.«01_k».proof.Proof.Cell
public import proofs.«01_k».proof.Proof.Gen.ReferenceIdeal.Run
public import Idealize.ShloMosaic.Lib.IdealHost
public import Idealize.ShloMosaic.Lib.Pointwise.ShapeOpsCore

@[expose] public section

set_option maxRecDepth 16384

noncomputable section

namespace Cert.Proof.Net

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo
open scoped BigOperators

/-! ## The products -/

theorem dg64 (l : FVec Ideal S16x64 .f32) (r : FVec Ideal S64x1024 .f32) (y : S16x1024.Idx) :
    Host.dotGeneral (F := Ideal) dot_S16x64_S64x1024_S16x1024_1_0_0_1_n_n none l r y = ∑ k : Fin 64, l (ix2 (y 0) k) * r (ix2 k (y 1)) := by
  rw [eq_ix2 y]
  refine ((Ideal.dotGeneral_apply _ _ _ _ _ _).trans (Ideal.matmul_constant_zero_apply (DotDims.plain 16 64 1024) none l r _).symm).trans ?_
  refine (Ideal.matmul_plain_apply (M := 16) (K := 64) (N := 1024) none l r (constant S16x1024 .f32 0x00000000#32) (y 0) (y 1)).trans ?_
  rw [show (constant (F := Ideal) S16x1024 .f32 0x00000000#32) (ix2 (y 0) (y 1)) = 0 from Ideal.ofBits_zero_f32, zero_add]

theorem dg256 (l : FVec Ideal S16x256 .f32) (r : FVec Ideal S256x1024 .f32) (y : S16x1024.Idx) :
    Host.dotGeneral (F := Ideal) dot_S16x256_S256x1024_S16x1024_1_0_0_1_n_n none l r y = ∑ k : Fin 256, l (ix2 (y 0) k) * r (ix2 k (y 1)) := by
  rw [eq_ix2 y]
  refine ((Ideal.dotGeneral_apply _ _ _ _ _ _).trans (Ideal.matmul_constant_zero_apply (DotDims.plain 16 256 1024) none l r _).symm).trans ?_
  refine (Ideal.matmul_plain_apply (M := 16) (K := 256) (N := 1024) none l r (constant S16x1024 .f32 0x00000000#32) (y 0) (y 1)).trans ?_
  rw [show (constant (F := Ideal) S16x1024 .f32 0x00000000#32) (ix2 (y 0) (y 1)) = 0 from Ideal.ofBits_zero_f32, zero_add]

theorem dgV (l : FVec Ideal S800x256 .f32) (r : FVec Ideal S256x100000 .f32) (y : S800x100000.Idx) :
    Host.dotGeneral (F := Ideal) dot_S800x256_S256x100000_S800x100000_1_0_0_1_n_n none l r y = ∑ k : Fin 256, l (ix2 (y 0) k) * r (ix2 k (y 1)) := by
  rw [eq_ix2 y]
  refine ((Ideal.dotGeneral_apply _ _ _ _ _ _).trans (Ideal.matmul_constant_zero_apply (DotDims.plain 800 256 100000) none l r _).symm).trans ?_
  refine (Ideal.matmul_plain_apply (M := 800) (K := 256) (N := 100000) none l r (constant S800x100000 .f32 0x00000000#32) (y 0) (y 1)).trans ?_
  rw [show (constant (F := Ideal) S800x100000 .f32 0x00000000#32) (ix2 (y 0) (y 1)) = 0 from Ideal.ofBits_zero_f32, zero_add]

/-! ## Its gates' functions -/

/-- The logistic function as jax writes it on the host. -/
theorem hostSig (x : FVec Ideal S16x256 .f32) (y : S16x256.Idx) :
    Host.divf (broadcastInDim S16x256 ![] bcast_S_S16x256 (constant (F := Ideal) S_ .f32 0x3F800000#32)) (addf (broadcastInDim S16x256 ![] bcast_S_S16x256 (constant (F := Ideal) S_ .f32 0x3F800000#32)) (Host.exp (Host.negf x))) y
      = Ideal.logistic (x y) := by
  show Ideal.div (Ideal.ofBits .f32 0x3F800000#32) (Ideal.ofBits .f32 0x3F800000#32 + Ideal.exp (-(x y))) = _
  rw [Ideal.ofBits_one_f32]
  rfl

theorem hostSlice (g : S16x1024.Idx → EReal) (y : S16x256.Idx) (o : Fin 2 → ℕ) (p : Fin 4) (ho : o = ![0, 256 * p.val]) (hsl : S16x1024.Slices o S16x256) :
    extractStridedSlice S16x256 o g hsl y = g (ix2 (y 0) (gcol p (y 1))) := by
  subst ho
  refine congrArg g ?_
  funext a
  match a with
  | ⟨0, _⟩ => apply Fin.ext; show 0 + (y 0).val = (y 0).val; omega
  | ⟨1, _⟩ => rfl

/-- The cell state as jax writes it, of the gates. -/
theorem hostC (g : FVec Ideal S16x1024 .f32) (c : FVec Ideal S16x256 .f32) :
    addf (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 256] g slices_S16x1024_S16x256_0_256))))) c) (mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 0] g slices_S16x1024_S16x256_0_0))))) (Host.tanh (extractStridedSlice S16x256 ![0, 512] g slices_S16x1024_S16x256_0_512)))
      = nextC g c := by
  funext y
  refine congrArg₂ (fun a b : EReal => a + b) (congrArg (fun a : EReal => a * c y) ((hostSig _ y).trans (congrArg Ideal.logistic (hostSlice g y _ 1 rfl _))))
    (congrArg₂ (fun a b : EReal => a * b) ((hostSig _ y).trans (congrArg Ideal.logistic (hostSlice g y _ 0 rfl _))) (congrArg Ideal.tanh (hostSlice g y _ 2 rfl _)))

theorem hostH (g : FVec Ideal S16x1024 .f32) (c : FVec Ideal S16x256 .f32) :
    mulf (Host.divf (broadcastInDim S16x256 ![] bcast_S_S16x256 (constant S_ .f32 0x3F800000#32)) (addf (broadcastInDim S16x256 ![] bcast_S_S16x256 (constant S_ .f32 0x3F800000#32)) (Host.exp (Host.negf (extractStridedSlice S16x256 ![0, 768] g slices_S16x1024_S16x256_0_768))))) (Host.tanh (F := Ideal) (nextC g c))
      = nextH g c := by
  funext y
  exact congrArg (fun a : EReal => a * Ideal.tanh (nextC g c y)) ((hostSig _ y).trans (congrArg Ideal.logistic (hostSlice g y _ 3 rfl _)))

/-- A bias laid along the rows. -/
theorem hostBias (b : FVec Ideal S1024 .f32) (y : S16x1024.Idx) : broadcastInDim S16x1024 ![0, 1] bcast_S1x1024_S16x1024_0_1 (broadcastInDim S1x1024 ![1] bcast_S1024_S1x1024_1 b) y = b (ix1 (y 1)) := by
  refine congrArg b ?_
  funext a
  match a with
  | ⟨0, _⟩ => rfl

/-! ## The loop -/

/-- What the carried buffers hold after `k` trips. -/
structure At (N : Inp) (k : ℕ) (V : Valuation τ sig (Elt Ideal)) : Prop where
  x : ∀ (n : ℕ) (hn : n < 50) (r : Fin 16) (j : Fin 64), (V (Proc.devRef .tc main_v11_0) : S50x16x64.Idx → EReal) (ix3 ⟨n, hn⟩ r j) = N.x n r j
  Wi0 : ∀ j k, (V (Proc.devRef .tc main_v11_1) : S1024x64.Idx → EReal) (ix2 j k) = N.Wi0 j k
  Wh0 : ∀ j k, (V (Proc.devRef .tc main_v11_2) : S1024x256.Idx → EReal) (ix2 j k) = N.Wh0 j k
  bi0 : ∀ j, (V (Proc.devRef .tc main_v11_3) : S1024.Idx → EReal) (ix1 j) = N.bi0 j
  bh0 : ∀ j, (V (Proc.devRef .tc main_v11_4) : S1024.Idx → EReal) (ix1 j) = N.bh0 j
  Wi1 : ∀ j k, (V (Proc.devRef .tc main_v11_5) : S1024x256.Idx → EReal) (ix2 j k) = N.Wi1 j k
  Wh1 : ∀ j k, (V (Proc.devRef .tc main_v11_6) : S1024x256.Idx → EReal) (ix2 j k) = N.Wh1 j k
  bi1 : ∀ j, (V (Proc.devRef .tc main_v11_7) : S1024.Idx → EReal) (ix1 j) = N.bi1 j
  bh1 : ∀ j, (V (Proc.devRef .tc main_v11_8) : S1024.Idx → EReal) (ix1 j) = N.bh1 j
  ctr : (V (Proc.devRef .tc main_v11_9) : S_.Idx → BitVec 32) = fun _ => BitVec.ofNat 32 k
  h0 : (V (Proc.devRef .tc main_v11_10) : S16x256.Idx → EReal) = (N.st0 k).1
  c0 : (V (Proc.devRef .tc main_v11_11) : S16x256.Idx → EReal) = (N.st0 k).2
  h1 : (V (Proc.devRef .tc main_v11_12) : S16x256.Idx → EReal) = (N.st1 k).1
  c1 : (V (Proc.devRef .tc main_v11_13) : S16x256.Idx → EReal) = (N.st1 k).2
  ys : ∀ (n : ℕ) (hn : n < 50), n < k → ∀ (r : Fin 16) (j : Fin 256), (V (Proc.devRef .tc main_v11_14) : S50x16x256.Idx → EReal) (ix3 ⟨n, hn⟩ r j) = (N.st1 (n + 1)).1 (ix2 r j)

section Step

variable {N : Inp} {k : ℕ} {V : Valuation τ sig (Elt Ideal)} (H : At N k V) (hk : k < 50)
include H hk

theorem ctr_toInt : (BitVec.ofNat 32 k).toInt = k := by
  have hm : k % 2 ^ 32 = k := Nat.mod_eq_of_lt (by omega)
  rw [BitVec.toInt_eq_toNat_of_lt (by rw [BitVec.toNat_ofNat, hm]; omega), BitVec.toNat_ofNat, hm]

/-- Where a trip reads and writes: at row `k`. -/
theorem start0 {t : Shape} (ht : t.rank = 3) (hs : t.size ((0 : Fin 3).cast ht.symm) = 1) :
    Host.clampedStart S50x16x64 t ht (fun a => (((![V (Proc.devRef .tc main_v11_9), constantI S_ 32 0#32, constantI S_ 32 0#32] : Fin 3 → (⟨S_, .i32⟩ : BufTy).Contents (Elt Ideal))) a (Shape.Idx.first h_S_)).toInt) 0 = k := by
  refine Host.clampedStart_of_le ht _ _ k ?_ ?_
  · show ((V (Proc.devRef .tc main_v11_9) : S_.Idx → BitVec 32) _).toInt = _
    rw [H.ctr]
    exact ctr_toInt H hk
  · show k + t.size ((0 : Fin 3).cast ht.symm) ≤ 50
    omega

theorem g0_step : (res_main_while0b_v36 V : S16x1024.Idx → EReal) = N.gt0 k := by
  funext y
  unfold res_main_while0b_v36
  refine (congrArg₂ (fun a b : EReal => a + b) (congrArg₂ (fun a b : EReal => a + b) (congrArg₂ (fun a b : EReal => a + b) (dg64 _ _ y) (dg256 _ _ y)) (hostBias _ y)) (hostBias _ y)).trans ?_
  refine congrArg₂ (fun a b : EReal => a + b) (congrArg₂ (fun a b : EReal => a + b) (congrArg₂ (fun a b : EReal => a + b) (Finset.sum_congr rfl fun j _ => ?_) (Finset.sum_congr rfl fun j _ => ?_)) (H.bi0 (y 1))) (H.bh0 (y 1))
  · refine congrArg₂ (fun a b : EReal => a * b) ?_ ?_
    · refine (shapeCast_apply _ _ (ix2 (y 0) j) (ix3 (0 : Fin 1) (y 0 : Fin 16) j) ?_).trans ?_
      · rw [Shape.rowMajor_val_three, Shape.rowMajor_val_two]
        show (0 * 16 + (y 0).val) * 64 + j.val = (y 0).val * 64 + j.val
        omega
      · refine (Host.dynamicSlice_apply _ _ _ _).trans ?_
        refine Eq.trans (congrArg (V (Proc.devRef .tc main_v11_0) : S50x16x64.Idx → EReal) ?_) (H.x k hk (y 0) j)
        funext a
        match a with
        | ⟨0, _⟩ => exact Fin.ext (congrArg (fun z => z + 0) (start0 H hk (t := S1x16x64) rfl rfl))
        | ⟨1, _⟩ => apply Fin.ext; show 0 + (y 0).val = (y 0).val; omega
        | ⟨2, _⟩ => apply Fin.ext; show 0 + j.val = j.val; omega
    · exact (transpose_ix2_apply _ _ _ _).trans (H.Wi0 (y 1) j)
  · refine congrArg₂ (fun a b : EReal => a * b) (congrFun H.h0 _) ?_
    exact (transpose_ix2_apply _ _ _ _).trans (H.Wh0 (y 1) j)

theorem c0_step : (res_main_while0b_v62 V : S16x256.Idx → EReal) = (N.st0 (k + 1)).2 := by
  unfold res_main_while0b_v62
  refine (hostC _ _).trans ?_
  rw [Inp.st0_succ]
  exact congrArg₂ nextC (g0_step H hk) H.c0

theorem h0_step : (res_main_while0b_v64 V : S16x256.Idx → EReal) = (N.st0 (k + 1)).1 := by
  unfold res_main_while0b_v64
  rw [Inp.st0_succ]
  have e : res_main_while0b_v62 V = nextC (N.gt0 k) (N.st0 k).2 := by
    have := c0_step H hk
    rwa [Inp.st0_succ] at this
  rw [e, show res_main_while0b_v36 V = N.gt0 k from g0_step H hk]
  exact hostH _ _

theorem g1_step : (res_main_while0b_v75 V : S16x1024.Idx → EReal) = N.gt1 k := by
  funext y
  unfold res_main_while0b_v75
  refine (congrArg₂ (fun a b : EReal => a + b) (congrArg₂ (fun a b : EReal => a + b) (congrArg₂ (fun a b : EReal => a + b) (dg256 _ _ y) (dg256 _ _ y)) (hostBias _ y)) (hostBias _ y)).trans ?_
  refine congrArg₂ (fun a b : EReal => a + b) (congrArg₂ (fun a b : EReal => a + b) (congrArg₂ (fun a b : EReal => a + b) (Finset.sum_congr rfl fun j _ => ?_) (Finset.sum_congr rfl fun j _ => ?_)) (H.bi1 (y 1))) (H.bh1 (y 1))
  · refine congrArg₂ (fun a b : EReal => a * b) (congrFun (h0_step H hk) _) ?_
    exact (transpose_ix2_apply _ _ _ _).trans (H.Wi1 (y 1) j)
  · refine congrArg₂ (fun a b : EReal => a * b) (congrFun H.h1 _) ?_
    exact (transpose_ix2_apply _ _ _ _).trans (H.Wh1 (y 1) j)

theorem c1_step : (res_main_while0b_v101 V : S16x256.Idx → EReal) = (N.st1 (k + 1)).2 := by
  unfold res_main_while0b_v101
  refine (hostC _ _).trans ?_
  rw [Inp.st1_succ]
  exact congrArg₂ nextC (g1_step H hk) H.c1

theorem h1_step : (res_main_while0b_v103 V : S16x256.Idx → EReal) = (N.st1 (k + 1)).1 := by
  unfold res_main_while0b_v103
  rw [Inp.st1_succ]
  have e : res_main_while0b_v101 V = nextC (N.gt1 k) (N.st1 k).2 := by
    have := c1_step H hk
    rwa [Inp.st1_succ] at this
  rw [e, show res_main_while0b_v75 V = N.gt1 k from g1_step H hk]
  exact hostH _ _

/-- A trip writes its own row of the stored states and leaves the others. -/
theorem ys_step (n : ℕ) (hn : n < 50) (hnk : n < k + 1) (r : Fin 16) (j : Fin 256) : (step_main_v11_14 V : S50x16x256.Idx → EReal) (ix3 ⟨n, hn⟩ r j) = (N.st1 (n + 1)).1 (ix2 r j) := by
  have hst : Host.clampedStart S50x16x256 S1x16x256 rfl (fun a => (((![V (Proc.devRef .tc main_v11_9), constantI S_ 32 0#32, constantI S_ 32 0#32] : Fin 3 → (⟨S_, .i32⟩ : BufTy).Contents (Elt Ideal))) a (Shape.Idx.first h_S_)).toInt) 0 = k := start0 H hk (t := S1x16x256) rfl rfl
  show Host.dynamicUpdateSlice (V (Proc.devRef .tc main_v11_14) : S50x16x256.Idx → EReal) (broadcastInDim S1x16x256 ![1, 2] bcast_S16x256_S1x16x256_1_2 (res_main_while0b_v103 V : S16x256.Idx → EReal)) _ updateFits_S50x16x256_S1x16x256 (ix3 ⟨n, hn⟩ r j) = _
  refine (Host.dynamicUpdateSlice_apply _ _ _ _ _).trans ?_
  by_cases h : n = k
  · subst h
    rw [dif_pos]
    · rw [h1_step H hk]
      refine congrArg (N.st1 (n + 1)).1 ?_
      funext a
      match a with
      | ⟨0, _⟩ => apply Fin.ext; show r.val - 0 = r.val; omega
      | ⟨1, _⟩ => apply Fin.ext; show j.val - 0 = j.val; omega
    · intro a
      match a with
      | ⟨0, _⟩ => exact ⟨le_of_eq hst, lt_of_lt_of_eq (Nat.lt_succ_self n) (congrArg (fun z => z + 1) hst.symm)⟩
      | ⟨1, _⟩ => show 0 ≤ r.val ∧ r.val < 0 + 16; have := r.isLt; omega
      | ⟨2, _⟩ => show 0 ≤ j.val ∧ j.val < 0 + 256; have := j.isLt; omega
  · rw [dif_neg]
    · exact H.ys n hn (by omega) r j
    · intro hc
      have : k ≤ n := le_trans (le_of_eq hst.symm) (hc (0 : Fin 3)).1
      omega

theorem at_step : At N (k + 1) (STEP V) where
  x := by rw [STEP_main_v11_0]; exact H.x
  Wi0 := by rw [STEP_main_v11_1]; exact H.Wi0
  Wh0 := by rw [STEP_main_v11_2]; exact H.Wh0
  bi0 := by rw [STEP_main_v11_3]; exact H.bi0
  bh0 := by rw [STEP_main_v11_4]; exact H.bh0
  Wi1 := by rw [STEP_main_v11_5]; exact H.Wi1
  Wh1 := by rw [STEP_main_v11_6]; exact H.Wh1
  bi1 := by rw [STEP_main_v11_7]; exact H.bi1
  bh1 := by rw [STEP_main_v11_8]; exact H.bh1
  ctr := by
    rw [STEP_main_v11_9]
    funext z
    show addi (V (Proc.devRef .tc main_v11_9) : S_.Idx → BitVec 32) (constantI S_ 32 1#32) z = _
    rw [H.ctr]
    show BitVec.ofNat 32 k + 1#32 = BitVec.ofNat 32 (k + 1)
    exact (BitVec.ofNat_add k 1).symm
  h0 := by rw [STEP_main_v11_10]; exact h0_step H hk
  c0 := by rw [STEP_main_v11_11]; exact c0_step H hk
  h1 := by rw [STEP_main_v11_12]; exact h1_step H hk
  c1 := by rw [STEP_main_v11_13]; exact c1_step H hk
  ys := by rw [STEP_main_v11_14]; exact fun n hn hnk r j => ys_step H hk n hn hnk r j

end Step

theorem at_iter {N : Inp} {V : Valuation τ sig (Elt Ideal)} (H : At N 0 V) : ∀ k, k ≤ 50 → At N k (STEP^[k] V)
  | 0, _ => H
  | k + 1, hk => by
    rw [Function.iterate_succ_apply']
    exact at_step (at_iter H k (by omega)) (by omega)

/-! ## The results -/

section Out

variable {N : Inp} {V : Valuation τ sig (Elt Ideal)} (H : At N 50 V)
include H

theorem out0 (y : S800x100000.Idx) : (out_main_v18 V : S800x100000.Idx → EReal) y
    = scores N (V (Proc.devRef .tc main_arg12)) (V (Proc.devRef .tc main_arg13)) (y 0) (y 1) := by
  unfold out_main_v18
  refine (congrArg₂ (fun a b : EReal => a + b) (dgV _ _ y) rfl).trans ?_
  refine congrArg₂ (fun a b : EReal => a + b) (Finset.sum_congr rfl fun k _ => congrArg₂ (fun a b : EReal => a * b) ?_ ?_) ?_
  · refine (shapeCast_apply _ _ (ix2 (y 0) k) (ix3 (⟨(y 0).val / 50, by have h : (y 0).val < 800 := (y 0).isLt; omega⟩ : Fin 16) (⟨(y 0).val % 50, Nat.mod_lt _ (by omega)⟩ : Fin 50) k) ?_).trans ?_
    · rw [Shape.rowMajor_val_three, Shape.rowMajor_val_two]
      show ((y 0).val / 50 * 50 + (y 0).val % 50) * 256 + k.val = (y 0).val * 256 + k.val
      omega
    · refine (transpose_apply _ _ _ _ (ix3 (⟨(y 0).val % 50, Nat.mod_lt _ (by omega)⟩ : Fin 50) (⟨(y 0).val / 50, by have h : (y 0).val < 800 := (y 0).isLt; omega⟩ : Fin 16) k) (fun a => ?_)).trans ?_
      · match a with
        | ⟨0, _⟩ => rfl
        | ⟨1, _⟩ => rfl
        | ⟨2, _⟩ => rfl
      · exact H.ys _ _ (Nat.mod_lt _ (by omega)) _ _
  · exact transpose_ix2_apply _ _ _ _
  · exact congrArg (V (Proc.devRef .tc main_arg13) : S100000.Idx → EReal) (funext fun a => match a with | ⟨0, _⟩ => rfl)

theorem pair_apply (a b : S16x256.Idx → EReal) (y : S2x16x256.Idx) :
    concatenate S2x16x256 0 [⟨S1x16x256, broadcastInDim S1x16x256 ![1, 2] bcast_S16x256_S1x16x256_1_2 a⟩, ⟨S1x16x256, broadcastInDim S1x16x256 ![1, 2] bcast_S16x256_S1x16x256_1_2 b⟩] concatenates_S1x16x256_S1x16x256_S2x16x256_d0 y
      = if (y 0).val = 0 then a (ix2 (y 1) (y 2)) else b (ix2 (y 1) (y 2)) := by
  by_cases h : (y 0).val = 0
  · rw [if_pos h]
    refine (concatenate_pair_apply_left (s₁ := S1x16x256) (s₂ := S1x16x256) (0 : Fin S2x16x256.rank) _ _ _ y rfl (ix3 (0 : Fin 1) (y 1 : Fin 16) (y 2 : Fin 256)) (fun b => by
      match b with
      | ⟨0, _⟩ => exact h.symm
      | ⟨1, _⟩ => rfl
      | ⟨2, _⟩ => rfl)).trans ?_
    exact congrArg a (funext fun a => match a with | ⟨0, _⟩ => rfl | ⟨1, _⟩ => rfl)
  · rw [if_neg h]
    have h2 : (y 0).val < 2 := (y 0).isLt
    refine (concatenate_pair_apply_right (s₁ := S1x16x256) (s₂ := S1x16x256) (0 : Fin S2x16x256.rank) _ _ _ y rfl rfl (ix3 (0 : Fin 1) (y 1 : Fin 16) (y 2 : Fin 256)) (fun b hb => by
      match b with
      | ⟨0, _⟩ => exact absurd rfl hb
      | ⟨1, _⟩ => rfl
      | ⟨2, _⟩ => rfl) (by show 0 + 1 = (y 0).val; omega)).trans ?_
    exact congrArg b (funext fun a => match a with | ⟨0, _⟩ => rfl | ⟨1, _⟩ => rfl)

theorem out1 (y : S2x16x256.Idx) : (out_main_v21 V : S2x16x256.Idx → EReal) y = finalH N y := by
  unfold out_main_v21
  refine (pair_apply H _ _ y).trans ?_
  rw [H.h0, H.h1]
  rfl

theorem out2 (y : S2x16x256.Idx) : (out_main_v24 V : S2x16x256.Idx → EReal) y = finalC N y := by
  unfold out_main_v24
  refine (pair_apply H _ _ y).trans ?_
  rw [H.c0, H.c1]
  rfl

end Out

end Cert.Proof.Net

end
-- ==== Proof.REntry.lean ====
/-
  What the reference's loop starts from: the tokens' rows of the table, the weights, and the given states.
-/
module

public import proofs.«01_k».proof.Proof.RVal
public import Idealize.ShloMosaic.Lib.WordCmp
public import Idealize.ShloMosaic.Lib.ReduceAll
public import Idealize.ShloMosaic.Lib.StableHlo.RunClose
public import Idealize.ShloMosaic.Lib.StableHlo.RunRead

@[expose] public section

set_option maxRecDepth 16384

noncomputable section

namespace Cert.Proof.Net

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo Idealize.ShloMosaic.TcCoe Idealize.SL.Sem
open scoped BigOperators

/-! ## Taking rows of the table -/

/-- A gather of whole rows, at `(r, n, k)`: entry `k` of the row the token names. -/
theorem gather_rows {α : Type} (x : S100000x64.Idx → α) (idx : IVec S16x50x1 32) (r : Fin 16) (n : Fin 50) (k : Fin 64)
    (h : (idx (ix3 r n (0 : Fin 1))).toNat < 100000) :
    Host.gather gather_S100000x64_S16x50x1_S16x50x64_2_0_n_n_0_2_164 x idx (ix3 r n k) = x (ix2 (tokRow (idx (ix3 r n (0 : Fin 1)))) k) := by
  unfold Host.gather
  refine congrArg x (funext fun a => Fin.ext ?_)
  have hsi : ∀ hm, gather_S100000x64_S16x50x1_S16x50x64_2_0_n_n_0_2_164.siIdx (ix3 r n k) ⟨List.idxOf (0 : Fin 2) [0], hm⟩ = ix3 r n (0 : Fin 1) := fun hm => by
    funext b
    refine Fin.ext ?_
    match b with
    | ⟨0, _⟩ => rfl
    | ⟨1, _⟩ => rfl
    | ⟨2, _⟩ => rfl
  match a with
  | ⟨0, _⟩ =>
    show GatherDims.start _ (ix3 r n k) idx 0 + GatherDims.batchCoord _ (ix3 r n k) 0 + GatherDims.offCoord _ (ix3 r n k) 0 = (tokRow _).val
    rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S16x50x1_S16x50x64_2_0_n_n_0_2_164.startIndexMap from List.mem_singleton.mpr rfl)]
    refine (congrArg (fun z => min (idx z).toInt.toNat 99999) (hsi _)).trans ?_
    rw [tokRow_val h, BitVec.toInt_eq_toNat_of_lt (by omega)]
    omega
  | ⟨1, _⟩ =>
    show GatherDims.start _ (ix3 r n k) idx 1 + GatherDims.batchCoord _ (ix3 r n k) 1 + GatherDims.offCoord _ (ix3 r n k) 1 = k.val
    rw [GatherDims.batchCoord_eq_zero _ _ _ (fun h => by cases h)]
    unfold GatherDims.start
    rw [dif_neg (show (1 : Fin 2) ∉ gather_S100000x64_S16x50x1_S16x50x64_2_0_n_n_0_2_164.startIndexMap from by decide)]
    unfold GatherDims.offCoord
    rw [dif_pos (show (1 : Fin 2) ∈ gather_S100000x64_S16x50x1_S16x50x64_2_0_n_n_0_2_164.sKept from by decide)]
    simp only [Nat.zero_add, Nat.add_zero]
    rfl

/-- The token list with the negative ones moved up, as the table is asked for it. -/
def wrapped (tok : S16x50.Idx → BitVec 32) : S16x50x1.Idx → BitVec 32 :=
  broadcastInDim S16x50x1 ![0, 1] bcast_S16x50_S16x50x1_0_1
    (select (cmpi .slt tok (broadcastInDim S16x50 ![] bcast_S_S16x50 (constantI S_ 32 0#32)))
      (addi tok (broadcastInDim S16x50 ![] bcast_S_S16x50 (constantI S_ 32 100000#32))) tok)

theorem wrapped_apply (tok : S16x50.Idx → BitVec 32) (htok : ∀ j, (tok j).toNat < 100000) (y : S16x50x1.Idx) :
    wrapped tok y = tok (ix2 (y 0) (y 1)) := by
  have e : wrapped tok y = Scalar.select (IntOp.cmpi .slt (tok (ix2 (y 0) (y 1))) 0#32) (IntOp.addi (tok (ix2 (y 0) (y 1))) 100000#32) (tok (ix2 (y 0) (y 1))) := by
    unfold wrapped
    refine Eq.trans (congrArg (select (cmpi .slt tok (broadcastInDim S16x50 ![] bcast_S_S16x50 (constantI S_ 32 0#32)))
      (addi tok (broadcastInDim S16x50 ![] bcast_S_S16x50 (constantI S_ 32 100000#32))) tok) (?_ : _ = ix2 (y 0 : Fin 16) (y 1 : Fin 50))) rfl
    funext a
    match a with
    | ⟨0, _⟩ => rfl
    | ⟨1, _⟩ => rfl
  have h := htok (ix2 (y 0) (y 1))
  rw [e, WordCmp.cmpi_slt_of_lt (by omega) (by decide)]
  rw [show (decide ((tok (ix2 (y 0) (y 1))).toNat < (0#32).toNat)) = false from decide_eq_false (by simp)]
  rfl

/-- Which tokens are in range. -/
def inMask (tok : S16x50.Idx → BitVec 32) : S16x50.Idx → BitVec 1 :=
  Host.reduce IntOp.andi (andi (cmpi .sge (wrapped tok) (broadcastInDim S16x50x1 ![] bcast_S_S16x50x1 (constantI S_ 32 0#32)))
    (cmpi .sle (wrapped tok) (broadcastInDim S16x50x1 ![0, 1, 2] bcast_S1x1x1_S16x50x1_0_1_2 (broadcastInDim S1x1x1 ![2] bcast_S1_S1x1x1_2 (constantI S1 32 99999#32)))))
    (constantI S_ 1 1#1) reducesTo_S16x50x1_S16x50_d2 h_S_

theorem inMask_apply (tok : S16x50.Idx → BitVec 32) (htok : ∀ j, (tok j).toNat < 100000) (j : S16x50.Idx) : inMask tok j = 1#1 := by
  unfold inMask
  refine Host.reduce_andi_one _ _ _ _ j rfl fun i => ?_
  have h := htok (ix2 (i 0) (i 1))
  show IntOp.andi (IntOp.cmpi .sge (wrapped tok i) 0#32) (IntOp.cmpi .sle (wrapped tok i) 99999#32) = 1#1
  rw [wrapped_apply tok htok]
  refine IntOp.andi_eq_one.2 ⟨?_, ?_⟩
  · refine IntOp.cmpi_sge.2 ?_
    rw [BitVec.toInt_eq_toNat_of_lt (x := tok (ix2 (i 0) (i 1))) (by omega)]
    exact Int.natCast_nonneg _
  · rw [WordCmp.cmpi_sle_of_lt (by omega) (by decide)]
    rw [show (decide ((tok (ix2 (i 0) (i 1))).toNat ≤ (99999#32).toNat)) = true from decide_eq_true (by show _ ≤ 99999; omega)]
    rfl

variable (m : (ℓ : Loc nD τ sig) → Buf (Elt Ideal) ℓ) (d : Dev nD)

/-- What the loop starts from. -/
abbrev EV : Valuation τ sig (Elt Ideal) := entryContents preI m d

/-- An argument's contents. -/
abbrev marg (r : Ref sig .tc) : Buf (Elt Ideal) (((d.tc : Thread nD τ).loc r)) := m ((d.tc : Thread nD τ).loc r)

theorem ev_x : (EV m d (Proc.devRef .tc main_v11_0) : S50x16x64.Idx → EReal)
    = transpose S50x16x64 [1, 0, 2]
      (select (broadcastInDim S16x50x64 ![0, 1] bcast_S16x50_S16x50x64_0_1 (inMask (marg m d main_arg0)))
        (Host.gather gather_S100000x64_S16x50x1_S16x50x64_2_0_n_n_0_2_164 (marg m d main_arg3) (wrapped (marg m d main_arg0)))
        (broadcastInDim S16x50x64 ![] bcast_S_S16x50x64 (constant (F := Ideal) S_ .f32 0x7FC00000#32))) transposes_S16x50x64_S50x16x64_1_0_2 := by
  unfold EV
  simp only [entryContents, afterL_cons, afterL_nil]
  after_results_entrywise []

theorem ev_v1 : EV m d (Proc.devRef .tc main_v11_1) = marg m d main_arg4 := by
  unfold EV
  simp only [entryContents, afterL_cons, afterL_nil]
  after_results_entrywise []

theorem ev_v2 : EV m d (Proc.devRef .tc main_v11_2) = marg m d main_arg5 := by
  unfold EV
  simp only [entryContents, afterL_cons, afterL_nil]
  after_results_entrywise []

theorem ev_v3 : EV m d (Proc.devRef .tc main_v11_3) = marg m d main_arg6 := by
  unfold EV
  simp only [entryContents, afterL_cons, afterL_nil]
  after_results_entrywise []

theorem ev_v4 : EV m d (Proc.devRef .tc main_v11_4) = marg m d main_arg7 := by
  unfold EV
  simp only [entryContents, afterL_cons, afterL_nil]
  after_results_entrywise []

theorem ev_v5 : EV m d (Proc.devRef .tc main_v11_5) = marg m d main_arg8 := by
  unfold EV
  simp only [entryContents, afterL_cons, afterL_nil]
  after_results_entrywise []

theorem ev_v6 : EV m d (Proc.devRef .tc main_v11_6) = marg m d main_arg9 := by
  unfold EV
  simp only [entryContents, afterL_cons, afterL_nil]
  after_results_entrywise []

theorem ev_v7 : EV m d (Proc.devRef .tc main_v11_7) = marg m d main_arg10 := by
  unfold EV
  simp only [entryContents, afterL_cons, afterL_nil]
  after_results_entrywise []

theorem ev_v8 : EV m d (Proc.devRef .tc main_v11_8) = marg m d main_arg11 := by
  unfold EV
  simp only [entryContents, afterL_cons, afterL_nil]
  after_results_entrywise []

theorem ev_v10 : (EV m d (Proc.devRef .tc main_v11_10) : S16x256.Idx → EReal) = shapeCast S16x256 (extractStridedSlice S1x16x256 ![0, 0, 0] (marg m d main_arg1 : S2x16x256.Idx → EReal) slices_S2x16x256_S1x16x256_0_0_0) shapeCasts_S1x16x256_S16x256 := by
  unfold EV
  simp only [entryContents, afterL_cons, afterL_nil]
  after_results_entrywise []

theorem ev_v11 : (EV m d (Proc.devRef .tc main_v11_11) : S16x256.Idx → EReal) = shapeCast S16x256 (extractStridedSlice S1x16x256 ![0, 0, 0] (marg m d main_arg2 : S2x16x256.Idx → EReal) slices_S2x16x256_S1x16x256_0_0_0) shapeCasts_S1x16x256_S16x256 := by
  unfold EV
  simp only [entryContents, afterL_cons, afterL_nil]
  after_results_entrywise []

theorem ev_v12 : (EV m d (Proc.devRef .tc main_v11_12) : S16x256.Idx → EReal) = shapeCast S16x256 (extractStridedSlice S1x16x256 ![1, 0, 0] (marg m d main_arg1 : S2x16x256.Idx → EReal) slices_S2x16x256_S1x16x256_1_0_0) shapeCasts_S1x16x256_S16x256 := by
  unfold EV
  simp only [entryContents, afterL_cons, afterL_nil]
  after_results_entrywise []

theorem ev_v13 : (EV m d (Proc.devRef .tc main_v11_13) : S16x256.Idx → EReal) = shapeCast S16x256 (extractStridedSlice S1x16x256 ![1, 0, 0] (marg m d main_arg2 : S2x16x256.Idx → EReal) slices_S2x16x256_S1x16x256_1_0_0) shapeCasts_S1x16x256_S16x256 := by
  unfold EV
  simp only [entryContents, afterL_cons, afterL_nil]
  after_results_entrywise []

/-- A layer's half of the given states. -/
theorem half_apply (x : S2x16x256.Idx → EReal) (o : ℕ) (ho : o < 2) (hs : S2x16x256.Slices ![o, 0, 0] S1x16x256) (y : S16x256.Idx) :
    shapeCast S16x256 (extractStridedSlice S1x16x256 ![o, 0, 0] x hs) shapeCasts_S1x16x256_S16x256 y = x (ix3 (⟨o, ho⟩ : Fin 2) (y 0) (y 1)) := by
  refine (shapeCast_apply _ _ y (ix3 (0 : Fin 1) (y 0 : Fin 16) (y 1 : Fin 256)) ?_).trans ?_
  · rw [Shape.rowMajor_val_three, Shape.rowMajor_val_two]
    show (0 * 16 + (y 0).val) * 256 + (y 1).val = (y 0).val * 256 + (y 1).val
    omega
  · refine congrArg x (funext fun a => Fin.ext ?_)
    match a with
    | ⟨0, _⟩ => show o + 0 = o; omega
    | ⟨1, _⟩ => show 0 + (y 0).val = (y 0).val; omega
    | ⟨2, _⟩ => show 0 + (y 1).val = (y 1).val; omega

/-- The reference's arguments as the two layers' input. -/
def refInp : Inp :=
  mkInp (marg m d main_arg0) (marg m d main_arg1) (marg m d main_arg2) (marg m d main_arg3) (marg m d main_arg4) (marg m d main_arg5)
    (marg m d main_arg6) (marg m d main_arg7) (marg m d main_arg8) (marg m d main_arg9) (marg m d main_arg10) (marg m d main_arg11)

/-- The loop starts at the recurrence's start. -/
theorem at_entry (htok : ∀ j, ((marg m d main_arg0 : S16x50.Idx → BitVec 32) j).toNat < 100000) : At (refInp m d) 0 (EV m d) where
  x n hn r k := by
    rw [ev_x]
    refine (transpose_apply _ _ _ _ (ix3 r (⟨n, hn⟩ : Fin 50) k) (fun a => ?_)).trans ?_
    · match a with
      | ⟨0, _⟩ => rfl
      | ⟨1, _⟩ => rfl
      | ⟨2, _⟩ => rfl
    · refine Eq.trans (b := Scalar.select 1#1 ((marg m d main_arg3 : S100000x64.Idx → EReal) (ix2 (tokRow ((marg m d main_arg0 : S16x50.Idx → BitVec 32) (ix2 r (⟨n, hn⟩ : Fin 50)))) k)) (FloatOps.ofBits (F := Ideal) .f32 0x7FC00000#32)) ?_ ?_
      · refine (select_apply _ _ _ _).trans ?_
        refine congr (congrArg₂ Scalar.select (inMask_apply _ htok _) ?_) rfl
        refine (gather_rows _ _ r ⟨n, hn⟩ k ?_).trans ?_
        · rw [wrapped_apply _ htok]; exact htok _
        · rw [wrapped_apply _ htok]
      · show (marg m d main_arg3 : S100000x64.Idx → EReal) (ix2 (tokRow ((marg m d main_arg0 : S16x50.Idx → BitVec 32) (ix2 r (⟨n, hn⟩ : Fin 50)))) k)
          = (marg m d main_arg3 : S100000x64.Idx → EReal) (ix2 (tokRow ((marg m d main_arg0 : S16x50.Idx → BitVec 32) (ix2 r (⟨n % 50, Nat.mod_lt _ (by omega)⟩ : Fin 50)))) k)
        have e : (⟨n % 50, Nat.mod_lt _ (by omega)⟩ : Fin 50) = ⟨n, hn⟩ := Fin.ext (Nat.mod_eq_of_lt hn)
        rw [e]
  Wi0 j k := by rw [ev_v1]; rfl
  Wh0 j k := by rw [ev_v2]; rfl
  bi0 j := by rw [ev_v3]; rfl
  bh0 j := by rw [ev_v4]; rfl
  Wi1 j k := by rw [ev_v5]; rfl
  Wh1 j k := by rw [ev_v6]; rfl
  bi1 j := by rw [ev_v7]; rfl
  bh1 j := by rw [ev_v8]; rfl
  ctr := ctr_entry m d
  h0 := by rw [ev_v10]; exact funext fun y => half_apply _ 0 (by omega) _ y
  c0 := by rw [ev_v11]; exact funext fun y => half_apply _ 0 (by omega) _ y
  h1 := by rw [ev_v12]; exact funext fun y => half_apply _ 1 (by omega) _ y
  c1 := by rw [ev_v13]; exact funext fun y => half_apply _ 1 (by omega) _ y
  ys n hn h := absurd h (by omega)

/-- THE REFERENCE: its three results are the recurrence's scores and final states. -/
theorem ref_vals (htok : ∀ j, ((marg m d main_arg0 : S16x50.Idx → BitVec 32) j).toNat < 100000) :
    ((out_main_v18 (STEP^[50] (EV m d)) : S800x100000.Idx → EReal) = fun y => scores (refInp m d) (marg m d main_arg12) (marg m d main_arg13) (y 0) (y 1))
      ∧ (out_main_v21 (STEP^[50] (EV m d)) : S2x16x256.Idx → EReal) = finalH (refInp m d)
      ∧ (out_main_v24 (STEP^[50] (EV m d)) : S2x16x256.Idx → EReal) = finalC (refInp m d) := by
  have H := at_iter (at_entry m d htok) 50 le_rfl
  refine ⟨funext fun y => ?_, funext fun y => out1 H y, funext fun y => out2 H y⟩
  refine (out0 H y).trans ?_
  rw [iter_main_arg12, iter_main_arg13]

end Cert.Proof.Net

end
-- ==== Proof.KVal.lean ====
/-
  The recurrent kernel's values over the extended reals are the two layers' recurrence.
-/
module

public import proofs.«01_k».proof.Proof.Cell
public import proofs.«01_k».proof.Proof.Lstm

@[expose] public section

set_option maxRecDepth 16384

noncomputable section

namespace Cert.Proof.Net

open Cert.KernelIdeal Cert.KernelIdeal.Gen
open Cert.Proof.Run
open Idealize.ShloMosaic Idealize.ShloMosaic.ValueIdx
open scoped BigOperators

/-! ## The products -/

theorem mm16 (l : FVec Ideal S16x256 .bf16) (r : FVec Ideal S256x1024 .bf16) (y : S16x1024.Idx) :
    matmul (F := Ideal) dot_S16x256_S256x1024_S16x1024_1_0_0_1_n_n none l r (constant S16x1024 .f32 0x00000000#32) y = ∑ k : Fin 256, l (ix2 (y 0) k) * r (ix2 k (y 1)) := by
  rw [eq_ix2 y]
  refine (Ideal.matmul_plain_apply (M := 16) (K := 256) (N := 1024) none l r (constant S16x1024 .f32 0x00000000#32) (y 0) (y 1)).trans ?_
  rw [show (constant (F := Ideal) S16x1024 .f32 0x00000000#32) (ix2 (y 0) (y 1)) = 0 from Ideal.ofBits_zero_f32, zero_add]

theorem mm64 (l : FVec Ideal S800x64 .bf16) (r : FVec Ideal S64x1024 .bf16) (y : S800x1024.Idx) :
    matmul (F := Ideal) dot_S800x64_S64x1024_S800x1024_1_0_0_1_n_n none l r (constant S800x1024 .f32 0x00000000#32) y = ∑ k : Fin 64, l (ix2 (y 0) k) * r (ix2 k (y 1)) := by
  rw [eq_ix2 y]
  refine (Ideal.matmul_plain_apply (M := 800) (K := 64) (N := 1024) none l r (constant S800x1024 .f32 0x00000000#32) (y 0) (y 1)).trans ?_
  rw [show (constant (F := Ideal) S800x1024 .f32 0x00000000#32) (ix2 (y 0) (y 1)) = 0 from Ideal.ofBits_zero_f32, zero_add]

theorem mm256 (l : FVec Ideal S800x256 .bf16) (r : FVec Ideal S256x1024 .bf16) (y : S800x1024.Idx) :
    matmul (F := Ideal) dot_S800x256_S256x1024_S800x1024_1_0_0_1_n_n none l r (constant S800x1024 .f32 0x00000000#32) y = ∑ k : Fin 256, l (ix2 (y 0) k) * r (ix2 k (y 1)) := by
  rw [eq_ix2 y]
  refine (Ideal.matmul_plain_apply (M := 800) (K := 256) (N := 1024) none l r (constant S800x1024 .f32 0x00000000#32) (y 0) (y 1)).trans ?_
  rw [show (constant (F := Ideal) S800x1024 .f32 0x00000000#32) (ix2 (y 0) (y 1)) = 0 from Ideal.ofBits_zero_f32, zero_add]

/-- The projection's product: row by row of the weights. -/
theorem mmV (l : FVec Ideal S800x256 .f32) (r : FVec Ideal S4096x256 .f32) (y : S800x4096.Idx) :
    matmul (F := Ideal) dot_S800x256_S4096x256_S800x4096_1_1_0_0_n_n none l r (constant S800x4096 .f32 0x00000000#32) y = ∑ k : Fin 256, l (ix2 (y 0) k) * r (ix2 (y 1) k) := by
  rw [eq_ix2 y]
  refine (Ideal.matmul_transposedRhs_apply (M := 800) (K := 256) (N := 4096) none l r (constant S800x4096 .f32 0x00000000#32) (y 0) (y 1)).trans ?_
  rw [show (constant (F := Ideal) S800x4096 .f32 0x00000000#32) (ix2 (y 0) (y 1)) = 0 from Ideal.ofBits_zero_f32, zero_add]

/-- Adding the two products of the low parts, which are zero, changes nothing. -/
theorem three_sums {K : ℕ} (x xl w wl : Fin K → EReal) (hx : ∀ k, xl k = 0) (hw : ∀ k, wl k = 0) :
    (∑ k, x k * w k) + (∑ k, x k * wl k) + (∑ k, xl k * w k) = ∑ k, x k * w k := by
  rw [Finset.sum_eq_zero (f := fun k => x k * wl k) fun k _ => by rw [hw k, mul_zero], Finset.sum_eq_zero (f := fun k => xl k * w k) fun k _ => by rw [hx k, zero_mul], add_zero, add_zero]

/-! ## The step -/

theorem pay8_apply (h : Cn Ideal S16x256 .f32) (hw lw : Cn Ideal S256x1024 .bf16) (G : Cn Ideal S16x1024 .f32) (hh : ∀ y, FinE (h y)) (hl : ∀ y, lw y = (0 : EReal)) (y : S16x1024.Idx) :
    k1_pay8 h hw lw G y = (G y : EReal) + ∑ k : Fin 256, (h (ix2 (y 0) k) : EReal) * hw (ix2 k (y 1)) := by
  unfold k1_pay8
  simp only [shapeCast_self]
  refine congrArg (fun z : EReal => (G y : EReal) + z) ?_
  refine (congrArg₂ (fun a b : EReal => a + b) (congrArg₂ (fun a b : EReal => a + b) (mm16 _ _ y) (mm16 _ _ y)) (mm16 _ _ y)).trans ?_
  exact three_sums (fun k => h (ix2 (y 0) k)) (fun k => h (ix2 (y 0) k) - h (ix2 (y 0) k)) (fun k => hw (ix2 k (y 1))) (fun k => lw (ix2 k (y 1)))
    (fun k => (hh _).sub_self) (fun k => hl _)

theorem pay9_eq (h c : Cn Ideal S16x256 .f32) (hw lw : Cn Ideal S256x1024 .bf16) (G : Cn Ideal S16x1024 .f32) : k1_pay9 h c hw lw G = nextC (k1_pay8 h hw lw G) c := by
  unfold k1_pay9
  generalize k1_pay8 h hw lw G = g
  funext y
  have hs : ∀ (o : Fin 2 → ℕ) (p : Fin 4) (ho : o = ![0, 256 * p.val]) (hsl : S16x1024.Slices o S16x256), extractStridedSlice S16x256 o g hsl y = g (ix2 (y 0) (gcol p (y 1))) := by
    intro o p ho hsl
    subst ho
    refine congrArg g ?_
    funext a
    match a with
    | ⟨0, _⟩ => apply Fin.ext; show 0 + (y 0).val = (y 0).val; omega
    | ⟨1, _⟩ => rfl
  have e1 := hs ![0, 256] 1 rfl slices_S16x1024_o0_256_S16x256
  have e0 := hs ![0, 0] 0 rfl slices_S16x1024_o0_0_S16x256
  have e2 := hs ![0, 512] 2 rfl slices_S16x1024_o0_512_S16x256
  show (Ideal.logistic (extractStridedSlice S16x256 ![0, 256] g slices_S16x1024_o0_256_S16x256 y) : EReal) * c y
    + Ideal.logistic (extractStridedSlice S16x256 ![0, 0] g slices_S16x1024_o0_0_S16x256 y) * Ideal.tanh (extractStridedSlice S16x256 ![0, 512] g slices_S16x1024_o0_512_S16x256 y) = _
  rw [e1, e0, e2]
  rfl

theorem pay10_eq (h c : Cn Ideal S16x256 .f32) (hw lw : Cn Ideal S256x1024 .bf16) (G : Cn Ideal S16x1024 .f32) : k1_pay10 h c hw lw G = nextH (k1_pay8 h hw lw G) c := by
  unfold k1_pay10
  rw [pay9_eq]
  generalize k1_pay8 h hw lw G = g
  funext y
  have e3 : extractStridedSlice S16x256 ![0, 768] g slices_S16x1024_o0_768_S16x256 y = g (ix2 (y 0) (gcol 3 (y 1))) := by
    refine congrArg g ?_
    funext a
    match a with
    | ⟨0, _⟩ => apply Fin.ext; show 0 + (y 0).val = (y 0).val; omega
    | ⟨1, _⟩ => rfl
  show (Ideal.logistic (extractStridedSlice S16x256 ![0, 768] g slices_S16x1024_o0_768_S16x256 y) : EReal) * Ideal.tanh (nextC g c y) = _
  rw [e3]
  rfl

/-- One step, its gates those of `g`. -/
theorem cellStep_eq (hw lw : Cn Ideal S256x1024 .bf16) (G : Cn Ideal S800x1024 .f32) (n : ℕ) (s : Cn Ideal S16x256 .f32 × Cn Ideal S16x256 .f32) (g : S16x1024.Idx → EReal)
    (hg : k1_pay8 s.1 hw lw (rowOf n G) = g) : cellStep hw lw G n s = (nextH g s.2, nextC g s.2) := by
  unfold cellStep
  rw [pay9_eq, pay10_eq, hg]

/-! ## The gates' inputs of all the rows -/

theorem pay7_apply (e : Cn Ideal S800x64 .f32) (wh wl : Cn Ideal S64x1024 .bf16) (b : Cn Ideal S1x1024 .f32) (he : ∀ y, FinE (e y)) (hl : ∀ y, wl y = (0 : EReal)) (y : S800x1024.Idx) :
    k1_pay7 e wh wl b y = (∑ k : Fin 64, (e (ix2 (y 0) k) : EReal) * wh (ix2 k (y 1))) + b (ix2 0 (y 1)) := by
  unfold k1_pay7
  simp only [shapeCast_self]
  refine congrArg₂ (fun a b : EReal => a + b) ?_ ?_
  · refine (congrArg₂ (fun a b : EReal => a + b) (congrArg₂ (fun a b : EReal => a + b) (mm64 _ _ y) (mm64 _ _ y)) (mm64 _ _ y)).trans ?_
    exact three_sums (fun k => e (ix2 (y 0) k)) (fun k => e (ix2 (y 0) k) - e (ix2 (y 0) k)) (fun k => wh (ix2 k (y 1))) (fun k => wl (ix2 k (y 1)))
      (fun k => (he _).sub_self) (fun k => hl _)
  · refine congrArg b ?_
    funext a
    match a with
    | ⟨0, _⟩ => rfl
    | ⟨1, _⟩ => rfl

theorem pay16_apply (e : Cn Ideal S800x256 .f32) (wh wl : Cn Ideal S256x1024 .bf16) (b : Cn Ideal S1x1024 .f32) (he : ∀ y, FinE (e y)) (hl : ∀ y, wl y = (0 : EReal)) (y : S800x1024.Idx) :
    k1_pay16 e wh wl b y = (∑ k : Fin 256, (e (ix2 (y 0) k) : EReal) * wh (ix2 k (y 1))) + b (ix2 0 (y 1)) := by
  unfold k1_pay16
  simp only [shapeCast_self]
  refine congrArg₂ (fun a b : EReal => a + b) ?_ ?_
  · refine (congrArg₂ (fun a b : EReal => a + b) (congrArg₂ (fun a b : EReal => a + b) (mm256 _ _ y) (mm256 _ _ y)) (mm256 _ _ y)).trans ?_
    exact three_sums (fun k => e (ix2 (y 0) k)) (fun k => e (ix2 (y 0) k) - e (ix2 (y 0) k)) (fun k => wh (ix2 k (y 1))) (fun k => wl (ix2 k (y 1)))
      (fun k => (he _).sub_self) (fun k => hl _)
  · refine congrArg b ?_
    funext a
    match a with
    | ⟨0, _⟩ => rfl
    | ⟨1, _⟩ => rfl

/-- The projection's block. -/
theorem pay4_apply (YB : Cn Ideal S800x256 .f32) (w : Cn Ideal S4096x256 .f32) (b : Cn Ideal S1x4096 .f32) (y : S800x4096.Idx) :
    k1_pay4 YB w b y = (∑ k : Fin 256, (YB (ix2 (y 0) k) : EReal) * w (ix2 (y 1) k)) + b (ix2 0 (y 1)) := by
  unfold k1_pay4
  simp only [shapeCast_self]
  refine congrArg₂ (fun a b : EReal => a + b) (mmV _ _ y) (congrArg b ?_)
  funext a
  match a with
  | ⟨0, _⟩ => rfl
  | ⟨1, _⟩ => rfl

/-- A block of one layer as a matrix. -/
theorem lay_apply (X : Cn Ideal S1x16x256 .f32) (y : S16x256.Idx) : shapeCast S16x256 X shapeCasts_S1x16x256_S16x256 y = X (ixL (y 0) (y 1)) := by
  refine shapeCast_apply X _ y (ixL (y 0) (y 1)) ?_
  rw [Shape.rowMajor_val_three, Shape.rowMajor_val_two]
  show (0 * 16 + (y 0).val) * 256 + (y 1).val = (y 0).val * 256 + (y 1).val
  omega

theorem unlay_apply (X : Cn Ideal S16x256 .f32) (r : Fin 16) (j : Fin 256) : shapeCast S1x16x256 X shapeCasts_S16x256_S1x16x256 (ixL r j) = X (ix2 r j) := by
  refine shapeCast_apply X _ (ixL r j) (ix2 r j) ?_
  rw [Shape.rowMajor_val_three, Shape.rowMajor_val_two]
  show r.val * 256 + j.val = (0 * 16 + r.val) * 256 + j.val
  omega

/-! ## The kernel's inputs as the recurrence's -/

/-- The kernel's buffers hold the recurrence's inputs: the weights' high parts the weights, their low parts zero, the
    two biases already added. -/
structure Rel (I : Ins Ideal) (N : Inp) : Prop where
  e : ∀ (n : ℕ) (hn : n < 50) (r : Fin 16) (k : Fin 64), I.e (ix2 ⟨16 * n + r.val, by omega⟩ k) = N.x n r k
  ih0h : ∀ k j, I.ih0h (ix2 k j) = N.Wi0 j k
  ih0l : ∀ y, I.ih0l y = (0 : EReal)
  hh0h : ∀ k j, I.hh0h (ix2 k j) = N.Wh0 j k
  hh0l : ∀ y, I.hh0l y = (0 : EReal)
  b0 : ∀ j, I.b0 (ix2 0 j) = N.bi0 j + N.bh0 j
  ih1h : ∀ k j, I.ih1h (ix2 k j) = N.Wi1 j k
  ih1l : ∀ y, I.ih1l y = (0 : EReal)
  hh1h : ∀ k j, I.hh1h (ix2 k j) = N.Wh1 j k
  hh1l : ∀ y, I.hh1l y = (0 : EReal)
  b1 : ∀ j, I.b1 (ix2 0 j) = N.bi1 j + N.bh1 j
  h0 : ∀ r j, I.h0 (ix3 0 r j) = N.h0 (ix2 r j)
  h1 : ∀ r j, I.h0 (ix3 1 r j) = N.h1 (ix2 r j)
  c0 : ∀ r j, I.c0 (ix3 0 r j) = N.c0 (ix2 r j)
  c1 : ∀ r j, I.c0 (ix3 1 r j) = N.c1 (ix2 r j)

section Rel

variable {I : Ins Ideal} {N : Inp} (H : Rel I N) (hN : N.Finite)
include H hN

/-- The row of step `n`: all of them but the step's own number and row. -/
theorem row_split (y : S800x64.Idx) : FinE (I.e y) := by
  have hy : (y 0).val < 800 := (y 0).isLt
  have := H.e ((y 0).val / 16) (by omega) ⟨(y 0).val % 16, Nat.mod_lt _ (by decide)⟩ (y 1)
  have e : (ix2 ⟨16 * ((y 0).val / 16) + (y 0).val % 16, by omega⟩ (y 1) : S800x64.Idx) = y := by
    funext a
    match a with
    | ⟨0, _⟩ => apply Fin.ext; show 16 * ((y 0).val / 16) + (y 0).val % 16 = (y 0).val; omega
    | ⟨1, _⟩ => rfl
  have h2 : I.e y = N.x ((y 0).val / 16) ⟨(y 0).val % 16, Nat.mod_lt _ (by decide)⟩ (y 1) := (congrArg I.e e.symm).trans this
  rw [h2]
  exact hN.x _ _ _

theorem s0_eq : I.s0 = N.st0 0 := by
  refine Prod.ext (funext fun y => ?_) (funext fun y => ?_)
  · refine (lay_apply (lay0 I.h0) y).trans ?_
    refine Eq.trans (congrArg I.h0 ?_) ((H.h0 (y 0) (y 1)).trans (congrArg N.h0 (eq_ix2 y).symm))
    funext a
    match a with
    | ⟨0, _⟩ => rfl
    | ⟨1, _⟩ => apply Fin.ext; show 0 + 1 * (y 0).val = (y 0).val; omega
    | ⟨2, _⟩ => apply Fin.ext; show 0 + 1 * (y 1).val = (y 1).val; omega
  · refine (lay_apply (lay0 I.c0) y).trans ?_
    refine Eq.trans (congrArg I.c0 ?_) ((H.c0 (y 0) (y 1)).trans (congrArg N.c0 (eq_ix2 y).symm))
    funext a
    match a with
    | ⟨0, _⟩ => rfl
    | ⟨1, _⟩ => apply Fin.ext; show 0 + 1 * (y 0).val = (y 0).val; omega
    | ⟨2, _⟩ => apply Fin.ext; show 0 + 1 * (y 1).val = (y 1).val; omega

theorem s1_eq : I.s1 = N.st1 0 := by
  refine Prod.ext (funext fun y => ?_) (funext fun y => ?_)
  · refine (lay_apply (lay1 I.h0) y).trans ?_
    refine Eq.trans (congrArg I.h0 ?_) ((H.h1 (y 0) (y 1)).trans (congrArg N.h1 (eq_ix2 y).symm))
    funext a
    match a with
    | ⟨0, _⟩ => rfl
    | ⟨1, _⟩ => apply Fin.ext; show 0 + 1 * (y 0).val = (y 0).val; omega
    | ⟨2, _⟩ => apply Fin.ext; show 0 + 1 * (y 1).val = (y 1).val; omega
  · refine (lay_apply (lay1 I.c0) y).trans ?_
    refine Eq.trans (congrArg I.c0 ?_) ((H.c1 (y 0) (y 1)).trans (congrArg N.c1 (eq_ix2 y).symm))
    funext a
    match a with
    | ⟨0, _⟩ => rfl
    | ⟨1, _⟩ => apply Fin.ext; show 0 + 1 * (y 0).val = (y 0).val; omega
    | ⟨2, _⟩ => apply Fin.ext; show 0 + 1 * (y 1).val = (y 1).val; omega

/-- Layer 0's gates' input at step `n`. -/
theorem row0 (n : ℕ) (hn : n < 50) (y : S16x1024.Idx) :
    rowOf n I.g0 y = (∑ k : Fin 64, N.x n (y 0) k * N.Wi0 (y 1) k) + (N.bi0 (y 1) + N.bh0 (y 1)) := by
  have hy : (y 0).val < 16 := (y 0).isLt
  refine (pay7_apply I.e I.ih0h I.ih0l I.b0 (row_split H hN) H.ih0l _).trans ?_
  refine congrArg₂ (fun a b : EReal => a + b) (Finset.sum_congr rfl fun k _ => ?_) (H.b0 (y 1))
  refine congrArg₂ (fun a b : EReal => a * b) (Eq.trans (congrArg I.e ?_) (H.e n hn (y 0) k)) (H.ih0h k (y 1))
  funext a
  match a with
  | ⟨0, _⟩ => apply Fin.ext; show (16 * n + (y 0).val) % 800 = 16 * n + (y 0).val; omega
  | ⟨1, _⟩ => rfl

theorem st0_eq : ∀ n, n ≤ 50 → stAt I.hh0h I.hh0l I.g0 I.s0 n = N.st0 n
  | 0, _ => s0_eq H hN
  | n + 1, hn => by
    have hn' : n < 50 := hn
    show cellStep _ _ _ n (stAt I.hh0h I.hh0l I.g0 I.s0 n) = _
    rw [st0_eq n (Nat.le_of_succ_le hn)]
    refine cellStep_eq _ _ _ _ _ (N.gt0 n) (funext fun y => ?_)
    refine (pay8_apply _ _ _ _ (Inp.fin_st0 hN n) H.hh0l y).trans ?_
    rw [row0 H hN n hn' y, Finset.sum_congr rfl fun k _ => congrArg (fun w : EReal => (N.st0 n).1 (ix2 (y 0) k) * w) (H.hh0h k (y 1))]
    rw [add_right_comm, ← add_assoc]
    rfl

/-- What step `n` of layer 0 stores. -/
theorem out0_eq (n : ℕ) (hn : n < 50) : outAt I.hh0h I.hh0l I.g0 I.s0 n = (N.st0 (n + 1)).1 := by
  rw [← st0_eq H hN (n + 1) hn]
  unfold outAt k1_pay11
  exact shapeCast_self _ _

theorem y0_apply (n : ℕ) (hn : n < 50) (r : Fin 16) (k : Fin 256) : I.y0 (ix2 ⟨16 * n + r.val, by omega⟩ k) = N.mid n r k := by
  have e : (16 * n + r.val) / 16 = n := by omega
  have e' : (16 * n + r.val) % 16 = r.val := by omega
  show outAt I.hh0h I.hh0l I.g0 I.s0 ((16 * n + r.val) / 16) _ = _
  rw [e, out0_eq H hN n hn]
  refine congrArg (N.st0 (n + 1)).1 ?_
  funext a
  match a with
  | ⟨0, _⟩ => exact Fin.ext e'
  | ⟨1, _⟩ => rfl

theorem fin_y0 (y : S800x256.Idx) : FinE (I.y0 y) := by
  have hy : (y 0).val < 800 := (y 0).isLt
  have := y0_apply H hN ((y 0).val / 16) (by omega) ⟨(y 0).val % 16, Nat.mod_lt _ (by decide)⟩ (y 1)
  have e : (ix2 ⟨16 * ((y 0).val / 16) + (y 0).val % 16, by omega⟩ (y 1) : S800x256.Idx) = y := by
    funext a
    match a with
    | ⟨0, _⟩ => apply Fin.ext; show 16 * ((y 0).val / 16) + (y 0).val % 16 = (y 0).val; omega
    | ⟨1, _⟩ => rfl
  rw [(congrArg I.y0 e.symm).trans this]
  exact Inp.fin_mid hN _ _ _

/-- Layer 1's gates' input at step `n`. -/
theorem row1 (n : ℕ) (hn : n < 50) (y : S16x1024.Idx) :
    rowOf n I.g1 y = (∑ k : Fin 256, N.mid n (y 0) k * N.Wi1 (y 1) k) + (N.bi1 (y 1) + N.bh1 (y 1)) := by
  have hy : (y 0).val < 16 := (y 0).isLt
  refine (pay16_apply I.y0 I.ih1h I.ih1l I.b1 (fin_y0 H hN) H.ih1l _).trans ?_
  refine congrArg₂ (fun a b : EReal => a + b) (Finset.sum_congr rfl fun k _ => ?_) (H.b1 (y 1))
  refine congrArg₂ (fun a b : EReal => a * b) (Eq.trans (congrArg I.y0 ?_) (y0_apply H hN n hn (y 0) k)) (H.ih1h k (y 1))
  funext a
  match a with
  | ⟨0, _⟩ => apply Fin.ext; show (16 * n + (y 0).val) % 800 = 16 * n + (y 0).val; omega
  | ⟨1, _⟩ => rfl

theorem st1_eq : ∀ n, n ≤ 50 → stAt I.hh1h I.hh1l I.g1 I.s1 n = N.st1 n
  | 0, _ => s1_eq H hN
  | n + 1, hn => by
    have hn' : n < 50 := hn
    show cellStep _ _ _ n (stAt I.hh1h I.hh1l I.g1 I.s1 n) = _
    rw [st1_eq n (Nat.le_of_succ_le hn)]
    refine cellStep_eq _ _ _ _ _ (N.gt1 n) (funext fun y => ?_)
    refine (pay8_apply _ _ _ _ (Inp.fin_st1 hN n) H.hh1l y).trans ?_
    rw [row1 H hN n hn' y, Finset.sum_congr rfl fun k _ => congrArg (fun w : EReal => (N.st1 n).1 (ix2 (y 0) k) * w) (H.hh1h k (y 1))]
    rw [add_right_comm, ← add_assoc]
    rfl

theorem out1_eq (n : ℕ) (hn : n < 50) : outAt I.hh1h I.hh1l I.g1 I.s1 n = (N.st1 (n + 1)).1 := by
  rw [← st1_eq H hN (n + 1) hn]
  unfold outAt k1_pay11
  exact shapeCast_self _ _

/-- The projection's rows: batch row `p / 50` at step `p % 50`. -/
theorem yb_apply (p : Fin 800) (j : Fin 256) : I.yb (ix2 p j) = (N.st1 (p.val % 50 + 1)).1 (ix2 ⟨p.val / 50, by omega⟩ j) := by
  have hy : p.val < 800 := p.isLt
  have hd : p.val / 50 < 16 := by omega
  have hm : p.val % 50 < 50 := Nat.mod_lt _ (by decide)
  show k1_pay3 I.y1 (ix2 p j) = _
  unfold k1_pay3
  rw [shapeCast_self]
  refine (shapeCast_apply _ _ (ix2 p j) (ix3 ⟨p.val / 50, hd⟩ ⟨p.val % 50, hm⟩ j) ?_).trans ?_
  · rw [Shape.rowMajor_val_three, Shape.rowMajor_val_two]
    show (p.val / 50 * 50 + p.val % 50) * 256 + j.val = p.val * 256 + j.val
    omega
  refine (transpose_apply _ _ _ _ (ix3 ⟨p.val % 50, hm⟩ ⟨p.val / 50, hd⟩ j) ?_).trans ?_
  · intro a
    match a with
    | ⟨0, _⟩ => rfl
    | ⟨1, _⟩ => rfl
    | ⟨2, _⟩ => rfl
  refine (shapeCast_apply _ _ _ (ix2 ⟨p.val % 50 * 16 + p.val / 50, by omega⟩ j) ?_).trans ?_
  · rw [Shape.rowMajor_val_three, Shape.rowMajor_val_two]
    rfl
  have e : (p.val % 50 * 16 + p.val / 50) / 16 = p.val % 50 := by omega
  have e' : (p.val % 50 * 16 + p.val / 50) % 16 = p.val / 50 := by omega
  show outAt I.hh1h I.hh1l I.g1 I.s1 ((p.val % 50 * 16 + p.val / 50) / 16) _ = _
  rw [e, out1_eq H hN _ hm]
  refine congrArg (N.st1 (p.val % 50 + 1)).1 ?_
  funext a
  match a with
  | ⟨0, _⟩ => exact Fin.ext e'
  | ⟨1, _⟩ => rfl

/-- The final hidden states of the two layers. -/
theorem hn_apply (y : S2x16x256.Idx) : I.hn y = if (y 0).val = 0 then (N.st0 50).1 (ix2 (y 1) (y 2)) else (N.st1 50).1 (ix2 (y 1) (y 2)) := by
  show (if (y 0).val = 0 then k1_pay12 (F := Ideal) I.f0.1 (ixL (y 1) (y 2)) else k1_pay1 (F := Ideal) I.f1.1 (ixL (y 1) (y 2))) = _
  have e0 : k1_pay12 (F := Ideal) I.f0.1 (ixL (y 1) (y 2)) = (N.st0 50).1 (ix2 (y 1) (y 2)) := (unlay_apply I.f0.1 (y 1) (y 2)).trans (by show (stAt I.hh0h I.hh0l I.g0 I.s0 50).1 _ = _; rw [st0_eq H hN 50 le_rfl])
  have e1 : k1_pay1 (F := Ideal) I.f1.1 (ixL (y 1) (y 2)) = (N.st1 50).1 (ix2 (y 1) (y 2)) := (unlay_apply I.f1.1 (y 1) (y 2)).trans (by show (stAt I.hh1h I.hh1l I.g1 I.s1 50).1 _ = _; rw [st1_eq H hN 50 le_rfl])
  rw [e0, e1]

theorem cn_apply (y : S2x16x256.Idx) : I.cn y = if (y 0).val = 0 then (N.st0 50).2 (ix2 (y 1) (y 2)) else (N.st1 50).2 (ix2 (y 1) (y 2)) := by
  show (if (y 0).val = 0 then k1_pay13 (F := Ideal) I.f0.2 (ixL (y 1) (y 2)) else k1_pay2 (F := Ideal) I.f1.2 (ixL (y 1) (y 2))) = _
  have e0 : k1_pay13 (F := Ideal) I.f0.2 (ixL (y 1) (y 2)) = (N.st0 50).2 (ix2 (y 1) (y 2)) := (unlay_apply I.f0.2 (y 1) (y 2)).trans (by show (stAt I.hh0h I.hh0l I.g0 I.s0 50).2 _ = _; rw [st0_eq H hN 50 le_rfl])
  have e1 : k1_pay2 (F := Ideal) I.f1.2 (ixL (y 1) (y 2)) = (N.st1 50).2 (ix2 (y 1) (y 2)) := (unlay_apply I.f1.2 (y 1) (y 2)).trans (by show (stAt I.hh1h I.hh1l I.g1 I.s1 50).2 _ = _; rw [st1_eq H hN 50 le_rfl])
  rw [e0, e1]

end Rel

end Cert.Proof.Net

end
-- ==== Proof.KRead.lean ====
/-
  The kernel's arrays, as its TensorCore call reads them, are the two layers' input.
-/
module

public import proofs.«01_k».proof.Proof.KVal
public import proofs.«01_k».proof.Proof.Frames

@[expose] public section

set_option maxRecDepth 16384

noncomputable section

namespace Cert.Proof.Net

open Cert.KernelIdeal Cert.KernelIdeal.Gen Cert.Proof.Run
open Idealize.ShloMosaic Idealize.ShloMosaic.TcCoe Idealize.ShloMosaic.ValueIdx
open Idealize.ShloMosaic.StableHlo (after)
open scoped BigOperators

/-! ## Finite values -/

theorem finE_of {x : Ideal .f32} (h : FloatOps.cmpf .olt (FloatOps.hostAbsf x) (FloatOps.ofBits .f32 0x7F800000#32 : Ideal .f32) = 1#1) : FinE x := by
  have htop : Ideal.ofBits .f32 0x7F800000#32 = ⊤ := by simp [Ideal.ofBits, Ideal.ieee]
  have e : Ideal.cmp .olt (max (x : EReal) (-(x : EReal))) ⊤ = 1#1 := by rw [← htop]; exact h
  have hlt : max (x : EReal) (-(x : EReal)) < ⊤ := by
    by_contra hn
    unfold Ideal.cmp at e
    simp [hn] at e
  obtain ⟨h1, h2⟩ := max_lt_iff.1 hlt
  exact ⟨h1.ne, fun hb => h2.ne (by rw [hb]; rfl)⟩

variable (m : (ℓ : Loc nD τ sig) → Buf (Elt Ideal) ℓ) (hr : ∀ d, InRange (fiA m d)) (d : Dev nD)

/-- An argument's contents. -/
abbrev karg (r : Ref sig .tc) : Buf (Elt Ideal) (d, rf r) := m (d, rf r)

theorem VC_arg (r : Ref sig .tc) (hA : r ∉ WA) (h4 : r ≠ main_v4) : VC m hr d (rf r) = karg m d r := by
  rw [VC_ne m hr d (b := rf r) fun e => h4 (Proc.devRef_injective _ e)]
  exact VA_arg m d r hA

/-- A weight's transpose in the narrow type, and what that leaves of it. -/
def hi64 (x : FVec Ideal S1024x64 .f32) : FVec Ideal S64x1024 .bf16 := truncf .bf16 (transpose S64x1024 [1, 0] x transposes_S1024x64_S64x1024_1_0) bitsLt_bf16_f32
def lo64 (x : FVec Ideal S1024x64 .f32) : FVec Ideal S64x1024 .bf16 := truncf .bf16 (subf (transpose S64x1024 [1, 0] x transposes_S1024x64_S64x1024_1_0) (extf .f32 (hi64 x) bitsLt_bf16_f32)) bitsLt_bf16_f32
def hi256 (x : FVec Ideal S1024x256 .f32) : FVec Ideal S256x1024 .bf16 := truncf .bf16 (transpose S256x1024 [1, 0] x transposes_S1024x256_S256x1024_1_0) bitsLt_bf16_f32
def lo256 (x : FVec Ideal S1024x256 .f32) : FVec Ideal S256x1024 .bf16 := truncf .bf16 (subf (transpose S256x1024 [1, 0] x transposes_S1024x256_S256x1024_1_0) (extf .f32 (hi256 x) bitsLt_bf16_f32)) bitsLt_bf16_f32
/-- The biases' sum as a row. -/
def biasRow (a b : FVec Ideal S1024 .f32) : FVec Ideal S1x1024 .f32 := shapeCast S1x1024 (addf a b) shapeCasts_S1024_S1x1024
/-- The projection's bias as a row. -/
def fcRow (a : FVec Ideal S100000 .f32) : FVec Ideal S1x100000 .f32 := shapeCast S1x100000 a shapeCasts_S100000_S1x100000

theorem VB_v10 : VB m hr d (rf main_v10) = hi64 (VC m hr d (rf main_arg4)) := by
  unfold VB opsB
  after_results_entrywise []
theorem VB_v13 : VB m hr d (rf main_v13) = lo64 (VC m hr d (rf main_arg4)) := by
  unfold VB opsB
  after_results_entrywise []
theorem VB_v15 : VB m hr d (rf main_v15) = hi256 (VC m hr d (rf main_arg5)) := by
  unfold VB opsB
  after_results_entrywise []
theorem VB_v18 : VB m hr d (rf main_v18) = lo256 (VC m hr d (rf main_arg5)) := by
  unfold VB opsB
  after_results_entrywise []
theorem VB_v20 : VB m hr d (rf main_v20) = hi256 (VC m hr d (rf main_arg8)) := by
  unfold VB opsB
  after_results_entrywise []
theorem VB_v23 : VB m hr d (rf main_v23) = lo256 (VC m hr d (rf main_arg8)) := by
  unfold VB opsB
  after_results_entrywise []
theorem VB_v25 : VB m hr d (rf main_v25) = hi256 (VC m hr d (rf main_arg9)) := by
  unfold VB opsB
  after_results_entrywise []
theorem VB_v28 : VB m hr d (rf main_v28) = lo256 (VC m hr d (rf main_arg9)) := by
  unfold VB opsB
  after_results_entrywise []
theorem VB_v6 : VB m hr d (rf main_v6) = biasRow (VC m hr d (rf main_arg6)) (VC m hr d (rf main_arg7)) := by
  unfold VB opsB
  after_results_entrywise []
theorem VB_v8 : VB m hr d (rf main_v8) = biasRow (VC m hr d (rf main_arg10)) (VC m hr d (rf main_arg11)) := by
  unfold VB opsB
  after_results_entrywise []
theorem VB_v29 : VB m hr d (rf main_v29) = fcRow (VC m hr d (rf main_arg13)) := by
  unfold VB opsB
  after_results_entrywise []
theorem VB_v4 : VB m hr d (rf main_v4) = gath (fiA m d) (tabA m d) (hr d) := by
  rw [← VC_v4 m hr d]
  exact StableHlo.after_of_writes_sub _ _ writesB (by decide)

/-- The kernel's arguments as the two layers' input. -/
def kInp : Inp :=
  mkInp (karg m d main_arg0) (karg m d main_arg1) (karg m d main_arg2) (karg m d main_arg3) (karg m d main_arg4) (karg m d main_arg5)
    (karg m d main_arg6) (karg m d main_arg7) (karg m d main_arg8) (karg m d main_arg9) (karg m d main_arg10) (karg m d main_arg11)

variable (hok : TokOk (karg m d main_arg0)) (h1 : Fin' (F := Ideal) (s := S2x16x256) (karg m d main_arg1)) (h3 : Fin' (F := Ideal) (s := S100000x64) (karg m d main_arg3))
  (h4 : Fin' (F := Ideal) (s := S1024x64) (karg m d main_arg4)) (h5 : Fin' (F := Ideal) (s := S1024x256) (karg m d main_arg5))
  (h8 : Fin' (F := Ideal) (s := S1024x256) (karg m d main_arg8)) (h9 : Fin' (F := Ideal) (s := S1024x256) (karg m d main_arg9))

include h1 h3 h4 h5 h8 h9 in
theorem kInp_finite : (kInp m d).Finite where
  x _ _ _ := finE_of (h3 _)
  Wi0 _ _ := finE_of (h4 _)
  Wh0 _ _ := finE_of (h5 _)
  Wi1 _ _ := finE_of (h8 _)
  Wh1 _ _ := finE_of (h9 _)
  h0 _ := finE_of (h1 _)
  h1 _ := finE_of (h1 _)

/-- The bias row: the two biases' sum. -/
theorem bias_row (a b : FVec Ideal S1024 .f32) (j : Fin 1024) : biasRow a b (ix2 (0 : Fin 1) j) = (a (ix1 j) + b (ix1 j) : EReal) := by
  refine (shapeCast_apply _ _ _ (ix1 j) ?_).trans rfl
  rw [Shape.rowMajor_val_two, Shape.rowMajor_val_one]
  show j.val = 0 * 1024 + j.val
  omega

set_option maxHeartbeats 1000000 in
include hok h4 h5 h8 h9 in
theorem kRel : Rel (insOf (valOf (VB m hr)) d) (kInp m d) where
  e n hn r k := by
    show (VB m hr d (rf main_v4) : S800x64.Idx → EReal) (ix2 ⟨16 * n + r.val, _⟩ k) = _
    rw [VB_v4]
    show tabA m d (ixTab _ _ k) = (karg m d main_arg3 : S100000x64.Idx → EReal) (ix2 (tokRow ((karg m d main_arg0 : S16x50.Idx → BitVec 32) (ix2 r (⟨n % 50, _⟩ : Fin 50)))) k)
    rw [show tabA m d = karg m d main_arg3 from VA_arg m d main_arg3 (by decide)]
    refine congrArg (karg m d main_arg3 : S100000x64.Idx → EReal) (funext fun a => ?_)
    have hfi := fiA_at m d (16 * n + r.val) (by omega)
    have ei : (ix2 (⟨(16 * n + r.val) % 16, by omega⟩ : Fin 16) (⟨(16 * n + r.val) / 16, by omega⟩ : Fin 50) : S16x50.Idx) = ix2 r (⟨n % 50, Nat.mod_lt _ (by omega)⟩ : Fin 50) := by
      have e0 : (⟨(16 * n + r.val) % 16, by omega⟩ : Fin 16) = r := Fin.ext (by show (16 * n + r.val) % 16 = r.val; omega)
      have e1 : (⟨(16 * n + r.val) / 16, by omega⟩ : Fin 50) = ⟨n % 50, Nat.mod_lt _ (by omega)⟩ := Fin.ext (by show (16 * n + r.val) / 16 = n % 50; omega)
      rw [e0, e1]
    match a with
    | ⟨0, _⟩ =>
      refine Fin.ext ?_
      refine (congrArg BitVec.toNat (hfi.trans (congrArg (karg m d main_arg0 : S16x50.Idx → BitVec 32) ei))).trans ?_
      exact (tokRow_val (hok _)).symm
    | ⟨1, _⟩ => rfl
  ih0h k j := by
    show (VB m hr d (rf main_v10) : FVec Ideal S64x1024 .bf16) (ix2 k j) = _
    rw [VB_v10, VC_arg m hr d main_arg4 (by decide) (by decide)]
    exact transpose_ix2_apply _ _ _ _
  hh0h k j := by
    show (VB m hr d (rf main_v15) : FVec Ideal S256x1024 .bf16) (ix2 k j) = _
    rw [VB_v15, VC_arg m hr d main_arg5 (by decide) (by decide)]
    exact transpose_ix2_apply _ _ _ _
  ih1h k j := by
    show (VB m hr d (rf main_v20) : FVec Ideal S256x1024 .bf16) (ix2 k j) = _
    rw [VB_v20, VC_arg m hr d main_arg8 (by decide) (by decide)]
    exact transpose_ix2_apply _ _ _ _
  hh1h k j := by
    show (VB m hr d (rf main_v25) : FVec Ideal S256x1024 .bf16) (ix2 k j) = _
    rw [VB_v25, VC_arg m hr d main_arg9 (by decide) (by decide)]
    exact transpose_ix2_apply _ _ _ _
  ih0l y := by
    show (VB m hr d (rf main_v13) : FVec Ideal S64x1024 .bf16) y = _
    rw [VB_v13, VC_arg m hr d main_arg4 (by decide) (by decide)]
    exact (finE_of (h4 _)).sub_self
  hh0l y := by
    show (VB m hr d (rf main_v18) : FVec Ideal S256x1024 .bf16) y = _
    rw [VB_v18, VC_arg m hr d main_arg5 (by decide) (by decide)]
    exact (finE_of (h5 _)).sub_self
  ih1l y := by
    show (VB m hr d (rf main_v23) : FVec Ideal S256x1024 .bf16) y = _
    rw [VB_v23, VC_arg m hr d main_arg8 (by decide) (by decide)]
    exact (finE_of (h8 _)).sub_self
  hh1l y := by
    show (VB m hr d (rf main_v28) : FVec Ideal S256x1024 .bf16) y = _
    rw [VB_v28, VC_arg m hr d main_arg9 (by decide) (by decide)]
    exact (finE_of (h9 _)).sub_self
  b0 j := by
    show (VB m hr d (rf main_v6) : FVec Ideal S1x1024 .f32) (ix2 0 j) = _
    rw [VB_v6, VC_arg m hr d main_arg6 (by decide) (by decide), VC_arg m hr d main_arg7 (by decide) (by decide)]
    exact bias_row _ _ j
  b1 j := by
    show (VB m hr d (rf main_v8) : FVec Ideal S1x1024 .f32) (ix2 0 j) = _
    rw [VB_v8, VC_arg m hr d main_arg10 (by decide) (by decide), VC_arg m hr d main_arg11 (by decide) (by decide)]
    exact bias_row _ _ j
  h0 r j := by
    show (VB m hr d (rf main_arg1) : S2x16x256.Idx → EReal) (ix3 0 r j) = _
    rw [VB_arg m hr d main_arg1 (by decide) (by decide) (by decide)]
    rfl
  h1 r j := by
    show (VB m hr d (rf main_arg1) : S2x16x256.Idx → EReal) (ix3 1 r j) = _
    rw [VB_arg m hr d main_arg1 (by decide) (by decide) (by decide)]
    rfl
  c0 r j := by
    show (VB m hr d (rf main_arg2) : S2x16x256.Idx → EReal) (ix3 0 r j) = _
    rw [VB_arg m hr d main_arg2 (by decide) (by decide) (by decide)]
    rfl
  c1 r j := by
    show (VB m hr d (rf main_arg2) : S2x16x256.Idx → EReal) (ix3 1 r j) = _
    rw [VB_arg m hr d main_arg2 (by decide) (by decide) (by decide)]
    rfl

end Cert.Proof.Net

end
-- ==== Proof.KOut.lean ====
/-
  The kernel's three results, read off the TensorCore call's written-back blocks.
-/
module

public import proofs.«01_k».proof.Proof.KRead
public import Idealize.ShloMosaic.Lib.Pipeline.ArrRel
public import Idealize.ShloMosaic.Lib.Pipeline.ValueKit.Geometry

@[expose] public section

set_option maxRecDepth 16384

noncomputable section

namespace Cert.Proof.Net

open Cert.KernelIdeal Cert.KernelIdeal.Gen Cert.Proof.Run
open Idealize.ShloMosaic Idealize.ShloMosaic.TcCoe Idealize.ShloMosaic.ValueIdx
open Idealize.ShloMosaic.Pipeline (RDat)
open scoped BigOperators

/-! ## The staged blocks of the projection -/

theorem full13 : ∀ (t : Fin grid1.N) a, win1_13.xsize (grid1.coords t) a = win1_13.size a ∨ win1_13.shape.size a ≤ win1_13.index t a * win1_13.size a + win1_13.xsize (grid1.coords t) a := by
  decide +kernel
theorem full14 : ∀ (t : Fin grid1.N) a, win1_14.xsize (grid1.coords t) a = win1_14.size a ∨ win1_14.shape.size a ≤ win1_14.index t a * win1_14.size a + win1_14.xsize (grid1.coords t) a := by
  decide +kernel
theorem index13 : ∀ t : Fin grid1.N, win1_13.index t 0 = t.val ∧ win1_13.index t 1 = 0 := by decide +kernel
theorem index14 : ∀ t : Fin grid1.N, win1_14.index t 0 = 0 ∧ win1_14.index t 1 = t.val := by decide +kernel
theorem index15 : ∀ t : Fin grid1.N, win1_15.index t 0 = 0 ∧ win1_15.index t 1 = t.val := by decide +kernel
theorem covers15 : win1_15.Covers := by decide +kernel

variable (V : Val1 Ideal) (c : Dev nD)

theorem fwAt_apply (t : Fin cfg1.N) (d : Cn Ideal S4096x256 .f32) (q : Fin 4096) (k : Fin 256) (h : t.val * 4096 + q.val < 100000) :
    fwAt V c t d (ix2 q k) = (V c main_arg12 : S100000x256.Idx → EReal) (ix2 ⟨t.val * 4096 + q.val, h⟩ k) := by
  have hx : ∀ a, ((ix2 q k : S4096x256.Idx) a).val < win1_13.xsize (grid1.coords t) a := by
    intro a
    match a with
    | ⟨0, _⟩ =>
      rcases full13 t 0 with e | e
      · exact lt_of_lt_of_eq q.isLt e.symm
      · rw [(index13 t).1] at e
        have e' : 100000 ≤ t.val * 4096 + win1_13.xsize (grid1.coords t) 0 := e
        show q.val < win1_13.xsize (grid1.coords t) 0
        omega
    | ⟨1, _⟩ =>
      rcases full13 t 1 with e | e
      · exact lt_of_lt_of_eq k.isLt e.symm
      · rw [(index13 t).2] at e
        have e' : 256 ≤ 0 * 256 + win1_13.xsize (grid1.coords t) 1 := e
        have := k.isLt
        show k.val < win1_13.xsize (grid1.coords t) 1
        omega
  have hm : (cfg1.win 13).moved (grid1.coords t) (ix2 q k) = true := ((cfg1.win 13).moved_iff _ _).mpr hx
  unfold fwAt Pipeline.Window.fill
  rw [dif_pos hm]
  refine congrArg (V c main_arg12 : S100000x256.Idx → EReal) (funext fun a => Fin.ext ?_)
  match a with
  | ⟨0, _⟩ => exact (Pipeline.Window.rect_emb_val win1_13 t _ 0).trans (by rw [(index13 t).1]; rfl)
  | ⟨1, _⟩ => exact (Pipeline.Window.rect_emb_val win1_13 t _ 1).trans (by rw [(index13 t).2]; show 0 * 256 + k.val = k.val; omega)

theorem fbAt_apply (t : Fin cfg1.N) (d : Cn Ideal S1x4096 .f32) (q : Fin 4096) (h : t.val * 4096 + q.val < 100000) :
    fbAt V c t d (ix2 (0 : Fin 1) q) = (V c main_v29 : S1x100000.Idx → EReal) (ix2 (0 : Fin 1) ⟨t.val * 4096 + q.val, h⟩) := by
  have hx : ∀ a, ((ix2 (0 : Fin 1) q : S1x4096.Idx) a).val < win1_14.xsize (grid1.coords t) a := by
    intro a
    match a with
    | ⟨0, _⟩ =>
      rcases full14 t 0 with e | e
      · exact lt_of_lt_of_eq (Nat.zero_lt_one) e.symm
      · rw [(index14 t).1] at e
        have e' : 1 ≤ 0 * 1 + win1_14.xsize (grid1.coords t) 0 := e
        show 0 < win1_14.xsize (grid1.coords t) 0
        omega
    | ⟨1, _⟩ =>
      rcases full14 t 1 with e | e
      · exact lt_of_lt_of_eq q.isLt e.symm
      · rw [(index14 t).2] at e
        have e' : 100000 ≤ t.val * 4096 + win1_14.xsize (grid1.coords t) 1 := e
        show q.val < win1_14.xsize (grid1.coords t) 1
        omega
  have hm : (cfg1.win 14).moved (grid1.coords t) (ix2 (0 : Fin 1) q) = true := ((cfg1.win 14).moved_iff _ _).mpr hx
  unfold fbAt Pipeline.Window.fill
  rw [dif_pos hm]
  refine congrArg (V c main_v29 : S1x100000.Idx → EReal) (funext fun a => Fin.ext ?_)
  match a with
  | ⟨0, _⟩ => exact (Pipeline.Window.rect_emb_val win1_14 t _ 0).trans (by rw [(index14 t).1]; rfl)
  | ⟨1, _⟩ => exact (Pipeline.Window.rect_emb_val win1_14 t _ 1).trans (by rw [(index14 t).2]; rfl)

/-! ## The written-back arrays -/

variable {V c} {N : Inp} (H : Rel (insOf V c) N) (hN : N.Finite) {b : ℕ}
include H hN

/-- The scores: every column is in exactly one point's block, and read only where the block lies in the array. -/
theorem arr15 {G : S800x100000.Idx → EReal} {W : S100000x256.Idx → EReal} {B : S100000.Idx → EReal} (hG : (rd1 V b c).ArrAt 15 cfg1.N G)
    (hW : (V c main_arg12 : S100000x256.Idx → EReal) = W) (hB : ∀ v, (V c main_v29 : S1x100000.Idx → EReal) (ix2 (0 : Fin 1) v) = B (ix1 v)) :
    G = fun y => scores N W B (y 0) (y 1) := by
  obtain ⟨X, hX, hA⟩ := hG.exists_exact
  refine (hA (Function.update (fun _ _ _ => Classical.arbitrary _) 15 X) fun u _ _ => by rw [Function.update_self]).trans ?_
  refine Pipeline.Dat.arrAt_eq_of_covers _ 15 _ covers15 fun t hf y => ?_
  obtain ⟨_, _, dw, db, e⟩ := hX t t.isLt hf
  have eX : ((rd1 V b c).withAfter (Function.update (fun _ _ _ => Classical.arbitrary _) 15 X)).after 15 t = X t := by
    show Function.update (fun _ _ _ => Classical.arbitrary _) 15 X 15 t = X t
    rw [Function.update_self]
  rw [eX, e]
  have hy1 : (((cfg1.win 15).blk t).view.emb y 1).val = t.val * 4096 + (y 1).val :=
    (Pipeline.Window.rect_emb_val win1_15 t y 1).trans (by rw [(index15 t).2]; rfl)
  have hy0 : (((cfg1.win 15).blk t).view.emb y 0).val = (y 0).val :=
    (Pipeline.Window.rect_emb_val win1_15 t y 0).trans (by rw [(index15 t).1]; show 0 * 800 + (y 0).val = _; omega)
  have hb0 : (y 0).val < 800 := lt_of_eq_of_lt hy0.symm (((cfg1.win 15).blk t).view.emb y 0).isLt
  have hb1 : t.val * 4096 + (y 1).val < 100000 := lt_of_eq_of_lt hy1.symm (((cfg1.win 15).blk t).view.emb y 1).isLt
  have hb2 : (y 1).val < 4096 := lt_of_lt_of_le (y 1).isLt (win1_15.xsize_le (grid1.coords t) 1)
  have ei : ((cfg1.win 15).xinj (cfg1.grid.coords t) y : S800x4096.Idx) = ix2 (⟨(y 0).val, hb0⟩ : Fin 800) (⟨(y 1).val, hb2⟩ : Fin 4096) := by
    funext a
    match a with
    | ⟨0, _⟩ => rfl
    | ⟨1, _⟩ => rfl
  have eo : (((cfg1.win 15).blk t).view.emb y : S800x100000.Idx) = ix2 (⟨(y 0).val, hb0⟩ : Fin 800) (⟨t.val * 4096 + (y 1).val, hb1⟩ : Fin 100000) := by
    funext a
    match a with
    | ⟨0, _⟩ => exact Fin.ext hy0
    | ⟨1, _⟩ => exact Fin.ext hy1
  show (k1_pay4 (F := Ideal) (insOf V c).yb (fwAt V c t dw) (fbAt V c t db) ((cfg1.win 15).xinj (cfg1.grid.coords t) y) : EReal)
    = scores N W B ((((cfg1.win 15).blk t).view.emb y : S800x100000.Idx) 0) ((((cfg1.win 15).blk t).view.emb y : S800x100000.Idx) 1)
  rw [ei, eo, pay4_apply]
  refine congrArg₂ (fun a b : EReal => a + b) (Finset.sum_congr rfl fun k _ => congrArg₂ (fun a b : EReal => a * b) ?_ ?_) ?_
  · exact yb_apply H hN ⟨(y 0).val, hb0⟩ k
  · rw [← hW]; exact fwAt_apply V c t dw ⟨(y 1).val, hb2⟩ k hb1
  · exact (fbAt_apply V c t db ⟨(y 1).val, hb2⟩ hb1).trans (hB _)

/-- The final states are written back whole, once. -/
theorem arr16 {G : S2x16x256.Idx → EReal} (hG : (rd1 V b c).ArrAt 16 cfg1.N G) : G = finalH N := by
  obtain ⟨X, ⟨_, _, e⟩, hX⟩ := hG.emb_eq_of_wholeAt (t₀ := (⟨24, by decide +kernel⟩ : Fin cfg1.N)) (by decide +kernel)
  funext y
  refine (hX y).trans ?_
  rw [e]
  exact hn_apply H hN y
theorem arr17 {G : S2x16x256.Idx → EReal} (hG : (rd1 V b c).ArrAt 17 cfg1.N G) : G = finalC N := by
  obtain ⟨X, ⟨_, _, e⟩, hX⟩ := hG.emb_eq_of_wholeAt (t₀ := (⟨24, by decide +kernel⟩ : Fin cfg1.N)) (by decide +kernel)
  funext y
  refine (hX y).trans ?_
  rw [e]
  exact cn_apply H hN y

omit H hN in
/-- The projection's bias as the call reads it. -/
theorem fcRow_apply (x : FVec Ideal S100000 .f32) (v : Fin 100000) : fcRow x (ix2 (0 : Fin 1) v) = (x (ix1 v) : EReal) := by
  refine shapeCast_apply _ _ _ (ix1 v) ?_
  rw [Shape.rowMajor_val_two, Shape.rowMajor_val_one]
  show v.val = 0 * 100000 + v.val
  omega

omit H hN in
/-- THE KERNEL: at the run's end its three results are the recurrence's scores and final states. -/
theorem kernel_vals (m : (ℓ : Loc nD τ sig) → Buf (Elt Ideal) ℓ) (hr : ∀ d, InRange (fiA m d)) (d : Dev nD)
    (hok : TokOk (karg m d main_arg0)) (h1 : Fin' (F := Ideal) (s := S2x16x256) (karg m d main_arg1)) (h3 : Fin' (F := Ideal) (s := S100000x64) (karg m d main_arg3))
    (h4 : Fin' (F := Ideal) (s := S1024x64) (karg m d main_arg4)) (h5 : Fin' (F := Ideal) (s := S1024x256) (karg m d main_arg5))
    (h8 : Fin' (F := Ideal) (s := S1024x256) (karg m d main_arg8)) (h9 : Fin' (F := Ideal) (s := S1024x256) (karg m d main_arg9))
    {s : MemSt nD τ sig (Elt Ideal)} (h : fq m hr d s) :
    ((s.mem ((d.tc : Thread nD τ).loc main_v30_0) : S800x100000.Idx → EReal) = fun y => scores (kInp m d) (karg m d main_arg12) (karg m d main_arg13) (y 0) (y 1))
      ∧ (s.mem ((d.tc : Thread nD τ).loc main_v30_1) : S2x16x256.Idx → EReal) = finalH (kInp m d)
      ∧ (s.mem ((d.tc : Thread nD τ).loc main_v30_2) : S2x16x256.Idx → EReal) = finalC (kInp m d) := by
  have H := kRel m hr d hok h4 h5 h8 h9
  have hN := kInp_finite m d h1 h3 h4 h5 h8 h9
  refine ⟨?_, ?_, ?_⟩
  · refine arr15 H hN (b := b1) (h.1 15) (VB_arg m hr d main_arg12 (by decide) (by decide) (by decide)) fun v => ?_
    show (VB m hr d (rf main_v29) : FVec Ideal S1x100000 .f32) (ix2 0 v) = _
    rw [VB_v29, VC_arg m hr d main_arg13 (by decide) (by decide)]
    exact fcRow_apply _ v
  · exact arr16 H hN (b := b1) (h.1 16)
  · exact arr17 H hN (b := b1) (h.1 17)

end Cert.Proof.Net

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tokens_ok
public import proofs.«01_k».proof.Proof.Frames
public import proofs.«01_k».proof.Proof.REntry
public import proofs.«01_k».proof.Proof.KOut
public import Idealize.ShloMosaic.Adequacy
public import Idealize.ShloMosaic.Init
public import Idealize.ShloMosaic.Lib.Tactic

@[expose] public section

set_option maxRecDepth 16384

noncomputable section

namespace Cert.Proof

open Idealize.ShloMosaic Idealize.ShloMosaic.TcCoe Idealize.SL.Sem
open Cert.Proof.Run (TokOk inRange_of tokOk_of_tokens inputs_split args_kept run_main rf)

/-! ## The kernel's frames, of one run -/

/-- What the run leaves over any float values: the arguments as they were, every counter zero. -/
theorem run_kept {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (h : ∀ d, TokOk (m (d, rf Cert.KernelIdeal.main_arg0))) :
    θ_run (Cert.KernelIdeal.defs (F := F)) (Cert.KernelIdeal.threads (F := F)) ⟨m, fun _ => 0, ρ⟩ (fun r => (∀ c : Dev Cert.KernelIdeal.nD, Run.Kept m c r.2) ∧ r.2.sem = fun _ => 0) :=
  (θ_run Cert.KernelIdeal.defs _ _).mono (fun _ hq => ⟨fun c => args_kept (hq.1 c), hq.2⟩)
    (run_main m (fun d => inRange_of m d (h d)) ρ)

/-- Under tokens in range the kernel runs, at the bit-exact values, keeps its arguments and ends with zero counters:
    the printed program and the idealized one have the same text, so the one run serves both. -/
theorem frame_kernel : Cert.quiescent_Kernel := by
  intro m ρ h
  refine Eq.mpr ?_ (run_kept (F := Bits) m ρ fun d => tokOk_of_tokens (h d))
  sl_kernel_rfl

theorem frame_ideal : Cert.quiescent_KernelIdeal := fun m ρ h => run_kept (F := Ideal) m ρ fun d => tokOk_of_tokens (h d)

theorem frame_ideal' : Cert.quiescent_KernelIdeal_pre_inputs_ok := fun m ρ h => run_kept (F := Ideal) m ρ fun d => (inputs_split (h d)).1

/-! ## The reference's -/

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference' : Cert.quiescent_ReferenceIdeal_pre_inputs_ok := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-! ## The values -/

/-- Over the extended reals the kernel's three results are the reference's. -/
theorem values : Cert.algebraic_KernelIdeal_ReferenceIdeal_pre_inputs_ok := by
  intro m g m' g' hpre hm
  have hs := fun c => inputs_split (hpre c)
  have hr : ∀ d, Run.InRange (Run.fiA m d) := fun d => inRange_of m d (hs d).1
  refine ⟨fun c y => Net.scores (Net.kInp m c) (Net.karg m c Cert.KernelIdeal.main_arg12) (Net.karg m c Cert.KernelIdeal.main_arg13) (y 0) (y 1),
    fun c => Net.finalH (Net.kInp m c), fun c => Net.finalC (Net.kInp m c), ?_, ?_⟩
  · refine (θ_run Cert.KernelIdeal.defs _ _).mono (fun r hq c => ?_) (run_main m hr g)
    obtain ⟨h0, h1, h3, h4, h5, h8, h9⟩ := hs c
    obtain ⟨e0, e1, e2⟩ := Net.kernel_vals m hr c h0 h1 h3 h4 h5 h8 h9 (hq.1 c)
    exact ⟨e0, e1, e2, args_kept (hq.1 c)⟩
  · refine (θ_run Cert.ReferenceIdeal.defs _ _).mono (fun r hq c => ?_) (Cert.ReferenceIdeal.Value.run (F := Ideal) m' g')
    obtain ⟨a0, a1, a2, a3, a4, a5, a6, a7, a8, a9, a10, a11, a12, a13⟩ := hm c
    have hN : Net.refInp m' c = Net.kInp m c := Net.mkInp_congr a0 a1 a2 a3 a4 a5 a6 a7 a8 a9 a10 a11
    obtain ⟨e0, e1, e2⟩ := Net.ref_vals m' c (fun j => (congrArg (fun f : Cert.KernelIdeal.S16x50.Idx → BitVec 32 => (f j).toNat) a0).trans_lt ((hs c).1 j))
    obtain ⟨q0, q1, q2, q⟩ := hq c
    rw [hN] at e0 e1 e2
    refine ⟨q0.trans (e0.trans ?_), q1.trans e1, q2.trans e2, q⟩
    funext y
    exact congrArg₂ (fun W B => Net.scores (Net.kInp m c) W B (y 0) (y 1)) a12 a13

theorem claim : Cert.Claim := ⟨Cert.Kernel.Gen.facts, Cert.KernelIdeal.Gen.facts, Cert.ReferenceIdeal.Gen.facts, Cert.Pre_tokens_ok.Gen.facts,
  Cert.Proof.Run.inputsFacts, frame_kernel, frame_ideal, frame_ideal', frame_reference, frame_reference', trivial, values⟩

end Cert.Proof

end
